-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v71_1)) (v2 : (c : Dev Cert.KernelIdeal.nD) → Buf (Elt Ideal) ((c.tc : Thread Cert.KernelIdeal.nD Cert.KernelIdeal.τ).loc Cert.KernelIdeal.main_v71_2)) (v3 : (c : Dev Cert.KernelIdeal.nD) → Buf (Elt Ideal) ((c.tc : Thread Cert.KernelIdeal.nD Cert.KernelIdeal.τ).loc Cert.KernelIdeal.main_v71_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v71_1) = v1 c
          ∧ r.2.mem ((c.tc : Thread Cert.KernelIdeal.nD Cert.KernelIdeal.τ).loc Cert.KernelIdeal.main_v71_2) = v2 c
          ∧ r.2.mem ((c.tc : Thread Cert.KernelIdeal.nD Cert.KernelIdeal.τ).loc Cert.KernelIdeal.main_v71_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v147_0)) (v1 : (c : Dev Cert.Kernel2Ideal.nD) → Buf (Elt Ideal) ((c.tc : Thread Cert.Kernel2Ideal.nD Cert.Kernel2Ideal.τ).loc Cert.Kernel2Ideal.main_v147_1)) (v2 : (c : Dev Cert.Kernel2Ideal.nD) → Buf (Elt Ideal) ((c.tc : Thread Cert.Kernel2Ideal.nD Cert.Kernel2Ideal.τ).loc Cert.Kernel2Ideal.main_v147_2)) (v3 : (c : Dev Cert.Kernel2Ideal.nD) → Buf (Elt Ideal) ((c.tc : Thread Cert.Kernel2Ideal.nD Cert.Kernel2Ideal.τ).loc Cert.Kernel2Ideal.main_v147_3)) (v4 : (c : Dev Cert.Kernel2Ideal.nD) → Buf (Elt Ideal) ((c.tc : Thread Cert.Kernel2Ideal.nD Cert.Kernel2Ideal.τ).loc Cert.Kernel2Ideal.main_v147_4)) (v5 : (c : Dev Cert.Kernel2Ideal.nD) → Buf (Elt Ideal) ((c.tc : Thread Cert.Kernel2Ideal.nD Cert.Kernel2Ideal.τ).loc Cert.Kernel2Ideal.main_v147_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v147_0) = v0 c
          ∧ r.2.mem ((c.tc : Thread Cert.Kernel2Ideal.nD Cert.Kernel2Ideal.τ).loc Cert.Kernel2Ideal.main_v147_1) = v1 c
          ∧ r.2.mem ((c.tc : Thread Cert.Kernel2Ideal.nD Cert.Kernel2Ideal.τ).loc Cert.Kernel2Ideal.main_v147_2) = v2 c
          ∧ r.2.mem ((c.tc : Thread Cert.Kernel2Ideal.nD Cert.Kernel2Ideal.τ).loc Cert.Kernel2Ideal.main_v147_3) = v3 c
          ∧ r.2.mem ((c.tc : Thread Cert.Kernel2Ideal.nD Cert.Kernel2Ideal.τ).loc Cert.Kernel2Ideal.main_v147_4) = v4 c
          ∧ r.2.mem ((c.tc : Thread Cert.Kernel2Ideal.nD Cert.Kernel2Ideal.τ).loc Cert.Kernel2Ideal.main_v147_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v69) = v2 c
          ∧ r.2.mem ((c.tc : Thread Cert.Reference2Ideal.nD Cert.Reference2Ideal.τ).loc Cert.Reference2Ideal.main_v82) = v3 c
          ∧ r.2.mem ((c.tc : Thread Cert.Reference2Ideal.nD Cert.Reference2Ideal.τ).loc Cert.Reference2Ideal.main_v63) = v4 c
          ∧ r.2.mem ((c.tc : Thread Cert.Reference2Ideal.nD Cert.Reference2Ideal.τ).loc Cert.Reference2Ideal.main_v76) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v48) = v0 c
          ∧ r.2.mem ((c.tc : Thread Cert.Reference6Ideal.nD Cert.Reference6Ideal.τ).loc Cert.Reference6Ideal.main_v46) = v1 c
          ∧ r.2.mem ((c.tc : Thread Cert.Reference6Ideal.nD Cert.Reference6Ideal.τ).loc Cert.Reference6Ideal.main_v43) = v2 c
          ∧ r.2.mem ((c.tc : Thread Cert.Reference6Ideal.nD Cert.Reference6Ideal.τ).loc Cert.Reference6Ideal.main_v51) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4352x512 : Shape := ⟨2, ![4352, 512]⟩
abbrev S4352x8704 : Shape := ⟨2, ![4352, 8704]⟩
abbrev S8 : Shape := ⟨1, ![8]⟩
abbrev S_ : Shape := ⟨0, ![]⟩

class Facts : Prop where
  bcast_S_S4352x512 : S_.BroadcastsInDim S4352x512 (![] : Fin 0 → Fin S4352x512.rank)
  slices_S4352x8704_S4352x512_0_4096 : S4352x8704.Slices ![0, 4096] S4352x512

variable [Facts]

def fn {F : FTy → Type} [FloatOps F] (main_arg0 : FVec F S4352x512 .f32) (main_arg1 : FVec F S4352x512 .f32) (main_arg2 : FVec F S4352x8704 .f32) (main_arg3 : FVec F S8 .f32) : IVec S4352x512 1 :=
  let main_v0 : FVec F S4352x512 .f32 := Host.absf main_arg0
  let main_cst : FVec F S_ .f32 := constant S_ .f32 0x7F800000#32
  let main_v1 : FVec F S4352x512 .f32 := broadcastInDim S4352x512 ![] bcast_S_S4352x512 main_cst
  let main_v2 : IVec S4352x512 1 := cmpf .olt main_v0 main_v1
  let main_v3 : FVec F S4352x512 .f32 := Host.absf main_arg1
  let main_cst_0 : FVec F S_ .f32 := constant S_ .f32 0x7F800000#32
  let main_v4 : FVec F S4352x512 .f32 := broadcastInDim S4352x512 ![] bcast_S_S4352x512 main_cst_0
  let main_v5 : IVec S4352x512 1 := cmpf .olt main_v3 main_v4
  let main_v6 : IVec S4352x512 1 := andi main_v2 main_v5
  let main_v7 : FVec F S4352x512 .f32 := (extractStridedSlice S4352x512 ![0, 4096] · slices_S4352x8704_S4352x512_0_4096) main_arg2
  let main_v8 : FVec F S4352x512 .f32 := Host.absf main_v7
  let main_cst_1 : FVec F S_ .f32 := constant S_ .f32 0x7F800000#32
  let main_v9 : FVec F S4352x512 .f32 := broadcastInDim S4352x512 ![] bcast_S_S4352x512 main_cst_1
  let main_v10 : IVec S4352x512 1 := cmpf .olt main_v8 main_v9
  let main_v11 : IVec S4352x512 1 := andi main_v6 main_v10
  main_v11
-- ==== Pre_finite2.lean ====
abbrev S4352x512 : Shape := ⟨2, ![4352, 512]⟩
abbrev S4352x8704 : Shape := ⟨2, ![4352, 8704]⟩
abbrev S8 : Shape := ⟨1, ![8]⟩
abbrev S_ : Shape := ⟨0, ![]⟩

class Facts : Prop where
  bcast_S_S4352x512 : S_.BroadcastsInDim S4352x512 (![] : Fin 0 → Fin S4352x512.rank)
  slices_S4352x8704_S4352x512_0_4096 : S4352x8704.Slices ![0, 4096] S4352x512

variable [Facts]

def fn {F : FTy → Type} [FloatOps F] (main_arg0 : FVec F S4352x512 .f32) (main_arg1 : FVec F S4352x512 .f32) (main_arg2 : FVec F S4352x8704 .f32) (main_arg3 : FVec F S8 .f32) (main_arg4 : FVec F S4352x512 .f32) : IVec S4352x512 1 :=
  let main_v0 : FVec F S4352x512 .f32 := Host.absf main_arg0
  let main_cst : FVec F S_ .f32 := constant S_ .f32 0x7F800000#32
  let main_v1 : FVec F S4352x512 .f32 := broadcastInDim S4352x512 ![] bcast_S_S4352x512 main_cst
  let main_v2 : IVec S4352x512 1 := cmpf .olt main_v0 main_v1
  let main_v3 : FVec F S4352x512 .f32 := Host.absf main_arg1
  let main_cst_0 : FVec F S_ .f32 := constant S_ .f32 0x7F800000#32
  let main_v4 : FVec F S4352x512 .f32 := broadcastInDim S4352x512 ![] bcast_S_S4352x512 main_cst_0
  let main_v5 : IVec S4352x512 1 := cmpf .olt main_v3 main_v4
  let main_v6 : IVec S4352x512 1 := andi main_v2 main_v5
  let main_v7 : FVec F S4352x512 .f32 := (extractStridedSlice S4352x512 ![0, 4096] · slices_S4352x8704_S4352x512_0_4096) main_arg2
  let main_v8 : FVec F S4352x512 .f32 := Host.absf main_v7
  let main_cst_1 : FVec F S_ .f32 := constant S_ .f32 0x7F800000#32
  let main_v9 : FVec F S4352x512 .f32 := broadcastInDim S4352x512 ![] bcast_S_S4352x512 main_cst_1
  let main_v10 : IVec S4352x512 1 := cmpf .olt main_v8 main_v9
  let main_v11 : IVec S4352x512 1 := andi main_v6 main_v10
  let main_v12 : FVec F S4352x512 .f32 := Host.absf main_arg4
  let main_cst_2 : FVec F S_ .f32 := constant S_ .f32 0x7F800000#32
  let main_v13 : FVec F S4352x512 .f32 := broadcastInDim S4352x512 ![] bcast_S_S4352x512 main_cst_2
  let main_v14 : IVec S4352x512 1 := cmpf .olt main_v12 main_v13
  let main_v15 : IVec S4352x512 1 := andi main_v11 main_v14
  main_v15
-- ==== Kernel.lean ====
abbrev S4352x512 : Shape := ⟨2, ![4352, 512]⟩
abbrev S4352x8704 : Shape := ⟨2, ![4352, 8704]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4 : Shape := ⟨1, ![4]⟩
abbrev S4x1x1 : Shape := ⟨3, ![4, 1, 1]⟩
abbrev S1x256x256 : Shape := ⟨3, ![1, 256, 256]⟩
abbrev S4x256x256 : Shape := ⟨3, ![4, 256, 256]⟩
abbrev S8x256x256 : Shape := ⟨3, ![8, 256, 256]⟩
abbrev S4x1 : Shape := ⟨2, ![4, 1]⟩
abbrev S4x256 : Shape := ⟨2, ![4, 256]⟩
abbrev S8x256 : Shape := ⟨2, ![8, 256]⟩
abbrev S8x256x1 : Shape := ⟨3, ![8, 256, 1]⟩
abbrev S8x1x1 : Shape := ⟨3, ![8, 1, 1]⟩
abbrev S17x4x128x128 : Shape := ⟨4, ![17, 4, 128, 128]⟩
abbrev S256x512 : Shape := ⟨2, ![256, 512]⟩
abbrev S1x4x128x128 : Shape := ⟨4, ![1, 4, 128, 128]⟩
abbrev S8x128x128 : Shape := ⟨3, ![8, 128, 128]⟩
abbrev S256x128 : Shape := ⟨2, ![256, 128]⟩
abbrev S1x128x128 : Shape := ⟨3, ![1, 128, 128]⟩
abbrev S128x128 : Shape := ⟨2, ![128, 128]⟩
abbrev S1x256x1 : Shape := ⟨3, ![1, 256, 1]⟩
abbrev S1x1x1 : Shape := ⟨3, ![1, 1, 1]⟩
abbrev S1x1 : Shape := ⟨2, ![1, 1]⟩
abbrev S1x1x128x128 : Shape := ⟨4, ![1, 1, 128, 128]⟩

abbrev nBuf : Space → Nat
  | .hbm => 108
  | .vmem => 25
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x8704, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .i1⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S256, .f32⟩
  | .hbm, ⟨21, _⟩ => ⟨S256x1, .f32⟩
  | .hbm, ⟨22, _⟩ => ⟨S1x256, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S4, .f32⟩
  | .hbm, ⟨27, _⟩ => ⟨S4x1x1, .f32⟩
  | .hbm, ⟨28, _⟩ => ⟨S4, .f32⟩
  | .hbm, ⟨29, _⟩ => ⟨S4x1x1, .f32⟩
  | .hbm, ⟨30, _⟩ => ⟨S_, .f32⟩
  | .hbm, ⟨31, _⟩ => ⟨S256x256, .f32⟩
  | .hbm, ⟨32, _⟩ => ⟨S256x256, .i1⟩
  | .hbm, ⟨33, _⟩ => ⟨S1x256x256, .f32⟩
  | .hbm, ⟨34, _⟩ => ⟨S4x256x256, .f32⟩
  | .hbm, ⟨35, _⟩ => ⟨S4x256x256, .f32⟩
  | .hbm, ⟨36, _⟩ => ⟨S4x256x256, .f32⟩
  | .hbm, ⟨37, _⟩ => ⟨S_, .f32⟩
  | .hbm, ⟨38, _⟩ => ⟨S_, .f32⟩
  | .hbm, ⟨39, _⟩ => ⟨S4x256x256, .i1⟩
  | .hbm, ⟨40, _⟩ => ⟨S4x256x256, .f32⟩
  | .hbm, ⟨41, _⟩ => ⟨S4x256x256, .f32⟩
  | .hbm, ⟨42, _⟩ => ⟨S4x256x256, .f32⟩
  | .hbm, ⟨43, _⟩ => ⟨S_, .f32⟩
  | .hbm, ⟨44, _⟩ => ⟨S256x256, .f32⟩
  | .hbm, ⟨45, _⟩ => ⟨S256x256, .i1⟩
  | .hbm, ⟨46, _⟩ => ⟨S256x256, .f32⟩
  | .hbm, ⟨47, _⟩ => ⟨S1x256x256, .f32⟩
  | .hbm, ⟨48, _⟩ => ⟨S4x256x256, .f32⟩
  | .hbm, ⟨49, _⟩ => ⟨S4x256x256, .f32⟩
  | .hbm, ⟨50, _⟩ => ⟨S4x256x256, .f32⟩
  | .hbm, ⟨51, _⟩ => ⟨S_, .f32⟩
  | .hbm, ⟨52, _⟩ => ⟨S_, .f32⟩
  | .hbm, ⟨53, _⟩ => ⟨S4x256x256, .i1⟩
  | .hbm, ⟨54, _⟩ => ⟨S4x256x256, .f32⟩
  | .hbm, ⟨55, _⟩ => ⟨S4x256x256, .f32⟩
  | .hbm, ⟨56, _⟩ => ⟨S4x256x256, .f32⟩
  | .hbm, ⟨57, _⟩ => ⟨S8x256x256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S1x256, .f32⟩
  | .hbm, ⟨62, _⟩ => ⟨S4, .f32⟩
  | .hbm, ⟨63, _⟩ => ⟨S4x1, .f32⟩
  | .hbm, ⟨64, _⟩ => ⟨S4x256, .f32⟩
  | .hbm, ⟨65, _⟩ => ⟨S4x256, .f32⟩
  | .hbm, ⟨66, _⟩ => ⟨S4x256, .f32⟩
  | .hbm, ⟨67, _⟩ => ⟨S4x256, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S1x256, .f32⟩
  | .hbm, ⟨72, _⟩ => ⟨S4, .f32⟩
  | .hbm, ⟨73, _⟩ => ⟨S4x1, .f32⟩
  | .hbm, ⟨74, _⟩ => ⟨S4x256, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S8x256, .f32⟩
  | .hbm, ⟨79, _⟩ => ⟨S8x256x1, .f32⟩
  | .hbm, ⟨80, _⟩ => ⟨S_, .f32⟩
  | .hbm, ⟨81, _⟩ => ⟨S256, .f32⟩
  | .hbm, ⟨82, _⟩ => ⟨S256, .f32⟩
  | .hbm, ⟨83, _⟩ => ⟨S1x256, .f32⟩
  | .hbm, ⟨84, _⟩ => ⟨S4, .f32⟩
  | .hbm, ⟨85, _⟩ => ⟨S4x1, .f32⟩
  | .hbm, ⟨86, _⟩ => ⟨S4x256, .f32⟩
  | .hbm, ⟨87, _⟩ => ⟨S4x256, .f32⟩
  | .hbm, ⟨88, _⟩ => ⟨S4x256, .f32⟩
  | .hbm, ⟨89, _⟩ => ⟨S4x256, .f32⟩
  | .hbm, ⟨90, _⟩ => ⟨S1x256, .f32⟩
  | .hbm, ⟨91, _⟩ => ⟨S4, .f32⟩
  | .hbm, ⟨92, _⟩ => ⟨S4x1, .f32⟩
  | .hbm, ⟨93, _⟩ => ⟨S4x256, .f32⟩
  | .hbm, ⟨94, _⟩ => ⟨S4x256, .f32⟩
  | .hbm, ⟨95, _⟩ => ⟨S4x256, .f32⟩
  | .hbm, ⟨96, _⟩ => ⟨S4x256, .f32⟩
  | .hbm, ⟨97, _⟩ => ⟨S8x256, .f32⟩
  | .hbm, ⟨98, _⟩ => ⟨S8x256x1, .f32⟩
  | .hbm, ⟨99, _⟩ => ⟨S_, .f32⟩
  | .hbm, ⟨100, _⟩ => ⟨S8, .f32⟩
  | .hbm, ⟨101, _⟩ => ⟨S8, .f32⟩
  | .hbm, ⟨102, _⟩ => ⟨S8, .f32⟩
  | .hbm, ⟨103, _⟩ => ⟨S8x1x1, .f32⟩
  | .hbm, ⟨104, _⟩ => ⟨S4352x512, .f32⟩
  | .hbm, ⟨105, _⟩ => ⟨S4352x512, .f32⟩
  | .hbm, ⟨106, _⟩ => ⟨S17x4x128x128, .f32⟩
  | .hbm, ⟨107, _⟩ => ⟨S17x4x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S8x256x256, .f32⟩
  | .local _ .vmem, ⟨13, _⟩ => ⟨S8x256x1, .f32⟩
  | .local _ .vmem, ⟨14, _⟩ => ⟨S8x256x1, .f32⟩
  | .local _ .vmem, ⟨15, _⟩ => ⟨S8x1x1, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S1x4x128x128, .f32⟩
  | .local _ .vmem, ⟨21, _⟩ => ⟨S1x4x128x128, .f32⟩
  | .local _ .vmem, ⟨22, _⟩ => ⟨S1x4x128x128, .f32⟩
  | .local _ .vmem, ⟨23, _⟩ => ⟨S1x4x128x128, .f32⟩
  | .local _ .vmem, ⟨24, _⟩ => ⟨S8x128x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_2 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_4 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_6 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71_0 : Ref sig .tc := ⟨.hbm, 104, rfl⟩
abbrev main_v71_1 : Ref sig .tc := ⟨.hbm, 105, rfl⟩
abbrev main_v71_2 : Ref sig .tc := ⟨.hbm, 106, rfl⟩
abbrev main_v71_3 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let v1 : BitVec 32 := Scalar.subi c0_i32 arg0
  let c17_i32 : BitVec 32 := 17#32
  let v2 : BitVec 32 := Scalar.subi c17_i32 arg0
  let v3 : BitVec 32 := Scalar.select v0 v1 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let v1 : BitVec 32 := Scalar.subi c0_i32 arg0
  let c17_i32 : BitVec 32 := 17#32
  let v2 : BitVec 32 := Scalar.subi c17_i32 arg0
  let v3 : BitVec 32 := Scalar.select v0 v1 v2
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let v1 : BitVec 32 := Scalar.subi c0_i32 arg0
  let c17_i32 : BitVec 32 := 17#32
  let v2 : BitVec 32 := Scalar.subi c17_i32 arg0
  let v3 : BitVec 32 := Scalar.select v0 v1 v2
  let c8_i32 : BitVec 32 := 8#32
  let c0_i32_0 : BitVec 32 := 0#32
  ![v3.toNat, c8_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 1 := Scalar.cmpi .slt arg0 c1_i32
  let c0_i32 : BitVec 32 := 0#32
  let v1 : BitVec 32 := Scalar.subi c0_i32 arg0
  let c17_i32 : BitVec 32 := 17#32
  let v2 : BitVec 32 := Scalar.subi c17_i32 arg0
  let v3 : BitVec 32 := Scalar.select v0 v1 v2
  let c0_i32_0 : BitVec 32 := 0#32
  let c0_i32_1 : BitVec 32 := 0#32
  ![v3.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c1_i32 : BitVec 32 := 1#32
  let v0 : BitVec 1 := Scalar.cmpi .slt arg0 c1_i32
  let c0_i32 : BitVec 32 := 0#32
  let v1 : BitVec 32 := Scalar.subi c0_i32 arg0
  let c17_i32 : BitVec 32 := 17#32
  let v2 : BitVec 32 := Scalar.subi c17_i32 arg0
  let v3 : BitVec 32 := Scalar.select v0 v1 v2
  let c0_i32_0 : BitVec 32 := 0#32
  let c0_i32_1 : BitVec 32 := 0#32
  let c0_i32_2 : BitVec 32 := 0#32
  let c0_i32_3 : BitVec 32 := 0#32
  ![v3.toNat, c0_i32_0.toNat, c0_i32_1.toNat, c0_i32_2.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4352x512 : Shape := ⟨2, ![4352, 512]⟩
abbrev S4352x8704 : Shape := ⟨2, ![4352, 8704]⟩
abbrev S8 : Shape := ⟨1, ![8]⟩
abbrev S_ : Shape := ⟨0, ![]⟩
abbrev S4352 : Shape := ⟨1, ![4352]⟩
abbrev S17 : Shape := ⟨1, ![17]⟩
abbrev S4 : Shape := ⟨1, ![4]⟩
abbrev S4352x1 : Shape := ⟨2, ![4352, 1]⟩
abbrev S1x4352 : Shape := ⟨2, ![1, 4352]⟩
abbrev S4352x4352 : Shape := ⟨2, ![4352, 4352]⟩
abbrev S4x1x1 : Shape := ⟨3, ![4, 1, 1]⟩
abbrev S1x4352x4352 : Shape := ⟨3, ![1, 4352, 4352]⟩
abbrev S4x4352x4352 : Shape := ⟨3, ![4, 4352, 4352]⟩
abbrev S4352x4x128 : Shape := ⟨3, ![4352, 4, 128]⟩
abbrev S4x128x4352 : Shape := ⟨3, ![4, 128, 4352]⟩
abbrev S17x1 : Shape := ⟨2, ![17, 1]⟩
abbrev S17x4352 : Shape := ⟨2, ![17, 4352]⟩
abbrev S1x17x4352 : Shape := ⟨3, ![1, 17, 4352]⟩
abbrev S4x17x4352 : Shape := ⟨3, ![4, 17, 4352]⟩
abbrev S4x17x4352x1 : Shape := ⟨4, ![4, 17, 4352, 1]⟩
abbrev S4x4352x128 : Shape := ⟨3, ![4, 4352, 128]⟩
abbrev S4x1x4352x128 : Shape := ⟨4, ![4, 1, 4352, 128]⟩
abbrev S4x17x4352x128 : Shape := ⟨4, ![4, 17, 4352, 128]⟩
abbrev S4x128x17x128 : Shape := ⟨4, ![4, 128, 17, 128]⟩
abbrev S17x4x128x128 : Shape := ⟨4, ![17, 4, 128, 128]⟩

abbrev nBuf : Space → Nat
  | .hbm => 172
  | .vmem => 0
  | .smem => 0
  | _ => 0

abbrev hbmTy0_0 (i : Nat) : BufTy := match i % 128 with
  | 0 => ⟨S4352x512, .f32⟩
  | 1 => ⟨S4352x512, .f32⟩
  | 2 => ⟨S4352x8704, .f32⟩
  | 3 => ⟨S8, .f32⟩
  | 4 => ⟨S4352x512, .f32⟩
  | 5 => ⟨S8, .f32⟩
  | 6 => ⟨S_, .f32⟩
  | 7 => ⟨S8, .f32⟩
  | 8 => ⟨S8, .f32⟩
  | 9 => ⟨S8, .f32⟩
  | 10 => ⟨S8, .f32⟩
  | 11 => ⟨S8, .i1⟩
  | 12 => ⟨S8, .f32⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S4352, .i32⟩
  | 22 => ⟨S_, .i32⟩
  | 23 => ⟨S4352, .i32⟩
  | 24 => ⟨S4352, .i1⟩
  | 25 => ⟨S_, .i32⟩
  | 26 => ⟨S4352, .i32⟩
  | 27 => ⟨S4352, .i32⟩
  | 28 => ⟨S_, .i32⟩
  | 29 => ⟨S4352, .i32⟩
  | 30 => ⟨S4352, .i32⟩
  | 31 => ⟨S4352, .i32⟩
  | 32 => ⟨S17, .i32⟩
  | 33 => ⟨S_, .i32⟩
  | 34 => ⟨S17, .i32⟩
  | 35 => ⟨S17, .i32⟩
  | 36 => ⟨S_, .i32⟩
  | 37 => ⟨S17, .i32⟩
  | 38 => ⟨S17, .i1⟩
  | 39 => ⟨S_, .i32⟩
  | 40 => ⟨S17, .i32⟩
  | 41 => ⟨S17, .i32⟩
  | 42 => ⟨S_, .i32⟩
  | 43 => ⟨S17, .i32⟩
  | 44 => ⟨S17, .i32⟩
  | 45 => ⟨S17, .i32⟩
  | 46 => ⟨S4, .f32⟩
  | 47 => ⟨S4352x1, .i32⟩
  | 48 => ⟨S1x4352, .i32⟩
  | 49 => ⟨S4352x4352, .i32⟩
  | 50 => ⟨S4352x4352, .i32⟩
  | 51 => ⟨S4352x4352, .i32⟩
  | 52 => ⟨S4352x4352, .f32⟩
  | 53 => ⟨S_, .f32⟩
  | 54 => ⟨S4352x4352, .f32⟩
  | 55 => ⟨S4352x4352, .i1⟩
  | 56 => ⟨S4x1x1, .f32⟩
  | 57 => ⟨S1x4352x4352, .f32⟩
  | 58 => ⟨S4x4352x4352, .f32⟩
  | 59 => ⟨S4x4352x4352, .f32⟩
  | 60 => ⟨S4x4352x4352, .f32⟩
  | 61 => ⟨S_, .f32⟩
  | 62 => ⟨S_, .f32⟩
  | 63 => ⟨S4x4352x4352, .i1⟩
  | 64 => ⟨S4x4352x4352, .f32⟩
  | 65 => ⟨S4x4352x4352, .f32⟩
  | 66 => ⟨S4x4352x4352, .f32⟩
  | 67 => ⟨S4352x4x128, .f32⟩
  | 68 => ⟨S4352x4x128, .f32⟩
  | 69 => ⟨S4x4352x4352, .f32⟩
  | 70 => ⟨S4x4352x4352, .f32⟩
  | 71 => ⟨S4352x4x128, .f32⟩
  | 72 => ⟨S4x128x4352, .f32⟩
  | 73 => ⟨S4352x4x128, .f32⟩
  | 74 => ⟨S4352x512, .f32⟩
  | 75 => ⟨S4, .f32⟩
  | 76 => ⟨S4352x1, .i32⟩
  | 77 => ⟨S1x4352, .i32⟩
  | 78 => ⟨S4352x4352, .i32⟩
  | 79 => ⟨S4352x4352, .i32⟩
  | 80 => ⟨S4352x4352, .i32⟩
  | 81 => ⟨S4352x4352, .f32⟩
  | 82 => ⟨S_, .f32⟩
  | 83 => ⟨S4352x4352, .f32⟩
  | 84 => ⟨S4352x4352, .i1⟩
  | 85 => ⟨S4x1x1, .f32⟩
  | 86 => ⟨S1x4352x4352, .f32⟩
  | 87 => ⟨S4x4352x4352, .f32⟩
  | 88 => ⟨S4x4352x4352, .f32⟩
  | 89 => ⟨S4x4352x4352, .f32⟩
  | 90 => ⟨S_, .f32⟩
  | 91 => ⟨S_, .f32⟩
  | 92 => ⟨S4x4352x4352, .i1⟩
  | 93 => ⟨S4x4352x4352, .f32⟩
  | 94 => ⟨S4x4352x4352, .f32⟩
  | 95 => ⟨S4x4352x4352, .f32⟩
  | 96 => ⟨S4352x4x128, .f32⟩
  | 97 => ⟨S4352x4x128, .f32⟩
  | 98 => ⟨S4x4352x4352, .f32⟩
  | 99 => ⟨S4x4352x4352, .f32⟩
  | 100 => ⟨S4352x4x128, .f32⟩
  | 101 => ⟨S4x128x4352, .f32⟩
  | 102 => ⟨S4352x4x128, .f32⟩
  | 103 => ⟨S4352x512, .f32⟩
  | 104 => ⟨S4, .f32⟩
  | 105 => ⟨S17x1, .i32⟩
  | 106 => ⟨S_, .i32⟩
  | 107 => ⟨S17x1, .i32⟩
  | 108 => ⟨S17x1, .i32⟩
  | 109 => ⟨S1x4352, .i32⟩
  | 110 => ⟨S17x4352, .i32⟩
  | 111 => ⟨S17x4352, .i32⟩
  | 112 => ⟨S17x4352, .i32⟩
  | 113 => ⟨S17x4352, .f32⟩
  | 114 => ⟨S_, .f32⟩
  | 115 => ⟨S17x4352, .f32⟩
  | 116 => ⟨S17x4352, .i1⟩
  | 117 => ⟨S4x1x1, .f32⟩
  | 118 => ⟨S1x17x4352, .f32⟩
  | 119 => ⟨S4x17x4352, .f32⟩
  | 120 => ⟨S4x17x4352, .f32⟩
  | 121 => ⟨S4x17x4352, .f32⟩
  | 122 => ⟨S_, .f32⟩
  | 123 => ⟨S_, .f32⟩
  | 124 => ⟨S4x17x4352, .i1⟩
  | 125 => ⟨S4x17x4352, .f32⟩
  | 126 => ⟨S4x17x4352, .f32⟩
  | 127 => ⟨S4x17x4352, .f32⟩
  | _ => ⟨S4352x512, .f32⟩

abbrev hbmTy0_1 (i : Nat) : BufTy := match i % 128 with
  | 0 => ⟨S4x17x4352x1, .f32⟩
  | 1 => ⟨S4352x4x128, .f32⟩
  | 2 => ⟨S4x4352x128, .f32⟩
  | 3 => ⟨S4x1x4352x128, .f32⟩
  | 4 => ⟨S4x17x4352x128, .f32⟩
  | 5 => ⟨S4x17x4352x128, .f32⟩
  | 6 => ⟨S4x17x4352x128, .f32⟩
  | 7 => ⟨S4352x4x128, .f32⟩
  | 8 => ⟨S4x128x17x128, .f32⟩
  | 9 => ⟨S17x4x128x128, .f32⟩
  | 10 => ⟨S4, .f32⟩
  | 11 => ⟨S17x1, .i32⟩
  | 12 => ⟨S_, .i32⟩
  | 13 => ⟨S17x1, .i32⟩
  | 14 => ⟨S17x1, .i32⟩
  | 15 => ⟨S1x4352, .i32⟩
  | 16 => ⟨S17x4352, .i32⟩
  | 17 => ⟨S17x4352, .i32⟩
  | 18 => ⟨S17x4352, .i32⟩
  | 19 => ⟨S17x4352, .f32⟩
  | 20 => ⟨S_, .f32⟩
  | 21 => ⟨S17x4352, .f32⟩
  | 22 => ⟨S17x4352, .i1⟩
  | 23 => ⟨S4x1x1, .f32⟩
  | 24 => ⟨S1x17x4352, .f32⟩
  | 25 => ⟨S4x17x4352, .f32⟩
  | 26 => ⟨S4x17x4352, .f32⟩
  | 27 => ⟨S4x17x4352, .f32⟩
  | 28 => ⟨S_, .f32⟩
  | 29 => ⟨S_, .f32⟩
  | 30 => ⟨S4x17x4352, .i1⟩
  | 31 => ⟨S4x17x4352, .f32⟩
  | 32 => ⟨S4x17x4352, .f32⟩
  | 33 => ⟨S4x17x4352, .f32⟩
  | 34 => ⟨S4x17x4352x1, .f32⟩
  | 35 => ⟨S4352x4x128, .f32⟩
  | 36 => ⟨S4x4352x128, .f32⟩
  | 37 => ⟨S4x1x4352x128, .f32⟩
  | 38 => ⟨S4x17x4352x128, .f32⟩
  | 39 => ⟨S4x17x4352x128, .f32⟩
  | 40 => ⟨S4x17x4352x128, .f32⟩
  | 41 => ⟨S4352x4x128, .f32⟩
  | 42 => ⟨S4x128x17x128, .f32⟩
  | 43 => ⟨S17x4x128x128, .f32⟩
  | _ => ⟨S4352x512, .f32⟩

abbrev hbmTy (i : Nat) : BufTy := match i / 128 with
  | 0 => hbmTy0_0 i
  | 1 => hbmTy0_1 i
  | _ => ⟨S4352x512, .f32⟩

abbrev bufTy : (tb : Table) → Fin (tcTables nBuf tb) → BufTy
  | .hbm, ⟨i, _⟩ => hbmTy i
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_c_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_2 : Ref sig .tc := ⟨.hbm, 33, rfl⟩
abbrev main_v11 : Ref sig .tc := ⟨.hbm, 34, rfl⟩
abbrev main_v12 : Ref sig .tc := ⟨.hbm, 35, rfl⟩
abbrev main_c_3 : Ref sig .tc := ⟨.hbm, 36, rfl⟩
abbrev main_v13 : Ref sig .tc := ⟨.hbm, 37, rfl⟩
abbrev main_v14 : Ref sig .tc := ⟨.hbm, 38, rfl⟩
abbrev main_c_4 : Ref sig .tc := ⟨.hbm, 39, rfl⟩
abbrev main_v15 : Ref sig .tc := ⟨.hbm, 40, rfl⟩
abbrev main_v16 : Ref sig .tc := ⟨.hbm, 41, rfl⟩
abbrev main_c_5 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_8 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_9 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_10 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_11 : Ref sig .tc := ⟨.hbm, 122, rfl⟩
abbrev main_call5_v0 : Ref sig .tc := ⟨.hbm, 123, rfl⟩
abbrev main_call5_v1 : Ref sig .tc := ⟨.hbm, 124, rfl⟩
abbrev main_call5_v2 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_12 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_13 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_14 : Ref sig .tc := ⟨.hbm, 156, rfl⟩
abbrev main_call6_v0 : Ref sig .tc := ⟨.hbm, 157, rfl⟩
abbrev main_call6_v1 : Ref sig .tc := ⟨.hbm, 158, rfl⟩
abbrev main_call6_v2 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩

abbrev nD : Nat := 1
abbrev τ : Topo := Topo.v7x

variable {F : FTy → Type} [FloatOps F]
-- ==== Kernel2.lean ====
abbrev S4352x512 : Shape := ⟨2, ![4352, 512]⟩
abbrev S4352x8704 : Shape := ⟨2, ![4352, 8704]⟩
abbrev S8 : Shape := ⟨1, ![8]⟩
abbrev S_ : Shape := ⟨0, ![]⟩
abbrev S4352 : Shape := ⟨1, ![4352]⟩
abbrev S17 : Shape := ⟨1, ![17]⟩
abbrev S4 : Shape := ⟨1, ![4]⟩
abbrev S17x1 : Shape := ⟨2, ![17, 1]⟩
abbrev S1x4352 : Shape := ⟨2, ![1, 4352]⟩
abbrev S17x4352 : Shape := ⟨2, ![17, 4352]⟩
abbrev S4x1x1 : Shape := ⟨3, ![4, 1, 1]⟩
abbrev S1x17x4352 : Shape := ⟨3, ![1, 17, 4352]⟩
abbrev S4x17x4352 : Shape := ⟨3, ![4, 17, 4352]⟩
abbrev S4x17x4352x1 : Shape := ⟨4, ![4, 17, 4352, 1]⟩
abbrev S4352x4x128 : Shape := ⟨3, ![4352, 4, 128]⟩
abbrev S4x4352x128 : Shape := ⟨3, ![4, 4352, 128]⟩
abbrev S4x1x4352x128 : Shape := ⟨4, ![4, 1, 4352, 128]⟩
abbrev S4x17x4352x128 : Shape := ⟨4, ![4, 17, 4352, 128]⟩
abbrev S4x128x17x128 : Shape := ⟨4, ![4, 128, 17, 128]⟩
abbrev S17x4x128x128 : Shape := ⟨4, ![17, 4, 128, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x256x256 : Shape := ⟨3, ![4, 256, 256]⟩
abbrev S8x256x256 : Shape := ⟨3, ![8, 256, 256]⟩
abbrev S4x1 : Shape := ⟨2, ![4, 1]⟩
abbrev S4x256 : Shape := ⟨2, ![4, 256]⟩
abbrev S8x256 : Shape := ⟨2, ![8, 256]⟩
abbrev S8x256x1 : Shape := ⟨3, ![8, 256, 1]⟩
abbrev S8x1x1 : Shape := ⟨3, ![8, 1, 1]⟩
abbrev S256x512 : Shape := ⟨2, ![256, 512]⟩
abbrev S1x4x128x128 : Shape := ⟨4, ![1, 4, 128, 128]⟩
abbrev S8x128x128 : Shape := ⟨3, ![8, 128, 128]⟩
abbrev S256x128 : Shape := ⟨2, ![256, 128]⟩
abbrev S1x1x128x128 : Shape := ⟨4, ![1, 1, 128, 128]⟩
abbrev S128x128 : Shape := ⟨2, ![128, 128]⟩
abbrev S1x256x1 : Shape := ⟨3, ![1, 256, 1]⟩
abbrev S1x1x1 : Shape := ⟨3, ![1, 1, 1]⟩
abbrev S1x1 : Shape := ⟨2, ![1, 1]⟩
abbrev S1x128x128 : Shape := ⟨3, ![1, 128, 128]⟩
abbrev S1 : Shape := ⟨1, ![1]⟩

abbrev nBuf : Space → Nat
  | .hbm => 225
  | .vmem => 41
  | .smem => 0
  | _ => 0

abbrev hbmTy0_0 (i : Nat) : BufTy := match i % 128 with
  | 0 => ⟨S4352x512, .f32⟩
  | 1 => ⟨S4352x512, .f32⟩
  | 2 => ⟨S4352x8704, .f32⟩
  | 3 => ⟨S8, .f32⟩
  | 4 => ⟨S4352x512, .f32⟩
  | 5 => ⟨S4352x512, .f32⟩
  | 6 => ⟨S8, .f32⟩
  | 7 => ⟨S_, .f32⟩
  | 8 => ⟨S8, .f32⟩
  | 9 => ⟨S8, .f32⟩
  | 10 => ⟨S8, .f32⟩
  | 11 => ⟨S8, .f32⟩
  | 12 => ⟨S8, .i1⟩
  | 13 => ⟨S8, .f32⟩
  | 14 => ⟨S8, .f32⟩
  | 15 => ⟨S8, .f32⟩
  | 16 => ⟨S8, .f32⟩
  | 17 => ⟨S8, .f32⟩
  | 18 => ⟨S8, .f32⟩
  | 19 => ⟨S8, .f32⟩
  | 20 => ⟨S8, .f32⟩
  | 21 => ⟨S8, .f32⟩
  | 22 => ⟨S4352, .i32⟩
  | 23 => ⟨S_, .i32⟩
  | 24 => ⟨S4352, .i32⟩
  | 25 => ⟨S4352, .i1⟩
  | 26 => ⟨S_, .i32⟩
  | 27 => ⟨S4352, .i32⟩
  | 28 => ⟨S4352, .i32⟩
  | 29 => ⟨S_, .i32⟩
  | 30 => ⟨S4352, .i32⟩
  | 31 => ⟨S4352, .i32⟩
  | 32 => ⟨S4352, .i32⟩
  | 33 => ⟨S17, .i32⟩
  | 34 => ⟨S_, .i32⟩
  | 35 => ⟨S17, .i32⟩
  | 36 => ⟨S17, .i32⟩
  | 37 => ⟨S_, .i32⟩
  | 38 => ⟨S17, .i32⟩
  | 39 => ⟨S17, .i1⟩
  | 40 => ⟨S_, .i32⟩
  | 41 => ⟨S17, .i32⟩
  | 42 => ⟨S17, .i32⟩
  | 43 => ⟨S_, .i32⟩
  | 44 => ⟨S17, .i32⟩
  | 45 => ⟨S17, .i32⟩
  | 46 => ⟨S17, .i32⟩
  | 47 => ⟨S4, .f32⟩
  | 48 => ⟨S17x1, .i32⟩
  | 49 => ⟨S_, .i32⟩
  | 50 => ⟨S17x1, .i32⟩
  | 51 => ⟨S17x1, .i32⟩
  | 52 => ⟨S1x4352, .i32⟩
  | 53 => ⟨S17x4352, .i32⟩
  | 54 => ⟨S17x4352, .i32⟩
  | 55 => ⟨S17x4352, .i32⟩
  | 56 => ⟨S17x4352, .f32⟩
  | 57 => ⟨S_, .f32⟩
  | 58 => ⟨S17x4352, .f32⟩
  | 59 => ⟨S17x4352, .i1⟩
  | 60 => ⟨S4x1x1, .f32⟩
  | 61 => ⟨S1x17x4352, .f32⟩
  | 62 => ⟨S4x17x4352, .f32⟩
  | 63 => ⟨S4x17x4352, .f32⟩
  | 64 => ⟨S4x17x4352, .f32⟩
  | 65 => ⟨S_, .f32⟩
  | 66 => ⟨S_, .f32⟩
  | 67 => ⟨S4x17x4352, .i1⟩
  | 68 => ⟨S4x17x4352, .f32⟩
  | 69 => ⟨S4x17x4352, .f32⟩
  | 70 => ⟨S4x17x4352, .f32⟩
  | 71 => ⟨S4x17x4352x1, .f32⟩
  | 72 => ⟨S4352x4x128, .f32⟩
  | 73 => ⟨S4x4352x128, .f32⟩
  | 74 => ⟨S4x1x4352x128, .f32⟩
  | 75 => ⟨S4x17x4352x128, .f32⟩
  | 76 => ⟨S4x17x4352x128, .f32⟩
  | 77 => ⟨S4x17x4352x128, .f32⟩
  | 78 => ⟨S4352x4x128, .f32⟩
  | 79 => ⟨S4x128x17x128, .f32⟩
  | 80 => ⟨S17x4x128x128, .f32⟩
  | 81 => ⟨S4, .f32⟩
  | 82 => ⟨S17x1, .i32⟩
  | 83 => ⟨S_, .i32⟩
  | 84 => ⟨S17x1, .i32⟩
  | 85 => ⟨S17x1, .i32⟩
  | 86 => ⟨S1x4352, .i32⟩
  | 87 => ⟨S17x4352, .i32⟩
  | 88 => ⟨S17x4352, .i32⟩
  | 89 => ⟨S17x4352, .i32⟩
  | 90 => ⟨S17x4352, .f32⟩
  | 91 => ⟨S_, .f32⟩
  | 92 => ⟨S17x4352, .f32⟩
  | 93 => ⟨S17x4352, .i1⟩
  | 94 => ⟨S4x1x1, .f32⟩
  | 95 => ⟨S1x17x4352, .f32⟩
  | 96 => ⟨S4x17x4352, .f32⟩
  | 97 => ⟨S4x17x4352, .f32⟩
  | 98 => ⟨S4x17x4352, .f32⟩
  | 99 => ⟨S_, .f32⟩
  | 100 => ⟨S_, .f32⟩
  | 101 => ⟨S4x17x4352, .i1⟩
  | 102 => ⟨S4x17x4352, .f32⟩
  | 103 => ⟨S4x17x4352, .f32⟩
  | 104 => ⟨S4x17x4352, .f32⟩
  | 105 => ⟨S4x17x4352x1, .f32⟩
  | 106 => ⟨S4352x4x128, .f32⟩
  | 107 => ⟨S4x4352x128, .f32⟩
  | 108 => ⟨S4x1x4352x128, .f32⟩
  | 109 => ⟨S4x17x4352x128, .f32⟩
  | 110 => ⟨S4x17x4352x128, .f32⟩
  | 111 => ⟨S4x17x4352x128, .f32⟩
  | 112 => ⟨S4352x4x128, .f32⟩
  | 113 => ⟨S4x128x17x128, .f32⟩
  | 114 => ⟨S17x4x128x128, .f32⟩
  | 115 => ⟨S8, .f32⟩
  | 116 => ⟨S_, .f32⟩
  | 117 => ⟨S8, .f32⟩
  | 118 => ⟨S8, .f32⟩
  | 119 => ⟨S8, .f32⟩
  | 120 => ⟨S8, .f32⟩
  | 121 => ⟨S8, .i1⟩
  | 122 => ⟨S8, .f32⟩
  | 123 => ⟨S8, .f32⟩
  | 124 => ⟨S8, .f32⟩
  | 125 => ⟨S8, .f32⟩
  | 126 => ⟨S8, .f32⟩
  | 127 => ⟨S8, .f32⟩
  | _ => ⟨S4352x512, .f32⟩

abbrev hbmTy0_1 (i : Nat) : BufTy := match i % 128 with
  | 0 => ⟨S8, .f32⟩
  | 1 => ⟨S8, .f32⟩
  | 2 => ⟨S8, .f32⟩
  | 3 => ⟨S256, .f32⟩
  | 4 => ⟨S256x1, .f32⟩
  | 5 => ⟨S1x256, .f32⟩
  | 6 => ⟨S256x256, .f32⟩
  | 7 => ⟨S256x256, .f32⟩
  | 8 => ⟨S256x256, .f32⟩
  | 9 => ⟨S4, .f32⟩
  | 10 => ⟨S4x1x1, .f32⟩
  | 11 => ⟨S4, .f32⟩
  | 12 => ⟨S4x1x1, .f32⟩
  | 13 => ⟨S_, .f32⟩
  | 14 => ⟨S256x256, .f32⟩
  | 15 => ⟨S256x256, .i1⟩
  | 16 => ⟨S1x256x256, .f32⟩
  | 17 => ⟨S4x256x256, .f32⟩
  | 18 => ⟨S4x256x256, .f32⟩
  | 19 => ⟨S4x256x256, .f32⟩
  | 20 => ⟨S_, .f32⟩
  | 21 => ⟨S_, .f32⟩
  | 22 => ⟨S4x256x256, .i1⟩
  | 23 => ⟨S4x256x256, .f32⟩
  | 24 => ⟨S4x256x256, .f32⟩
  | 25 => ⟨S4x256x256, .f32⟩
  | 26 => ⟨S_, .f32⟩
  | 27 => ⟨S256x256, .f32⟩
  | 28 => ⟨S256x256, .i1⟩
  | 29 => ⟨S256x256, .f32⟩
  | 30 => ⟨S1x256x256, .f32⟩
  | 31 => ⟨S4x256x256, .f32⟩
  | 32 => ⟨S4x256x256, .f32⟩
  | 33 => ⟨S4x256x256, .f32⟩
  | 34 => ⟨S_, .f32⟩
  | 35 => ⟨S_, .f32⟩
  | 36 => ⟨S4x256x256, .i1⟩
  | 37 => ⟨S4x256x256, .f32⟩
  | 38 => ⟨S4x256x256, .f32⟩
  | 39 => ⟨S4x256x256, .f32⟩
  | 40 => ⟨S8x256x256, .f32⟩
  | 41 => ⟨S_, .f32⟩
  | 42 => ⟨S256, .f32⟩
  | 43 => ⟨S256, .f32⟩
  | 44 => ⟨S1x256, .f32⟩
  | 45 => ⟨S4, .f32⟩
  | 46 => ⟨S4x1, .f32⟩
  | 47 => ⟨S4x256, .f32⟩
  | 48 => ⟨S4x256, .f32⟩
  | 49 => ⟨S4x256, .f32⟩
  | 50 => ⟨S4x256, .f32⟩
  | 51 => ⟨S_, .f32⟩
  | 52 => ⟨S256, .f32⟩
  | 53 => ⟨S256, .f32⟩
  | 54 => ⟨S1x256, .f32⟩
  | 55 => ⟨S4, .f32⟩
  | 56 => ⟨S4x1, .f32⟩
  | 57 => ⟨S4x256, .f32⟩
  | 58 => ⟨S4x256, .f32⟩
  | 59 => ⟨S4x256, .f32⟩
  | 60 => ⟨S4x256, .f32⟩
  | 61 => ⟨S8x256, .f32⟩
  | 62 => ⟨S8x256x1, .f32⟩
  | 63 => ⟨S_, .f32⟩
  | 64 => ⟨S256, .f32⟩
  | 65 => ⟨S256, .f32⟩
  | 66 => ⟨S1x256, .f32⟩
  | 67 => ⟨S4, .f32⟩
  | 68 => ⟨S4x1, .f32⟩
  | 69 => ⟨S4x256, .f32⟩
  | 70 => ⟨S4x256, .f32⟩
  | 71 => ⟨S4x256, .f32⟩
  | 72 => ⟨S4x256, .f32⟩
  | 73 => ⟨S1x256, .f32⟩
  | 74 => ⟨S4, .f32⟩
  | 75 => ⟨S4x1, .f32⟩
  | 76 => ⟨S4x256, .f32⟩
  | 77 => ⟨S4x256, .f32⟩
  | 78 => ⟨S4x256, .f32⟩
  | 79 => ⟨S4x256, .f32⟩
  | 80 => ⟨S8x256, .f32⟩
  | 81 => ⟨S8x256x1, .f32⟩
  | 82 => ⟨S_, .f32⟩
  | 83 => ⟨S8, .f32⟩
  | 84 => ⟨S8, .f32⟩
  | 85 => ⟨S8, .f32⟩
  | 86 => ⟨S8x1x1, .f32⟩
  | 87 => ⟨S4352x512, .f32⟩
  | 88 => ⟨S4352x512, .f32⟩
  | 89 => ⟨S4352x512, .f32⟩
  | 90 => ⟨S4352x512, .f32⟩
  | 91 => ⟨S4352x512, .f32⟩
  | 92 => ⟨S4352x512, .f32⟩
  | 93 => ⟨S8x256x256, .f32⟩
  | 94 => ⟨S8x256x1, .f32⟩
  | 95 => ⟨S8x256x1, .f32⟩
  | 96 => ⟨S8x1x1, .f32⟩
  | _ => ⟨S4352x512, .f32⟩

abbrev hbmTy (i : Nat) : BufTy := match i / 128 with
  | 0 => hbmTy0_0 i
  | 1 => hbmTy0_1 i
  | _ => ⟨S4352x512, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S8x256x256, .f32⟩
  | .local _ .vmem, ⟨13, _⟩ => ⟨S8x256x1, .f32⟩
  | .local _ .vmem, ⟨14, _⟩ => ⟨S8x256x1, .f32⟩
  | .local _ .vmem, ⟨15, _⟩ => ⟨S8x1x1, .f32⟩
  | .local _ .vmem, ⟨16, _⟩ => ⟨S1x4x128x128, .f32⟩
  | .local _ .vmem, ⟨17, _⟩ => ⟨S1x4x128x128, .f32⟩
  | .local _ .vmem, ⟨18, _⟩ => ⟨S1x4x128x128, .f32⟩
  | .local _ .vmem, ⟨19, _⟩ => ⟨S1x4x128x128, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S8x256x256, .f32⟩
  | .local _ .vmem, ⟨37, _⟩ => ⟨S8x256x1, .f32⟩
  | .local _ .vmem, ⟨38, _⟩ => ⟨S8x256x1, .f32⟩
  | .local _ .vmem, ⟨39, _⟩ => ⟨S8x1x1, .f32⟩
  | .local _ .vmem, ⟨40, _⟩ => ⟨S8x128x128, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_c_2 : Ref sig .tc := ⟨.hbm, 34, rfl⟩
abbrev main_v11 : Ref sig .tc := ⟨.hbm, 35, rfl⟩
abbrev main_v12 : Ref sig .tc := ⟨.hbm, 36, rfl⟩
abbrev main_c_3 : Ref sig .tc := ⟨.hbm, 37, rfl⟩
abbrev main_v13 : Ref sig .tc := ⟨.hbm, 38, rfl⟩
abbrev main_v14 : Ref sig .tc := ⟨.hbm, 39, rfl⟩
abbrev main_c_4 : Ref sig .tc := ⟨.hbm, 40, rfl⟩
abbrev main_v15 : Ref sig .tc := ⟨.hbm, 41, rfl⟩
abbrev main_v16 : Ref sig .tc := ⟨.hbm, 42, rfl⟩
abbrev main_c_5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_c_6 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_7 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_10 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call5_v0 : Ref sig .tc := ⟨.hbm, 115, rfl⟩
abbrev main_call5_call0_cst : Ref sig .tc := ⟨.hbm, 116, rfl⟩
abbrev main_call5_call0_v0 : Ref sig .tc := ⟨.hbm, 117, rfl⟩
abbrev main_call5_call0_v1 : Ref sig .tc := ⟨.hbm, 118, rfl⟩
abbrev main_call5_call0_v2 : Ref sig .tc := ⟨.hbm, 119, rfl⟩
abbrev main_call5_call0_v3 : Ref sig .tc := ⟨.hbm, 120, rfl⟩
abbrev main_call5_call0_v4 : Ref sig .tc := ⟨.hbm, 121, rfl⟩
abbrev main_call5_call0_v5 : Ref sig .tc := ⟨.hbm, 122, rfl⟩
abbrev main_call5_call0_v6 : Ref sig .tc := ⟨.hbm, 123, rfl⟩
abbrev main_call5_call0_v7 : Ref sig .tc := ⟨.hbm, 124, rfl⟩
abbrev main_call5_call0_v8 : Ref sig .tc := ⟨.hbm, 125, rfl⟩
abbrev main_call5_call0_v9 : Ref sig .tc := ⟨.hbm, 126, rfl⟩
abbrev main_call5_call0_v10 : Ref sig .tc := ⟨.hbm, 127, rfl⟩
abbrev main_call5_call0_v11 : Ref sig .tc := ⟨.hbm, 128, rfl⟩
abbrev main_call5_v1 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_11 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_12 : Ref sig .tc := ⟨.hbm, 148, rfl⟩
abbrev main_call6_v0 : Ref sig .tc := ⟨.hbm, 149, rfl⟩
abbrev main_call6_v1 : Ref sig .tc := ⟨.hbm, 150, rfl⟩
abbrev main_call6_v2 : Ref sig .tc := ⟨.hbm, 151, rfl⟩
abbrev main_v93 : Ref sig .tc := ⟨.hbm, 152, rfl⟩
abbrev main_v94 : Ref sig .tc := ⟨.hbm, 153, rfl⟩
abbrev main_cst_13 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_14 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_cst_15 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_16 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_cst_17 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_cst_18 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147_0 : Ref sig .tc := ⟨.hbm, 215, rfl⟩
abbrev main_v147_1 : Ref sig .tc := ⟨.hbm, 216, rfl⟩
abbrev main_v147_2 : Ref sig .tc := ⟨.hbm, 217, rfl⟩
abbrev main_v147_3 : Ref sig .tc := ⟨.hbm, 218, rfl⟩
abbrev main_v147_4 : Ref sig .tc := ⟨.hbm, 219, rfl⟩
abbrev main_v147_5 : Ref sig .tc := ⟨.hbm, 220, rfl⟩
abbrev main_v147_6 : Ref sig .tc := ⟨.hbm, 221, rfl⟩
abbrev main_v147_7 : Ref sig .tc := ⟨.hbm, 222, rfl⟩
abbrev main_v147_8 : Ref sig .tc := ⟨.hbm, 223, rfl⟩
abbrev main_v147_9 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem21_0 : DmaSem sig := 37
abbrev cc0_sem22_0 : DmaSem sig := 38
abbrev cc0_sem23_0 : DmaSem sig := 39

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c17_i32 : BitVec 32 := 17#32
  let v3 : BitVec 32 := Scalar.subi c17_i32 v0
  let v4 : BitVec 32 := Scalar.select v1 v2 v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c17_i32 : BitVec 32 := 17#32
  let v3 : BitVec 32 := Scalar.subi c17_i32 v0
  let v4 : BitVec 32 := Scalar.select v1 v2 v3
  let c0_i32_0 : BitVec 32 := 0#32
  let c0_i32_1 : BitVec 32 := 0#32
  ![v4.toNat, c0_i32_0.toNat]

def cc0_transform_4 (i : grid0.Coords) : Fin 2 → Nat :=
  let arg0 : BitVec 32 := BitVec.ofNat 32 (i 0).val
  let c16_i32 : BitVec 32 := 16#32
  let v0 : BitVec 32 := Scalar.subi c16_i32 arg0
  let c8_i32 : BitVec 32 := 8#32
  let c0_i32 : BitVec 32 := 0#32
  ![v0.toNat, c8_i32.toNat]

def cc0_transform_5 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c17_i32 : BitVec 32 := 17#32
  let v3 : BitVec 32 := Scalar.subi c17_i32 v0
  let v4 : BitVec 32 := Scalar.select v1 v2 v3
  let c8_i32 : BitVec 32 := 8#32
  let c0_i32_0 : BitVec 32 := 0#32
  ![v4.toNat, c8_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_11 (i : grid0.Coords) : Fin 4 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c17_i32 : BitVec 32 := 17#32
  let v3 : BitVec 32 := Scalar.subi c17_i32 v0
  let v4 : BitVec 32 := Scalar.select v1 v2 v3
  let c0_i32_0 : BitVec 32 := 0#32
  let c0_i32_1 : BitVec 32 := 0#32
  let c0_i32_2 : BitVec 32 := 0#32
  let c0_i32_3 : BitVec 32 := 0#32
  ![v4.toNat, c0_i32_0.toNat, c0_i32_1.toNat, c0_i32_2.toNat]

def cc0_transform_12 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c17_i32 : BitVec 32 := 17#32
  let v3 : BitVec 32 := Scalar.subi c17_i32 v0
  let v4 : BitVec 32 := Scalar.select v1 v2 v3
  let c0_i32_0 : BitVec 32 := 0#32
  let c0_i32_1 : BitVec 32 := 0#32
  ![v4.toNat, c0_i32_0.toNat]

def cc0_transform_14 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c17_i32 : BitVec 32 := 17#32
  let v3 : BitVec 32 := Scalar.subi c17_i32 v0
  let v4 : BitVec 32 := Scalar.select v1 v2 v3
  let c0_i32_0 : BitVec 32 := 0#32
  let c0_i32_1 : BitVec 32 := 0#32
  ![v4.toNat, c0_i32_0.toNat]

def cc0_transform_16 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c17_i32 : BitVec 32 := 17#32
  let v3 : BitVec 32 := Scalar.subi c17_i32 v0
  let v4 : BitVec 32 := Scalar.select v1 v2 v3
  let c0_i32_0 : BitVec 32 := 0#32
  let c0_i32_1 : BitVec 32 := 0#32
  ![v4.toNat, c0_i32_0.toNat]

def cc0_transform_18 (i : grid0.Coords) : Fin 2 → Nat :=
  let arg0 : BitVec 32 := BitVec.ofNat 32 (i 0).val
  let c16_i32 : BitVec 32 := 16#32
  let v0 : BitVec 32 := Scalar.subi c16_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c16_i32 : BitVec 32 := 16#32
  let v0 : BitVec 32 := Scalar.subi c16_i32 arg0
  let c1_i32 : BitVec 32 := 1#32
  let v1 : BitVec 1 := Scalar.cmpi .slt v0 c1_i32
  let c0_i32 : BitVec 32 := 0#32
  let v2 : BitVec 32 := Scalar.subi c0_i32 v0
  let c17_i32 : BitVec 32 := 17#32
  let v3 : BitVec 32 := Scalar.subi c17_i32 v0
  let v4 : BitVec 32 := Scalar.select v1 v2 v3
  let c0_i32_0 : BitVec 32 := 0#32
  let c0_i32_1 : BitVec 32 := 0#32
  ![v4.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x256x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x256x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x256x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference2Ideal.lean ====
abbrev S4352x512 : Shape := ⟨2, ![4352, 512]⟩
abbrev S4352x8704 : Shape := ⟨2, ![4352, 8704]⟩
abbrev S8 : Shape := ⟨1, ![8]⟩
abbrev S_ : Shape := ⟨0, ![]⟩
abbrev S4352 : Shape := ⟨1, ![4352]⟩
abbrev S4 : Shape := ⟨1, ![4]⟩
abbrev S4352x1 : Shape := ⟨2, ![4352, 1]⟩
abbrev S1x4352 : Shape := ⟨2, ![1, 4352]⟩
abbrev S4352x4352 : Shape := ⟨2, ![4352, 4352]⟩
abbrev S4x1x1 : Shape := ⟨3, ![4, 1, 1]⟩
abbrev S1x4352x4352 : Shape := ⟨3, ![1, 4352, 4352]⟩
abbrev S4x4352x4352 : Shape := ⟨3, ![4, 4352, 4352]⟩
abbrev S4352x4x128 : Shape := ⟨3, ![4352, 4, 128]⟩
abbrev S4x128x4352 : Shape := ⟨3, ![4, 128, 4352]⟩
abbrev S4x4352x128 : Shape := ⟨3, ![4, 4352, 128]⟩

abbrev nBuf : Space → Nat
  | .hbm => 117
  | .vmem => 0
  | .smem => 0
  | _ => 0

abbrev bufTy : (tb : Table) → Fin (tcTables nBuf tb) → BufTy
  | .hbm, ⟨0, _⟩ => ⟨S4352x512, .f32⟩
  | .hbm, ⟨1, _⟩ => ⟨S4352x512, .f32⟩
  | .hbm, ⟨2, _⟩ => ⟨S4352x8704, .f32⟩
  | .hbm, ⟨3, _⟩ => ⟨S8, .f32⟩
  | .hbm, ⟨4, _⟩ => ⟨S4352x512, .f32⟩
  | .hbm, ⟨5, _⟩ => ⟨S4352x512, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .i1⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S4352, .i32⟩
  | .hbm, ⟨23, _⟩ => ⟨S_, .i32⟩
  | .hbm, ⟨24, _⟩ => ⟨S4352, .i32⟩
  | .hbm, ⟨25, _⟩ => ⟨S4352, .i1⟩
  | .hbm, ⟨26, _⟩ => ⟨S_, .i32⟩
  | .hbm, ⟨27, _⟩ => ⟨S4352, .i32⟩
  | .hbm, ⟨28, _⟩ => ⟨S4352, .i32⟩
  | .hbm, ⟨29, _⟩ => ⟨S_, .i32⟩
  | .hbm, ⟨30, _⟩ => ⟨S4352, .i32⟩
  | .hbm, ⟨31, _⟩ => ⟨S4352, .i32⟩
  | .hbm, ⟨32, _⟩ => ⟨S4352, .i32⟩
  | .hbm, ⟨33, _⟩ => ⟨S4, .f32⟩
  | .hbm, ⟨34, _⟩ => ⟨S4352x1, .i32⟩
  | .hbm, ⟨35, _⟩ => ⟨S1x4352, .i32⟩
  | .hbm, ⟨36, _⟩ => ⟨S4352x4352, .i32⟩
  | .hbm, ⟨37, _⟩ => ⟨S4352x4352, .i32⟩
  | .hbm, ⟨38, _⟩ => ⟨S4352x4352, .i32⟩
  | .hbm, ⟨39, _⟩ => ⟨S4352x4352, .f32⟩
  | .hbm, ⟨40, _⟩ => ⟨S_, .f32⟩
  | .hbm, ⟨41, _⟩ => ⟨S4352x4352, .f32⟩
  | .hbm, ⟨42, _⟩ => ⟨S4352x4352, .i1⟩
  | .hbm, ⟨43, _⟩ => ⟨S4x1x1, .f32⟩
  | .hbm, ⟨44, _⟩ => ⟨S1x4352x4352, .f32⟩
  | .hbm, ⟨45, _⟩ => ⟨S4x4352x4352, .f32⟩
  | .hbm, ⟨46, _⟩ => ⟨S4x4352x4352, .f32⟩
  | .hbm, ⟨47, _⟩ => ⟨S4x4352x4352, .f32⟩
  | .hbm, ⟨48, _⟩ => ⟨S_, .f32⟩
  | .hbm, ⟨49, _⟩ => ⟨S_, .f32⟩
  | .hbm, ⟨50, _⟩ => ⟨S4x4352x4352, .i1⟩
  | .hbm, ⟨51, _⟩ => ⟨S4x4352x4352, .f32⟩
  | .hbm, ⟨52, _⟩ => ⟨S4x4352x4352, .f32⟩
  | .hbm, ⟨53, _⟩ => ⟨S4x4352x4352, .f32⟩
  | .hbm, ⟨54, _⟩ => ⟨S4352x4x128, .f32⟩
  | .hbm, ⟨55, _⟩ => ⟨S4352x4x128, .f32⟩
  | .hbm, ⟨56, _⟩ => ⟨S4x4352x4352, .f32⟩
  | .hbm, ⟨57, _⟩ => ⟨S4x4352x4352, .f32⟩
  | .hbm, ⟨58, _⟩ => ⟨S4352x4x128, .f32⟩
  | .hbm, ⟨59, _⟩ => ⟨S4x128x4352, .f32⟩
  | .hbm, ⟨60, _⟩ => ⟨S4352x4x128, .f32⟩
  | .hbm, ⟨61, _⟩ => ⟨S4352x512, .f32⟩
  | .hbm, ⟨62, _⟩ => ⟨S4, .f32⟩
  | .hbm, ⟨63, _⟩ => ⟨S4352x1, .i32⟩
  | .hbm, ⟨64, _⟩ => ⟨S1x4352, .i32⟩
  | .hbm, ⟨65, _⟩ => ⟨S4352x4352, .i32⟩
  | .hbm, ⟨66, _⟩ => ⟨S4352x4352, .i32⟩
  | .hbm, ⟨67, _⟩ => ⟨S4352x4352, .i32⟩
  | .hbm, ⟨68, _⟩ => ⟨S4352x4352, .f32⟩
  | .hbm, ⟨69, _⟩ => ⟨S_, .f32⟩
  | .hbm, ⟨70, _⟩ => ⟨S4352x4352, .f32⟩
  | .hbm, ⟨71, _⟩ => ⟨S4352x4352, .i1⟩
  | .hbm, ⟨72, _⟩ => ⟨S4x1x1, .f32⟩
  | .hbm, ⟨73, _⟩ => ⟨S1x4352x4352, .f32⟩
  | .hbm, ⟨74, _⟩ => ⟨S4x4352x4352, .f32⟩
  | .hbm, ⟨75, _⟩ => ⟨S4x4352x4352, .f32⟩
  | .hbm, ⟨76, _⟩ => ⟨S4x4352x4352, .f32⟩
  | .hbm, ⟨77, _⟩ => ⟨S_, .f32⟩
  | .hbm, ⟨78, _⟩ => ⟨S_, .f32⟩
  | .hbm, ⟨79, _⟩ => ⟨S4x4352x4352, .i1⟩
  | .hbm, ⟨80, _⟩ => ⟨S4x4352x4352, .f32⟩
  | .hbm, ⟨81, _⟩ => ⟨S4x4352x4352, .f32⟩
  | .hbm, ⟨82, _⟩ => ⟨S4x4352x4352, .f32⟩
  | .hbm, ⟨83, _⟩ => ⟨S4352x4x128, .f32⟩
  | .hbm, ⟨84, _⟩ => ⟨S4352x4x128, .f32⟩
  | .hbm, ⟨85, _⟩ => ⟨S4x4352x4352, .f32⟩
  | .hbm, ⟨86, _⟩ => ⟨S4x4352x4352, .f32⟩
  | .hbm, ⟨87, _⟩ => ⟨S4352x4x128, .f32⟩
  | .hbm, ⟨88, _⟩ => ⟨S4x128x4352, .f32⟩
  | .hbm, ⟨89, _⟩ => ⟨S4352x4x128, .f32⟩
  | .hbm, ⟨90, _⟩ => ⟨S4352x512, .f32⟩
  | .hbm, ⟨91, _⟩ => ⟨S4352x4x128, .f32⟩
  | .hbm, ⟨92, _⟩ => ⟨S4x128x4352, .f32⟩
  | .hbm, ⟨93, _⟩ => ⟨S4x4352x4352, .f32⟩
  | .hbm, ⟨94, _⟩ => ⟨S4x128x4352, .f32⟩
  | .hbm, ⟨95, _⟩ => ⟨S4352x4x128, .f32⟩
  | .hbm, ⟨96, _⟩ => ⟨S4352x512, .f32⟩
  | .hbm, ⟨97, _⟩ => ⟨S4x4352x4352, .f32⟩
  | .hbm, ⟨98, _⟩ => ⟨S4x4352x128, .f32⟩
  | .hbm, ⟨99, _⟩ => ⟨S4352x4x128, .f32⟩
  | .hbm, ⟨100, _⟩ => ⟨S4x4352x128, .f32⟩
  | .hbm, ⟨101, _⟩ => ⟨S4352x4x128, .f32⟩
  | .hbm, ⟨102, _⟩ => ⟨S4352x512, .f32⟩
  | .hbm, ⟨103, _⟩ => ⟨S4352x512, .f32⟩
  | .hbm, ⟨104, _⟩ => ⟨S4352x4x128, .f32⟩
  | .hbm, ⟨105, _⟩ => ⟨S4x128x4352, .f32⟩
  | .hbm, ⟨106, _⟩ => ⟨S4x4352x4352, .f32⟩
  | .hbm, ⟨107, _⟩ => ⟨S4x128x4352, .f32⟩
  | .hbm, ⟨108, _⟩ => ⟨S4352x4x128, .f32⟩
  | .hbm, ⟨109, _⟩ => ⟨S4352x512, .f32⟩
  | .hbm, ⟨110, _⟩ => ⟨S4x4352x4352, .f32⟩
  | .hbm, ⟨111, _⟩ => ⟨S4x4352x128, .f32⟩
  | .hbm, ⟨112, _⟩ => ⟨S4352x4x128, .f32⟩
  | .hbm, ⟨113, _⟩ => ⟨S4x4352x128, .f32⟩
  | .hbm, ⟨114, _⟩ => ⟨S4352x4x128, .f32⟩
  | .hbm, ⟨115, _⟩ => ⟨S4352x512, .f32⟩
  | .hbm, ⟨116, _⟩ => ⟨S4352x512, .f32⟩
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v1 : Ref sig .tc := ⟨.hbm, 21, rfl⟩
abbrev main_v2 : Ref sig .tc := ⟨.hbm, 22, rfl⟩
abbrev main_c : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_4 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩

abbrev nD : Nat := 1
abbrev τ : Topo := Topo.v7x

variable {F : FTy → Type} [FloatOps F]
-- ==== Kernel3.lean ====
abbrev S4352x1024 : Shape := ⟨2, ![4352, 1024]⟩
abbrev S4352x8704 : Shape := ⟨2, ![4352, 8704]⟩
abbrev S1024x4352 : Shape := ⟨2, ![1024, 4352]⟩
abbrev S1024x8704 : Shape := ⟨2, ![1024, 8704]⟩
abbrev S4352x512 : Shape := ⟨2, ![4352, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4352x1024, .f32⟩
  | .hbm, ⟨1, _⟩ => ⟨S4352x8704, .bf16⟩
  | .hbm, ⟨2, _⟩ => ⟨S1024x4352, .f32⟩
  | .hbm, ⟨3, _⟩ => ⟨S1024x4352, .bf16⟩
  | .hbm, ⟨4, _⟩ => ⟨S1024x8704, .f32⟩
  | .local _ .vmem, ⟨0, _⟩ => ⟨S1024x4352, .bf16⟩
  | .local _ .vmem, ⟨1, _⟩ => ⟨S4352x512, .bf16⟩
  | .local _ .vmem, ⟨2, _⟩ => ⟨S4352x512, .bf16⟩
  | .local _ .vmem, ⟨3, _⟩ => ⟨S1024x512, .f32⟩
  | .local _ .vmem, ⟨4, _⟩ => ⟨S1024x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4352 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x1024 : Shape := ⟨2, ![4352, 1024]⟩
abbrev S4352x8704 : Shape := ⟨2, ![4352, 8704]⟩
abbrev S_ : Shape := ⟨0, ![]⟩
abbrev S1024x8704 : Shape := ⟨2, ![1024, 8704]⟩
abbrev S8704x1024 : Shape := ⟨2, ![8704, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x8704, .bf16⟩
  | .hbm, ⟨2, _⟩ => ⟨S_, .f32⟩
  | .hbm, ⟨3, _⟩ => ⟨S1024x8704, .f32⟩
  | .hbm, ⟨4, _⟩ => ⟨S4352x8704, .f32⟩
  | .hbm, ⟨5, _⟩ => ⟨S4352x8704, .f32⟩
  | .hbm, ⟨6, _⟩ => ⟨S8704x1024, .f32⟩
  | .hbm, ⟨7, _⟩ => ⟨S1024x8704, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S1024x8704 : Shape := ⟨2, ![1024, 8704]⟩
abbrev S4352x8704 : Shape := ⟨2, ![4352, 8704]⟩
abbrev S4352x1024 : Shape := ⟨2, ![4352, 1024]⟩
abbrev S1088x4352 : Shape := ⟨2, ![1088, 4352]⟩
abbrev S1024x4352 : Shape := ⟨2, ![1024, 4352]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8704, .bf16⟩
  | .hbm, ⟨1, _⟩ => ⟨S4352x8704, .bf16⟩
  | .hbm, ⟨2, _⟩ => ⟨S4352x1024, .f32⟩
  | .local _ .vmem, ⟨0, _⟩ => ⟨S1088x4352, .bf16⟩
  | .local _ .vmem, ⟨1, _⟩ => ⟨S1088x4352, .bf16⟩
  | .local _ .vmem, ⟨2, _⟩ => ⟨S1024x4352, .bf16⟩
  | .local _ .vmem, ⟨3, _⟩ => ⟨S1024x4352, .bf16⟩
  | .local _ .vmem, ⟨4, _⟩ => ⟨S1088x1024, .f32⟩
  | .local _ .vmem, ⟨5, _⟩ => ⟨S1088x1024, .f32⟩
  | _, _ => ⟨S1024x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x8704 : Shape := ⟨2, ![1024, 8704]⟩
abbrev S4352x8704 : Shape := ⟨2, ![4352, 8704]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x8704, .bf16⟩
  | .hbm, ⟨1, _⟩ => ⟨S4352x8704, .bf16⟩
  | .hbm, ⟨2, _⟩ => ⟨S_, .f32⟩
  | .hbm, ⟨3, _⟩ => ⟨S4352x1024, .f32⟩
  | .hbm, ⟨4, _⟩ => ⟨S1024x8704, .f32⟩
  | .hbm, ⟨5, _⟩ => ⟨S4352x8704, .f32⟩
  | .hbm, ⟨6, _⟩ => ⟨S4352x8704, .f32⟩
  | .hbm, ⟨7, _⟩ => ⟨S4352x1024, .f32⟩
  | _, _ => ⟨S1024x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4352x1024 : Shape := ⟨2, ![4352, 1024]⟩
abbrev S1024x8704 : Shape := ⟨2, ![1024, 8704]⟩
abbrev S4352x8704 : Shape := ⟨2, ![4352, 8704]⟩
abbrev S2176x1024 : Shape := ⟨2, ![2176, 1024]⟩
abbrev S1024x512 : Shape := ⟨2, ![1024, 512]⟩
abbrev S2176x512 : Shape := ⟨2, ![2176, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024x8704, .bf16⟩
  | .hbm, ⟨2, _⟩ => ⟨S4352x8704, .f32⟩
  | .local _ .vmem, ⟨0, _⟩ => ⟨S2176x1024, .f32⟩
  | .local _ .vmem, ⟨1, _⟩ => ⟨S2176x1024, .f32⟩
  | .local _ .vmem, ⟨2, _⟩ => ⟨S1024x512, .bf16⟩
  | .local _ .vmem, ⟨3, _⟩ => ⟨S1024x512, .bf16⟩
  | .local _ .vmem, ⟨4, _⟩ => ⟨S2176x512, .f32⟩
  | .local _ .vmem, ⟨5, _⟩ => ⟨S2176x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x1024 : Shape := ⟨2, ![4352, 1024]⟩
abbrev S1024x8704 : Shape := ⟨2, ![1024, 8704]⟩
abbrev S4352x8704 : Shape := ⟨2, ![4352, 8704]⟩

abbrev nBuf : Space → Nat
  | .hbm => 4
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x8704, .bf16⟩
  | .hbm, ⟨2, _⟩ => ⟨S1024x8704, .f32⟩
  | .hbm, ⟨3, _⟩ => ⟨S4352x8704, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S4352x1024 : Shape := ⟨2, ![4352, 1024]⟩
abbrev S1024x1024 : Shape := ⟨2, ![1024, 1024]⟩
abbrev S2x1024 : Shape := ⟨2, ![2, 1024]⟩
abbrev S544x1024 : Shape := ⟨2, ![544, 1024]⟩
abbrev S544x1 : Shape := ⟨2, ![544, 1]⟩
abbrev S1x1024 : Shape := ⟨2, ![1, 1024]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1024x1024, .bf16⟩
  | .hbm, ⟨3, _⟩ => ⟨S2x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S2x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1024x1024, .bf16⟩
  | .local _ .vmem, ⟨5, _⟩ => ⟨S2x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .f32⟩
  | .local _ .vmem, ⟨11, _⟩ => ⟨S544x1024, .f32⟩
  | .local _ .vmem, ⟨12, _⟩ => ⟨S1024x1024, .f32⟩
  | .local _ .vmem, ⟨13, _⟩ => ⟨S2x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S544x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4352x1024 : Shape := ⟨2, ![4352, 1024]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S256x1024 : Shape := ⟨2, ![256, 1024]⟩
abbrev S4096x1024 : Shape := ⟨2, ![4096, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1024x1024, .bf16⟩
  | .hbm, ⟨3, _⟩ => ⟨S2x1024, .f32⟩
  | .hbm, ⟨4, _⟩ => ⟨S4352x1024, .f32⟩
  | .hbm, ⟨5, _⟩ => ⟨S1024x1024, .f32⟩
  | .hbm, ⟨6, _⟩ => ⟨S1x1024, .f32⟩
  | .hbm, ⟨7, _⟩ => ⟨S1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S1x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4352x1024, .f32⟩
  | .hbm, ⟨25, _⟩ => ⟨S256x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S_, .f32⟩
  | .hbm, ⟨34, _⟩ => ⟨S1024, .f32⟩
  | .hbm, ⟨35, _⟩ => ⟨S1024x1024, .f32⟩
  | .hbm, ⟨36, _⟩ => ⟨S1024x1024, .f32⟩
  | .hbm, ⟨37, _⟩ => ⟨S4096x1024, .f32⟩
  | .hbm, ⟨38, _⟩ => ⟨S_, .f32⟩
  | .hbm, ⟨39, _⟩ => ⟨S4352x1024, .f32⟩
  | .hbm, ⟨40, _⟩ => ⟨S_, .f32⟩
  | .hbm, ⟨41, _⟩ => ⟨S4352x1024, .f32⟩
  | .hbm, ⟨42, _⟩ => ⟨S1x1024, .f32⟩
  | .hbm, ⟨43, _⟩ => ⟨S_, .f32⟩
  | .hbm, ⟨44, _⟩ => ⟨S2x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S1024, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S256x1024, .f32⟩
  | .hbm, ⟨57, _⟩ => ⟨S_, .f32⟩
  | .hbm, ⟨58, _⟩ => ⟨S4352x1024, .f32⟩
  | .hbm, ⟨59, _⟩ => ⟨S4352x1024, .f32⟩
  | .hbm, ⟨60, _⟩ => ⟨S_, .f32⟩
  | .hbm, ⟨61, _⟩ => ⟨S4352x1024, .f32⟩
  | .hbm, ⟨62, _⟩ => ⟨S4352x1024, .f32⟩
  | .hbm, ⟨63, _⟩ => ⟨S1x1024, .f32⟩
  | .hbm, ⟨64, _⟩ => ⟨S_, .f32⟩
  | .hbm, ⟨65, _⟩ => ⟨S2x1024, .f32⟩
  | .hbm, ⟨66, _⟩ => ⟨S2x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Kernel7.lean ====
abbrev S4352x1024 : Shape := ⟨2, ![4352, 1024]⟩
abbrev S1024x1024 : Shape := ⟨2, ![1024, 1024]⟩
abbrev S2x1024 : Shape := ⟨2, ![2, 1024]⟩
abbrev S544x1024 : Shape := ⟨2, ![544, 1024]⟩
abbrev S544x1 : Shape := ⟨2, ![544, 1]⟩
abbrev S1x1024 : Shape := ⟨2, ![1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1024x1024, .bf16⟩
  | .hbm, ⟨3, _⟩ => ⟨S2x1024, .f32⟩
  | .hbm, ⟨4, _⟩ => ⟨S4352x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1024x1024, .bf16⟩
  | .local _ .vmem, ⟨5, _⟩ => ⟨S2x1024, .f32⟩
  | .local _ .vmem, ⟨6, _⟩ => ⟨S544x1024, .f32⟩
  | .local _ .vmem, ⟨7, _⟩ => ⟨S544x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4352x1024 : Shape := ⟨2, ![4352, 1024]⟩
abbrev S1024x1024 : Shape := ⟨2, ![1024, 1024]⟩
abbrev S2x1024 : Shape := ⟨2, ![2, 1024]⟩
abbrev S1x1024 : Shape := ⟨2, ![1, 1024]⟩
abbrev S1024 : Shape := ⟨1, ![1024]⟩
abbrev S256x1024 : Shape := ⟨2, ![256, 1024]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4352x1024, .f32⟩
  | .hbm, ⟨2, _⟩ => ⟨S1024x1024, .bf16⟩
  | .hbm, ⟨3, _⟩ => ⟨S2x1024, .f32⟩
  | .hbm, ⟨4, _⟩ => ⟨S1024x1024, .f32⟩
  | .hbm, ⟨5, _⟩ => ⟨S1x1024, .f32⟩
  | .hbm, ⟨6, _⟩ => ⟨S1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S1x1024, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S1x1024, .f32⟩
  | .hbm, ⟨15, _⟩ => ⟨S1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4352x1024, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Proof.BackRun.lean ====
/- The retention's backward kernel, run once over its grid of 17 steps, at any number format.
   The first step finds the carried state unset; every later step finds the state, and the four accumulated blocks,
   as the step before left them.  What every step leaves is `left`, the run is `run_main`, the frame `frame`.
   Each step's triple is the generated one (`kernelRun0_A`, `kernelRun0_B`). -/
module

public import proofs.«01_k».proof.Proof.Gen.Kernel2Ideal.Frame.RunB
public import Idealize.ShloMosaic.Lib.Claim

@[expose] public section

set_option maxRecDepth 16384

noncomputable section

namespace Cert.Kernel2Ideal.Back

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a step leaves: the ten output blocks in order, then the carried state. -/
abbrev Left (F : FTy → Type) : Type :=
  Vec F S256x512 .f32 × Vec F S256x512 .f32 × Vec F S256x512 .f32 × Vec F S256x512 .f32 × Vec F S256x512 .f32 × Vec F S256x512 .f32 × Vec F S8x256x256 .f32 × Vec F S8x256x1 .f32 × Vec F S8x256x1 .f32 × Vec F S8x1x1 .f32 × Vec F S8x128x128 .f32

/-- The first step's run, at its blocks. -/
abbrev firstRun (c : Dev nD) (t : Fin cfg0.N) (h : t.val % 17 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- A later step's run, over what the step before left. -/
abbrev laterRun (c : Dev nD) (t : Fin cfg0.N) (h : ¬t.val % 17 = 0) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _)
    (fun g => h ((hcond0_0 t).mp g)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.2.2.2.2.2.1 p.2.2.2.2.2.2.2.1 p.2.2.2.2.2.2.2.2.1 p.2.2.2.2.2.2.2.2.2.1 p.2.2.2.2.2.2.2.2.2.2

/-- The stores of a first step to output 14 fill it. -/
theorem first_fills_14 (c : Dev nD) (t : Fin cfg0.N) (h : t.val % 17 = 0) (y : S256x512.Idx) :
    ∃ pc ∈ (firstRun m c t h).1, y ∈ pc.1.set :=
  View.cover_of_tiledL (firstRun m c t h).1 S256x128.size (by sl_kernel_rfl) y

/-- The stores of a first step to output 15 fill it. -/
theorem first_fills_15 (c : Dev nD) (t : Fin cfg0.N) (h : t.val % 17 = 0) (y : S256x512.Idx) :
    ∃ pc ∈ (firstRun m c t h).2.1, y ∈ pc.1.set :=
  View.cover_of_tiledL (firstRun m c t h).2.1 S256x128.size (by sl_kernel_rfl) y

/-- The stores of a first step to output 16 fill it. -/
theorem first_fills_16 (c : Dev nD) (t : Fin cfg0.N) (h : t.val % 17 = 0) (y : S256x512.Idx) :
    ∃ pc ∈ (firstRun m c t h).2.2.1, y ∈ pc.1.set :=
  View.cover_of_tiledL (firstRun m c t h).2.2.1 S256x128.size (by sl_kernel_rfl) y

/-- The stores of a first step to output 17 fill it. -/
theorem first_fills_17 (c : Dev nD) (t : Fin cfg0.N) (h : t.val % 17 = 0) (y : S256x512.Idx) :
    ∃ pc ∈ (firstRun m c t h).2.2.2.1, y ∈ pc.1.set :=
  View.cover_of_tiledL (firstRun m c t h).2.2.2.1 S256x128.size (by sl_kernel_rfl) y

/-- The stores of a first step to output 18 fill it. -/
theorem first_fills_18 (c : Dev nD) (t : Fin cfg0.N) (h : t.val % 17 = 0) (y : S256x512.Idx) :
    ∃ pc ∈ (firstRun m c t h).2.2.2.2.1, y ∈ pc.1.set :=
  View.cover_of_tiledL (firstRun m c t h).2.2.2.2.1 S256x128.size (by sl_kernel_rfl) y

/-- The stores of a first step to output 19 fill it. -/
theorem first_fills_19 (c : Dev nD) (t : Fin cfg0.N) (h : t.val % 17 = 0) (y : S256x512.Idx) :
    ∃ pc ∈ (firstRun m c t h).2.2.2.2.2.1, y ∈ pc.1.set :=
  View.cover_of_tiledL (firstRun m c t h).2.2.2.2.2.1 S256x128.size (by sl_kernel_rfl) y

/-- The stores of a first step to output 20 fill it. -/
theorem first_fills_20 (c : Dev nD) (t : Fin cfg0.N) (h : t.val % 17 = 0) (y : S8x256x256.Idx) :
    ∃ pc ∈ (firstRun m c t h).2.2.2.2.2.2.1, y ∈ pc.1.set :=
  View.cover_of_tiledBy (firstRun m c t h).2.2.2.2.2.2.1 ![1, 256, 256] (by sl_kernel_rfl) y

/-- The stores of a first step to output 21 fill it. -/
theorem first_fills_21 (c : Dev nD) (t : Fin cfg0.N) (h : t.val % 17 = 0) (y : S8x256x1.Idx) :
    ∃ pc ∈ (firstRun m c t h).2.2.2.2.2.2.2.1, y ∈ pc.1.set :=
  View.cover_of_tiledBy (firstRun m c t h).2.2.2.2.2.2.2.1 ![1, 256, 1] (by sl_kernel_rfl) y

/-- The stores of a first step to output 22 fill it. -/
theorem first_fills_22 (c : Dev nD) (t : Fin cfg0.N) (h : t.val % 17 = 0) (y : S8x256x1.Idx) :
    ∃ pc ∈ (firstRun m c t h).2.2.2.2.2.2.2.2.1, y ∈ pc.1.set :=
  View.cover_of_tiledBy (firstRun m c t h).2.2.2.2.2.2.2.2.1 ![1, 256, 1] (by sl_kernel_rfl) y

/-- The stores of a first step to output 23 fill it. -/
theorem first_fills_23 (c : Dev nD) (t : Fin cfg0.N) (h : t.val % 17 = 0) (y : S8x1x1.Idx) :
    ∃ pc ∈ (firstRun m c t h).2.2.2.2.2.2.2.2.2.1, y ∈ pc.1.set :=
  View.cover_of_tiledBy (firstRun m c t h).2.2.2.2.2.2.2.2.2.1 ![1, 1, 1] (by sl_kernel_rfl) y

/-- The stores of a first step to the state fill it. -/
theorem first_fills_24 (c : Dev nD) (t : Fin cfg0.N) (h : t.val % 17 = 0) (y : S8x128x128.Idx) :
    ∃ pc ∈ (firstRun m c t h).2.2.2.2.2.2.2.2.2.2.1, y ∈ pc.1.set :=
  View.cover_of_wholeMem (firstRun m c t h).2.2.2.2.2.2.2.2.2.2.1 (by sl_whole_mem) y

/-- What a first step leaves. -/
def first (c : Dev nD) (t : Fin cfg0.N) (h : t.val % 17 = 0) : Left F :=
  (VO0_14.read (Elt F) (VO0_14.writes (Elt F) VO0_14.junk (firstRun m c t h).1),
   VO0_15.read (Elt F) (VO0_15.writes (Elt F) VO0_15.junk (firstRun m c t h).2.1),
   VO0_16.read (Elt F) (VO0_16.writes (Elt F) VO0_16.junk (firstRun m c t h).2.2.1),
   VO0_17.read (Elt F) (VO0_17.writes (Elt F) VO0_17.junk (firstRun m c t h).2.2.2.1),
   VO0_18.read (Elt F) (VO0_18.writes (Elt F) VO0_18.junk (firstRun m c t h).2.2.2.2.1),
   VO0_19.read (Elt F) (VO0_19.writes (Elt F) VO0_19.junk (firstRun m c t h).2.2.2.2.2.1),
   VO0_20.read (Elt F) (VO0_20.writes (Elt F) VO0_20.junk (firstRun m c t h).2.2.2.2.2.2.1),
   VO0_21.read (Elt F) (VO0_21.writes (Elt F) VO0_21.junk (firstRun m c t h).2.2.2.2.2.2.2.1),
   VO0_22.read (Elt F) (VO0_22.writes (Elt F) VO0_22.junk (firstRun m c t h).2.2.2.2.2.2.2.2.1),
   VO0_23.read (Elt F) (VO0_23.writes (Elt F) VO0_23.junk (firstRun m c t h).2.2.2.2.2.2.2.2.2.1),
   VS0_0.read (Elt F) (VS0_0.writes (Elt F) VS0_0.junk (firstRun m c t h).2.2.2.2.2.2.2.2.2.2.1))

/-- The stores of a later step to output 14 fill it. -/
theorem later_fills_14 (c : Dev nD) (t : Fin cfg0.N) (h : ¬t.val % 17 = 0) (p : Left F) (y : S256x512.Idx) :
    ∃ pc ∈ (laterRun m c t h p).1, y ∈ pc.1.set :=
  View.cover_of_tiledL (laterRun m c t h p).1 S256x128.size (by sl_kernel_rfl) y

/-- The stores of a later step to output 15 fill it. -/
theorem later_fills_15 (c : Dev nD) (t : Fin cfg0.N) (h : ¬t.val % 17 = 0) (p : Left F) (y : S256x512.Idx) :
    ∃ pc ∈ (laterRun m c t h p).2.1, y ∈ pc.1.set :=
  View.cover_of_tiledL (laterRun m c t h p).2.1 S256x128.size (by sl_kernel_rfl) y

/-- The stores of a later step to output 16 fill it. -/
theorem later_fills_16 (c : Dev nD) (t : Fin cfg0.N) (h : ¬t.val % 17 = 0) (p : Left F) (y : S256x512.Idx) :
    ∃ pc ∈ (laterRun m c t h p).2.2.1, y ∈ pc.1.set :=
  View.cover_of_tiledL (laterRun m c t h p).2.2.1 S256x128.size (by sl_kernel_rfl) y

/-- The stores of a later step to output 17 fill it. -/
theorem later_fills_17 (c : Dev nD) (t : Fin cfg0.N) (h : ¬t.val % 17 = 0) (p : Left F) (y : S256x512.Idx) :
    ∃ pc ∈ (laterRun m c t h p).2.2.2.1, y ∈ pc.1.set :=
  View.cover_of_tiledL (laterRun m c t h p).2.2.2.1 S256x128.size (by sl_kernel_rfl) y

/-- The stores of a later step to output 18 fill it. -/
theorem later_fills_18 (c : Dev nD) (t : Fin cfg0.N) (h : ¬t.val % 17 = 0) (p : Left F) (y : S256x512.Idx) :
    ∃ pc ∈ (laterRun m c t h p).2.2.2.2.1, y ∈ pc.1.set :=
  View.cover_of_tiledL (laterRun m c t h p).2.2.2.2.1 S256x128.size (by sl_kernel_rfl) y

/-- The stores of a later step to output 19 fill it. -/
theorem later_fills_19 (c : Dev nD) (t : Fin cfg0.N) (h : ¬t.val % 17 = 0) (p : Left F) (y : S256x512.Idx) :
    ∃ pc ∈ (laterRun m c t h p).2.2.2.2.2.1, y ∈ pc.1.set :=
  View.cover_of_tiledL (laterRun m c t h p).2.2.2.2.2.1 S256x128.size (by sl_kernel_rfl) y

/-- The stores of a later step to output 20 fill it. -/
theorem later_fills_20 (c : Dev nD) (t : Fin cfg0.N) (h : ¬t.val % 17 = 0) (p : Left F) (y : S8x256x256.Idx) :
    ∃ pc ∈ (laterRun m c t h p).2.2.2.2.2.2.1, y ∈ pc.1.set :=
  View.cover_of_tiledL (laterRun m c t h p).2.2.2.2.2.2.1 S1x256x256.size (by sl_kernel_rfl) y

/-- The stores of a later step to output 21 fill it. -/
theorem later_fills_21 (c : Dev nD) (t : Fin cfg0.N) (h : ¬t.val % 17 = 0) (p : Left F) (y : S8x256x1.Idx) :
    ∃ pc ∈ (laterRun m c t h p).2.2.2.2.2.2.2.1, y ∈ pc.1.set :=
  View.cover_of_tiledL (laterRun m c t h p).2.2.2.2.2.2.2.1 S1x256x1.size (by sl_kernel_rfl) y

/-- The stores of a later step to output 22 fill it. -/
theorem later_fills_22 (c : Dev nD) (t : Fin cfg0.N) (h : ¬t.val % 17 = 0) (p : Left F) (y : S8x256x1.Idx) :
    ∃ pc ∈ (laterRun m c t h p).2.2.2.2.2.2.2.2.1, y ∈ pc.1.set :=
  View.cover_of_tiledL (laterRun m c t h p).2.2.2.2.2.2.2.2.1 S1x256x1.size (by sl_kernel_rfl) y

/-- The stores of a later step to output 23 fill it. -/
theorem later_fills_23 (c : Dev nD) (t : Fin cfg0.N) (h : ¬t.val % 17 = 0) (p : Left F) (y : S8x1x1.Idx) :
    ∃ pc ∈ (laterRun m c t h p).2.2.2.2.2.2.2.2.2.1, y ∈ pc.1.set :=
  View.cover_of_tiledL (laterRun m c t h p).2.2.2.2.2.2.2.2.2.1 S1x1x1.size (by sl_kernel_rfl) y

/-- The stores of a later step to the state fill it. -/
theorem later_fills_24 (c : Dev nD) (t : Fin cfg0.N) (h : ¬t.val % 17 = 0) (p : Left F) (y : S8x128x128.Idx) :
    ∃ pc ∈ (laterRun m c t h p).2.2.2.2.2.2.2.2.2.2.1, y ∈ pc.1.set :=
  View.cover_of_tiledL (laterRun m c t h p).2.2.2.2.2.2.2.2.2.2.1 S1x128x128.size (by sl_kernel_rfl) y

/-- What a later step leaves. -/
def later (c : Dev nD) (t : Fin cfg0.N) (h : ¬t.val % 17 = 0) (p : Left F) : Left F :=
  (VO0_14.read (Elt F) (VO0_14.writes (Elt F) VO0_14.junk (laterRun m c t h p).1),
   VO0_15.read (Elt F) (VO0_15.writes (Elt F) VO0_15.junk (laterRun m c t h p).2.1),
   VO0_16.read (Elt F) (VO0_16.writes (Elt F) VO0_16.junk (laterRun m c t h p).2.2.1),
   VO0_17.read (Elt F) (VO0_17.writes (Elt F) VO0_17.junk (laterRun m c t h p).2.2.2.1),
   VO0_18.read (Elt F) (VO0_18.writes (Elt F) VO0_18.junk (laterRun m c t h p).2.2.2.2.1),
   VO0_19.read (Elt F) (VO0_19.writes (Elt F) VO0_19.junk (laterRun m c t h p).2.2.2.2.2.1),
   VO0_20.read (Elt F) (VO0_20.writes (Elt F) VO0_20.junk (laterRun m c t h p).2.2.2.2.2.2.1),
   VO0_21.read (Elt F) (VO0_21.writes (Elt F) VO0_21.junk (laterRun m c t h p).2.2.2.2.2.2.2.1),
   VO0_22.read (Elt F) (VO0_22.writes (Elt F) VO0_22.junk (laterRun m c t h p).2.2.2.2.2.2.2.2.1),
   VO0_23.read (Elt F) (VO0_23.writes (Elt F) VO0_23.junk (laterRun m c t h p).2.2.2.2.2.2.2.2.2.1),
   VS0_0.read (Elt F) (VS0_0.writes (Elt F) VS0_0.junk (laterRun m c t h p).2.2.2.2.2.2.2.2.2.2.1))

/-- What step `n` leaves. -/
def left (c : Dev nD) : (n : ℕ) → n < cfg0.N → Left F
  | 0, hn => first m c ⟨0, hn⟩ (Nat.zero_mod _)
  | n + 1, hn =>
    if h : (n + 1) % 17 = 0 then first m c ⟨n + 1, hn⟩ h
    else later m c ⟨n + 1, hn⟩ h (left c n (Nat.lt_of_succ_lt hn))

theorem left_first (c : Dev nD) (t : Fin cfg0.N) (h : t.val % 17 = 0) : left m c t.val t.isLt = first m c t h := by
  obtain ⟨n, hn⟩ := t
  cases n with
  | zero => rw [left]
  | succ n => rw [left, dif_pos h]

theorem left_later (c : Dev nD) (t : Fin cfg0.N) (h : ¬t.val % 17 = 0) :
    left m c t.val t.isLt = later m c t h (left m c (t.val - 1) (Nat.lt_of_le_of_lt (Nat.sub_le _ _) t.isLt)) := by
  obtain ⟨n, hn⟩ := t
  cases n with
  | zero => exact absurd (Nat.zero_mod _) h
  | succ n => rw [left, dif_neg h]; rfl

/-- The invariant before step `n`: the state unset before the first step, afterwards as the step before left it. -/
def Inv (c : Dev nD) : (n : ℕ) → n ≤ cfg0.N → sProp 𝕄
  | 0, _ => Pipeline.ΦA spec0 c
  | n + 1, hn => iprop(iprop(owns (c : Thread nD τ) scM0_0 fullShare ((left m c n hn).2.2.2.2.2.2.2.2.2.2)) ∗ (∃ r, prngReg c r))

theorem Inv_zero (c : Dev nD) (n : ℕ) (h : n ≤ cfg0.N) (hz : n = 0) : Inv m c n h = Pipeline.ΦA spec0 c := by
  subst hz; rfl

theorem Inv_succ (c : Dev nD) (n : ℕ) (hn : n < cfg0.N) :
    Inv m c (n + 1) hn = iprop(iprop(owns (c : Thread nD τ) scM0_0 fullShare ((left m c n hn).2.2.2.2.2.2.2.2.2.2)) ∗ (∃ r, prngReg c r)) := rfl

theorem Inv_pos (c : Dev nD) (n : ℕ) (h : n ≤ cfg0.N) (hz : n ≠ 0) :
    Inv m c n h = iprop(iprop(owns (c : Thread nD τ) scM0_0 fullShare ((left m c (n - 1) (by omega)).2.2.2.2.2.2.2.2.2.2)) ∗ (∃ r, prngReg c r)) := by
  cases n with
  | zero => exact absurd rfl hz
  | succ n => rfl

/-- The pipeline's data: the arrays at entry, the blocks after each step, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (left m c t.val t.isLt).1
    | ⟨15, _⟩ => (left m c t.val t.isLt).2.1
    | ⟨16, _⟩ => (left m c t.val t.isLt).2.2.1
    | ⟨17, _⟩ => (left m c t.val t.isLt).2.2.2.1
    | ⟨18, _⟩ => (left m c t.val t.isLt).2.2.2.2.1
    | ⟨19, _⟩ => (left m c t.val t.isLt).2.2.2.2.2.1
    | ⟨20, _⟩ => (left m c t.val t.isLt).2.2.2.2.2.2.1
    | ⟨21, _⟩ => (left m c t.val t.isLt).2.2.2.2.2.2.2.1
    | ⟨22, _⟩ => (left m c t.val t.isLt).2.2.2.2.2.2.2.2.1
    | ⟨23, _⟩ => (left m c t.val t.isLt).2.2.2.2.2.2.2.2.2.1
    | ⟨_ + 24, h⟩ => absurd h (Nat.not_lt.2 (Nat.le_add_left _ _))
  Φ t := Inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = (left m c t.val t.isLt).1 := by dsimp only [dats]
theorem after_15 (c : Dev nD) (t : Fin cfg0.N) : (dats m 0 c).after 15 t = (left m c t.val t.isLt).2.1 := by dsimp only [dats]
theorem after_16 (c : Dev nD) (t : Fin cfg0.N) : (dats m 0 c).after 16 t = (left m c t.val t.isLt).2.2.1 := by dsimp only [dats]
theorem after_17 (c : Dev nD) (t : Fin cfg0.N) : (dats m 0 c).after 17 t = (left m c t.val t.isLt).2.2.2.1 := by dsimp only [dats]
theorem after_18 (c : Dev nD) (t : Fin cfg0.N) : (dats m 0 c).after 18 t = (left m c t.val t.isLt).2.2.2.2.1 := by dsimp only [dats]
theorem after_19 (c : Dev nD) (t : Fin cfg0.N) : (dats m 0 c).after 19 t = (left m c t.val t.isLt).2.2.2.2.2.1 := by dsimp only [dats]
theorem after_20 (c : Dev nD) (t : Fin cfg0.N) : (dats m 0 c).after 20 t = (left m c t.val t.isLt).2.2.2.2.2.2.1 := by dsimp only [dats]
theorem after_21 (c : Dev nD) (t : Fin cfg0.N) : (dats m 0 c).after 21 t = (left m c t.val t.isLt).2.2.2.2.2.2.2.1 := by dsimp only [dats]
theorem after_22 (c : Dev nD) (t : Fin cfg0.N) : (dats m 0 c).after 22 t = (left m c t.val t.isLt).2.2.2.2.2.2.2.2.1 := by dsimp only [dats]
theorem after_23 (c : Dev nD) (t : Fin cfg0.N) : (dats m 0 c).after 23 t = (left m c t.val t.isLt).2.2.2.2.2.2.2.2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-- A later step finds output 20 as the step before left it. -/
theorem before_20 (c : Dev nD) (t : Fin cfg0.N) (h0 : ¬t.val % 17 = 0) (d) :
    (dats m 0 c).before 20 t d = (left m c (t.val - 1) (Nat.lt_of_le_of_lt (Nat.sub_le _ _) t.isLt)).2.2.2.2.2.2.1 := by
  have hN : t.val < 17 := lt_of_lt_of_eq t.isLt (show cfg0.N = 17 from N_0)
  rw [Dat.before_out_kept _ 20 rfl t (by omega) (Bool.eq_false_iff.mpr fun h => by have := (flush0_20 _).mp h; dsimp only at this; omega)
    (fun _ => rfl) (fun _ _ => rfl)]
  dsimp only [dats]

/-- A later step finds output 21 as the step before left it. -/
theorem before_21 (c : Dev nD) (t : Fin cfg0.N) (h0 : ¬t.val % 17 = 0) (d) :
    (dats m 0 c).before 21 t d = (left m c (t.val - 1) (Nat.lt_of_le_of_lt (Nat.sub_le _ _) t.isLt)).2.2.2.2.2.2.2.1 := by
  have hN : t.val < 17 := lt_of_lt_of_eq t.isLt (show cfg0.N = 17 from N_0)
  rw [Dat.before_out_kept _ 21 rfl t (by omega) (Bool.eq_false_iff.mpr fun h => by have := (flush0_21 _).mp h; dsimp only at this; omega)
    (fun _ => rfl) (fun _ _ => rfl)]
  dsimp only [dats]

/-- A later step finds output 22 as the step before left it. -/
theorem before_22 (c : Dev nD) (t : Fin cfg0.N) (h0 : ¬t.val % 17 = 0) (d) :
    (dats m 0 c).before 22 t d = (left m c (t.val - 1) (Nat.lt_of_le_of_lt (Nat.sub_le _ _) t.isLt)).2.2.2.2.2.2.2.2.1 := by
  have hN : t.val < 17 := lt_of_lt_of_eq t.isLt (show cfg0.N = 17 from N_0)
  rw [Dat.before_out_kept _ 22 rfl t (by omega) (Bool.eq_false_iff.mpr fun h => by have := (flush0_22 _).mp h; dsimp only at this; omega)
    (fun _ => rfl) (fun _ _ => rfl)]
  dsimp only [dats]

/-- A later step finds output 23 as the step before left it. -/
theorem before_23 (c : Dev nD) (t : Fin cfg0.N) (h0 : ¬t.val % 17 = 0) (d) :
    (dats m 0 c).before 23 t d = (left m c (t.val - 1) (Nat.lt_of_le_of_lt (Nat.sub_le _ _) t.isLt)).2.2.2.2.2.2.2.2.2.1 := by
  have hN : t.val < 17 := lt_of_lt_of_eq t.isLt (show cfg0.N = 17 from N_0)
  rw [Dat.before_out_kept _ 23 rfl t (by omega) (Bool.eq_false_iff.mpr fun h => by have := (flush0_23 _).mp h; dsimp only at this; omega)
    (fun _ => rfl) (fun _ _ => rfl)]
  dsimp only [dats]

/-- What the body is given at a step, -/
def Given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it gives back. -/
def Returned (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 19200000 in
/-- The body at any step. -/
theorem body (c : Dev nD) (t : Fin cfg0.N) :
    Given m c t ⊢ wp frame (wpE (defs₀ (F := F)) Variants.none c none) Set.univ (bodyAt0 t) (fun _ => Returned m c t) := by
  unfold Given Returned bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23]
  rw [show (dats m 0 c).Φ t.succ = Inv m c (t.val + 1) t.isLt from rfl, Inv_succ]
  have hN : t.val < 17 := lt_of_lt_of_eq t.isLt (show cfg0.N = 17 from N_0)
  by_cases h0 : t.val % 17 = 0
  · have hz : t.val = 0 := by omega
    rw [Inv_castSucc m c t, Inv_zero m c _ _ hz, PhiA0_eq, left_first m c t h0]
    unfold first; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((firstRun m c t h0).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [HS0]; · iexact HS0
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩⟩
    isplitl [HS0 Hg]
    · isplitl [HS0]
      · unfold owns; iexists _; isplitr
        swap; · iexact HS0
        ipureintro; exact View.read_writes_of_cover _ _ _ _ _ (first_fills_24 m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (first_fills_14 m c t h0)
    isplitl [H15]
    · unfold owns; iexists _; isplitr
      swap; · iexact H15
      ipureintro; exact View.read_writes_of_cover _ _ _ _ _ (first_fills_15 m c t h0)
    isplitl [H16]
    · unfold owns; iexists _; isplitr
      swap; · iexact H16
      ipureintro; exact View.read_writes_of_cover _ _ _ _ _ (first_fills_16 m c t h0)
    isplitl [H17]
    · unfold owns; iexists _; isplitr
      swap; · iexact H17
      ipureintro; exact View.read_writes_of_cover _ _ _ _ _ (first_fills_17 m c t h0)
    isplitl [H18]
    · unfold owns; iexists _; isplitr
      swap; · iexact H18
      ipureintro; exact View.read_writes_of_cover _ _ _ _ _ (first_fills_18 m c t h0)
    isplitl [H19]
    · unfold owns; iexists _; isplitr
      swap; · iexact H19
      ipureintro; exact View.read_writes_of_cover _ _ _ _ _ (first_fills_19 m c t h0)
    isplitl [H20]
    · unfold owns; iexists _; isplitr
      swap; · iexact H20
      ipureintro; exact View.read_writes_of_cover _ _ _ _ _ (first_fills_20 m c t h0)
    isplitl [H21]
    · unfold owns; iexists _; isplitr
      swap; · iexact H21
      ipureintro; exact View.read_writes_of_cover _ _ _ _ _ (first_fills_21 m c t h0)
    isplitl [H22]
    · unfold owns; iexists _; isplitr
      swap; · iexact H22
      ipureintro; exact View.read_writes_of_cover _ _ _ _ _ (first_fills_22 m c t h0)
    unfold owns; iexists _; isplitr
    swap; · iexact H23
    ipureintro; exact View.read_writes_of_cover _ _ _ _ _ (first_fills_23 m c t h0)
  · have hz : t.val ≠ 0 := by omega
    rw [Inv_castSucc m c t, Inv_pos m c _ _ hz, left_later m c t h0]
    simp only [before_20 m c t h0, before_21 m c t h0, before_22 m c t h0, before_23 m c t h0]
    generalize (left m c (t.val - 1) (Nat.lt_of_le_of_lt (Nat.sub_le _ _) t.isLt)) = p
    unfold later; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
    iapply ((laterRun m c t h0 p).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexact H20
    isplitl [H21]; · iexact H21
    isplitl [H22]; · iexact H22
    isplitl [H23]; · iexact H23
    isplitl [HS0]; · iexact HS0
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%es0, HS0⟩⟩
    isplitl [HS0 Hg]
    · isplitl [HS0]
      · unfold owns; iexists _; isplitr
        swap; · iexact HS0
        ipureintro; exact View.read_writes_of_cover _ _ _ _ _ (later_fills_24 m c t h0 p)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · unfold owns; iexists _; isplitr
      swap; · iexact H14
      ipureintro; exact View.read_writes_of_cover _ _ _ _ _ (later_fills_14 m c t h0 p)
    isplitl [H15]
    · unfold owns; iexists _; isplitr
      swap; · iexact H15
      ipureintro; exact View.read_writes_of_cover _ _ _ _ _ (later_fills_15 m c t h0 p)
    isplitl [H16]
    · unfold owns; iexists _; isplitr
      swap; · iexact H16
      ipureintro; exact View.read_writes_of_cover _ _ _ _ _ (later_fills_16 m c t h0 p)
    isplitl [H17]
    · unfold owns; iexists _; isplitr
      swap; · iexact H17
      ipureintro; exact View.read_writes_of_cover _ _ _ _ _ (later_fills_17 m c t h0 p)
    isplitl [H18]
    · unfold owns; iexists _; isplitr
      swap; · iexact H18
      ipureintro; exact View.read_writes_of_cover _ _ _ _ _ (later_fills_18 m c t h0 p)
    isplitl [H19]
    · unfold owns; iexists _; isplitr
      swap; · iexact H19
      ipureintro; exact View.read_writes_of_cover _ _ _ _ _ (later_fills_19 m c t h0 p)
    isplitl [H20]
    · unfold owns; iexists _; isplitr
      swap; · iexact H20
      ipureintro; exact View.read_writes_of_cover _ _ _ _ _ (later_fills_20 m c t h0 p)
    isplitl [H21]
    · unfold owns; iexists _; isplitr
      swap; · iexact H21
      ipureintro; exact View.read_writes_of_cover _ _ _ _ _ (later_fills_21 m c t h0 p)
    isplitl [H22]
    · unfold owns; iexists _; isplitr
      swap; · iexact H22
      ipureintro; exact View.read_writes_of_cover _ _ _ _ _ (later_fills_22 m c t h0 p)
    unfold owns; iexists _; isplitr
    swap; · iexact H23
    ipureintro; exact View.read_writes_of_cover _ _ _ _ _ (later_fills_23 m c t h0 p)

/-- The body as the pipeline calls it. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body m c t) rfl .rfl fun _ => .rfl

theorem enters (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem leaves (c : Dev nD) : (dats m 0 c).Φ (Fin.last cfg0.N) ⊢ Pipeline.ΦA spec0 c := by
  have hN : (Fin.last cfg0.N).val ≠ 0 := by rw [Fin.val_last]; have : cfg0.N = 17 := N_0; omega
  rw [show (dats m 0 c).Φ (Fin.last cfg0.N) = Inv m c (Fin.last cfg0.N).val (Nat.le_of_lt_succ (Fin.last cfg0.N).isLt) from rfl,
    Inv_pos m c _ _ hN, PhiA0_eq]
  iintro ⟨HS0, Hg⟩
  isplitl [HS0]
  · iexists _; iexact HS0
  iexact Hg

set_option backward.isDefEq.respectTransparency.types false in
/-- The run, every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enters m) (hout := leaves m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.Kernel2Ideal.Back

end
-- ==== Proof.Math.lean ====
/- Retention over the real numbers: the sums over all earlier rows against the sums over one chunk and a carried state. -/
module

public import Mathlib.Algebra.BigOperators.Fin
public import Mathlib.Data.Real.Basic
public import Mathlib.Tactic.Ring
public import Mathlib.Tactic.Linarith
public import Mathlib.Algebra.BigOperators.Ring.Finset

@[expose] public section

noncomputable section

namespace Cert.Retention

open Finset

/-- The weight of a row at position `b` in the output of a row at position `a`. -/
def decay (g : ℕ → ℝ) (a b : ℕ) : ℝ := if b ≤ a then g (a - b) else 0

/-- The weight, in the state that meets a chunk beginning at position `a`, of a row at position `b`. -/
def past (g : ℕ → ℝ) (a b : ℕ) : ℝ := if b + 1 ≤ a then g (a - 1 - b) else 0

/-- The weight, in the gradient of the state that meets a chunk beginning at position `b`, of a row at position `a`. -/
def ahead (g : ℕ → ℝ) (a b : ℕ) : ℝ := if b ≤ a then g (a + 1 - b) else 0

section

variable {g : ℕ → ℝ} (h0 : g 0 = 1) (ha : ∀ a b, g (a + b) = g a * g b)
include ha

theorem decay_past (n n' x x' : ℕ) (hx : x < 256) (hx' : x' < 256) :
    decay g (256 * n + x) (256 * n' + x') =
      past g (256 * n) (256 * n' + x') * g (x + 1) + (if n' = n then decay g x x' else 0) := by
  unfold decay past
  rcases lt_trichotomy n' n with h | h | h
  · rw [if_pos (by omega), if_pos (by omega), if_neg (by omega), add_zero, ← ha]
    exact congrArg g (by omega)
  · subst h
    rw [if_neg (show ¬(256 * n' + x' + 1 ≤ 256 * n') by omega), zero_mul, zero_add, if_pos rfl]
    by_cases h : x' ≤ x
    · rw [if_pos (by omega), if_pos h]; exact congrArg g (by omega)
    · rw [if_neg (by omega), if_neg h]
  · rw [if_neg (by omega), if_neg (by omega), if_neg (by omega)]; ring

theorem decay_ahead (n n' x x' : ℕ) (hx : x < 256) (hx' : x' < 256) :
    decay g (256 * n' + x') (256 * n + x) =
      ahead g (256 * n' + x') (256 * (n + 1)) * g (255 - x) + (if n' = n then decay g x' x else 0) := by
  unfold decay ahead
  rcases lt_trichotomy n' n with h | h | h
  · rw [if_neg (by omega), if_neg (by omega), if_neg (by omega)]; ring
  · subst h
    rw [if_neg (show ¬(256 * (n' + 1) ≤ 256 * n' + x') by omega), zero_mul, zero_add, if_pos rfl]
    by_cases h : x ≤ x'
    · rw [if_pos (by omega), if_pos h]; exact congrArg g (by omega)
    · rw [if_neg (by omega), if_neg h]
  · rw [if_pos (by omega), if_pos (by omega), if_neg (by omega), add_zero, ← ha]
    exact congrArg g (by omega)

theorem past_succ (n n' x' : ℕ) (hx' : x' < 256) :
    past g (256 * (n + 1)) (256 * n' + x') =
      past g (256 * n) (256 * n' + x') * g 256 + (if n' = n then g (255 - x') else 0) := by
  unfold past
  rcases lt_trichotomy n' n with h | h | h
  · rw [if_pos (by omega), if_pos (by omega), if_neg (by omega), add_zero, ← ha]
    exact congrArg g (by omega)
  · subst h
    rw [if_pos (by omega), if_neg (show ¬(256 * n' + x' + 1 ≤ 256 * n') by omega), if_pos rfl, zero_mul, zero_add]
    exact congrArg g (by omega)
  · rw [if_neg (by omega), if_neg (by omega), if_neg (by omega)]; ring

theorem ahead_pred (n n' x' : ℕ) (hx' : x' < 256) :
    ahead g (256 * n' + x') (256 * n) =
      ahead g (256 * n' + x') (256 * (n + 1)) * g 256 + (if n' = n then g (x' + 1) else 0) := by
  unfold ahead
  rcases lt_trichotomy n' n with h | h | h
  · rw [if_neg (by omega), if_neg (by omega), if_neg (by omega)]; ring
  · subst h
    rw [if_pos (by omega), if_neg (show ¬(256 * (n' + 1) ≤ 256 * n' + x') by omega), if_pos rfl, zero_mul, zero_add]
    exact congrArg g (by omega)
  · rw [if_pos (by omega), if_pos (by omega), if_neg (by omega), add_zero, ← ha]
    exact congrArg g (by omega)

end

/-- The sum over one chunk, out of a sum over all of them. -/
theorem sum_chunk (N : ℕ) (n : Fin N) (f : Fin N → Fin 256 → ℝ) :
    ∑ n' : Fin N, ∑ l : Fin 256, (if n'.val = n.val then f n' l else 0) = ∑ l : Fin 256, f n l := by
  rw [Finset.sum_eq_single n]
  · exact Finset.sum_congr rfl fun l _ => if_pos rfl
  · intro b _ hb
    exact Finset.sum_eq_zero fun l _ => if_neg fun h => hb (Fin.ext h)
  · exact fun h => absurd (Finset.mem_univ n) h

section

variable {g : ℕ → ℝ} (ha : ∀ a b, g (a + b) = g a * g b) {N : ℕ} {lp : Fin 256 → ℕ} (hlp : ∀ l, lp l < 256)

/-- The state that meets chunk `n`: the weighted sum of what the rows before it bring. -/
def state (g : ℕ → ℝ) (N : ℕ) (lp : Fin 256 → ℕ) (f : Fin N → Fin 256 → ℝ) (n : ℕ) : ℝ :=
  ∑ n' : Fin N, ∑ l : Fin 256, past g (256 * n) (256 * n'.val + lp l) * f n' l

/-- The gradient of that state: the weighted sum of what the rows from chunk `n` on bring. -/
def grad (g : ℕ → ℝ) (N : ℕ) (lp : Fin 256 → ℕ) (f : Fin N → Fin 256 → ℝ) (n : ℕ) : ℝ :=
  ∑ n' : Fin N, ∑ l : Fin 256, ahead g (256 * n'.val + lp l) (256 * n) * f n' l

omit ha in
theorem state_zero (f : Fin N → Fin 256 → ℝ) : state g N lp f 0 = 0 :=
  Finset.sum_eq_zero fun n' _ => Finset.sum_eq_zero fun l _ => by
    unfold past; rw [if_neg (by omega), zero_mul]

include hlp in
omit ha in
theorem grad_last (f : Fin N → Fin 256 → ℝ) : grad g N lp f N = 0 :=
  Finset.sum_eq_zero fun n' _ => Finset.sum_eq_zero fun l _ => by
    have := hlp l; have := n'.isLt
    unfold ahead; rw [if_neg (by omega), zero_mul]

include ha hlp

theorem state_succ (f : Fin N → Fin 256 → ℝ) (n : Fin N) :
    state g N lp f (n.val + 1) = state g N lp f n.val * g 256 + ∑ l : Fin 256, g (255 - lp l) * f n l := by
  rw [← sum_chunk N n (fun n' l => g (255 - lp l) * f n' l)]
  unfold state
  simp only [Finset.sum_mul, ← Finset.sum_add_distrib]
  refine Finset.sum_congr rfl fun n' _ => Finset.sum_congr rfl fun l _ => ?_
  rw [past_succ ha _ _ _ (hlp l)]
  split_ifs <;> ring

theorem grad_pred (f : Fin N → Fin 256 → ℝ) (n : Fin N) :
    grad g N lp f n.val = grad g N lp f (n.val + 1) * g 256 + ∑ l : Fin 256, g (lp l + 1) * f n l := by
  rw [← sum_chunk N n (fun n' l => g (lp l + 1) * f n' l)]
  unfold grad
  simp only [Finset.sum_mul, ← Finset.sum_add_distrib]
  refine Finset.sum_congr rfl fun n' _ => Finset.sum_congr rfl fun l _ => ?_
  rw [ahead_pred ha _ _ _ (hlp l)]
  split_ifs <;> ring

/-- A row's weighted sum over the rows up to it: its own chunk's, and the state's. -/
theorem sum_decay_past (f : Fin N → Fin 256 → ℝ) (n : Fin N) (l : Fin 256) :
    ∑ n' : Fin N, ∑ l' : Fin 256, decay g (256 * n.val + lp l) (256 * n'.val + lp l') * f n' l' =
      ∑ l' : Fin 256, decay g (lp l) (lp l') * f n l' + state g N lp f n.val * g (lp l + 1) := by
  rw [← sum_chunk N n (fun n' l' => decay g (lp l) (lp l') * f n' l'), add_comm (∑ n' : Fin N, _)]
  unfold state
  simp only [Finset.sum_mul, ← Finset.sum_add_distrib]
  refine Finset.sum_congr rfl fun n' _ => Finset.sum_congr rfl fun l' _ => ?_
  rw [decay_past ha _ _ _ _ (hlp l) (hlp l')]
  split_ifs <;> ring

/-- A row's weighted sum over the rows from it on: its own chunk's, and the gradient's of the next chunk's state. -/
theorem sum_decay_ahead (f : Fin N → Fin 256 → ℝ) (n : Fin N) (l : Fin 256) :
    ∑ n' : Fin N, ∑ l' : Fin 256, decay g (256 * n'.val + lp l') (256 * n.val + lp l) * f n' l' =
      ∑ l' : Fin 256, decay g (lp l') (lp l) * f n l' + grad g N lp f (n.val + 1) * g (255 - lp l) := by
  rw [← sum_chunk N n (fun n' l' => decay g (lp l') (lp l) * f n' l'), add_comm (∑ n' : Fin N, _)]
  unfold grad
  simp only [Finset.sum_mul, ← Finset.sum_add_distrib]
  refine Finset.sum_congr rfl fun n' _ => Finset.sum_congr rfl fun l' _ => ?_
  rw [decay_ahead ha _ _ _ _ (hlp l) (hlp l')]
  split_ifs <;> ring

end

/-- The order in which the chunks of a scan come: in their own order, or the context chunk first and then the others
backwards. -/
def chunkAt (rev : Bool) (n : Fin 17) : Fin 17 :=
  ⟨if rev = true then (if n.val = 0 then 0 else 17 - n.val) else n.val, by
    have hn := n.isLt
    split_ifs <;> omega⟩

theorem chunkAt_val (rev : Bool) (n : Fin 17) :
    (chunkAt rev n).val = if rev then (if n.val = 0 then 0 else 17 - n.val) else n.val := rfl

theorem chunkAt_chunkAt (rev : Bool) (n : Fin 17) : chunkAt rev (chunkAt rev n) = n := by
  have hn := n.isLt
  refine Fin.ext ?_
  simp only [chunkAt_val]
  split_ifs <;> omega

/-- The place of a chunk's row in the scan's order. -/
def lane (rev : Bool) (l : Fin 256) : ℕ := if rev then 255 - l.val else l.val

theorem lane_lt (rev : Bool) (l : Fin 256) : lane rev l < 256 := by
  have hl := l.isLt
  unfold lane
  split_ifs <;> omega

/-- The row that comes at place `l` of the chunk met at step `n`. -/
def rowAt (rev : Bool) (n : Fin 17) (l : Fin 256) : Fin 4352 := ⟨256 * (chunkAt rev n).val + l.val, by
    have h1 := (chunkAt rev n).isLt
    have h2 := l.isLt
    omega⟩

/-- A row's position in the scan's order. -/
def pos (rev : Bool) (r : Fin 4352) : ℕ :=
  if rev then (if r.val < 256 then 255 - r.val else 4607 - r.val) else r.val

theorem pos_rowAt (rev : Bool) (n : Fin 17) (l : Fin 256) : pos rev (rowAt rev n l) = 256 * n.val + lane rev l := by
  have hn := n.isLt
  have hl := l.isLt
  unfold pos rowAt lane
  simp only [chunkAt_val]
  by_cases hr : rev = true
  · simp only [hr, if_true]
    by_cases h : n.val = 0
    · simp only [h, if_true]; rw [if_pos (by omega)]; omega
    · simp only [h, if_false]; rw [if_neg (by omega)]; omega
  · simp only [hr, if_false, Bool.false_eq_true]

/-- A sum over the rows, chunk by chunk in the scan's order. -/
theorem sum_rows {M : Type} [AddCommMonoid M] (rev : Bool) (f : Fin 4352 → M) :
    ∑ r : Fin 4352, f r = ∑ n : Fin 17, ∑ l : Fin 256, f (rowAt rev n l) := by
  rw [← Equiv.sum_comp (Function.Involutive.toPerm (chunkAt rev) (chunkAt_chunkAt rev))
    (fun n => ∑ l : Fin 256, f (rowAt rev n l)), ← Fintype.sum_prod_type']
  rw [← Equiv.sum_comp (finProdFinEquiv : Fin 17 × Fin 256 ≃ Fin (17 * 256))]
  refine Finset.sum_congr rfl fun x _ => congrArg f (Fin.ext ?_)
  have h : chunkAt rev ((Function.Involutive.toPerm (chunkAt rev) (chunkAt_chunkAt rev)) x.1) = x.1 :=
    chunkAt_chunkAt rev x.1
  simp only [finProdFinEquiv_apply_val, rowAt, h]
  omega

end Cert.Retention

end
-- ==== Proof.Decay.lean ====
/- The decay of one head as a real number: powers of the exponential of the logarithm of a sigmoid, and what the
   programs' words for positions and gaps denote. -/
module

public import proofs.«01_k».proof.Proof.Math
public import Idealize.ShloMosaic.Lib.Pipeline.ValueKit

@[expose] public section

noncomputable section

namespace Cert.Retention

open Idealize.ShloMosaic

/-- The logarithm of a sigmoid, as both programs spell it. -/
def logSigmoid (x : EReal) : EReal :=
  -(if -x ≠ -x then -x else
    max (-x) 0 + Ideal.log1p (Ideal.exp (-FloatOps.absf (F := Ideal) (φ := .f32) (-x))))

theorem log1p_exp_ne_bot (y : EReal) : Ideal.log1p (Ideal.exp y) ≠ ⊥ := by
  unfold Ideal.log1p
  induction y using EReal.rec with
  | bot =>
    rw [Ideal.exp_bot, add_zero, ← EReal.coe_one, Ideal.log_coe, if_neg (by norm_num)]
    exact EReal.coe_ne_bot _
  | top => rw [Ideal.exp_top, EReal.add_top_of_ne_bot (by exact EReal.coe_ne_bot 1), Ideal.log_top]; exact top_ne_bot
  | coe r =>
    rw [Ideal.exp_coe, ← EReal.coe_one, ← EReal.coe_add, Ideal.log_coe, if_neg (by have := Real.exp_pos r; linarith)]
    exact EReal.coe_ne_bot _

theorem logSigmoid_ne_top (x : EReal) : logSigmoid x ≠ ⊤ := by
  unfold logSigmoid
  rw [if_neg (not_not.mpr rfl)]
  intro h
  rw [EReal.neg_eq_top_iff, EReal.add_eq_bot_iff] at h
  rcases h with h | h
  · exact absurd (le_max_right (-x) 0) (by rw [h]; exact not_le.mpr EReal.bot_lt_zero)
  · exact log1p_exp_ne_bot _ h

/-- The decay over `n` rows, of a head whose decay's logarithm is `lg`. -/
def gam (lg : EReal) (n : ℕ) : ℝ := (Ideal.exp (((n : ℝ) : EReal) * lg)).toReal

section
variable {lg : EReal} (hlg : lg ≠ ⊤)
include hlg

theorem exp_nat (n : ℕ) : Ideal.exp (((n : ℝ) : EReal) * lg) = ((gam lg n : ℝ) : EReal) := by
  unfold gam
  induction lg using EReal.rec with
  | top => exact absurd rfl hlg
  | bot =>
    rcases Nat.eq_zero_or_pos n with h | h
    · subst h
      rw [Nat.cast_zero, EReal.coe_zero, zero_mul, ← EReal.coe_zero, Ideal.exp_coe, EReal.toReal_coe]
    · rw [EReal.coe_mul_bot_of_pos (by exact_mod_cast h), Ideal.exp_bot, EReal.toReal_zero, EReal.coe_zero]
  | coe r => rw [← EReal.coe_mul, Ideal.exp_coe, EReal.toReal_coe]

omit hlg in
theorem gam_zero : gam lg 0 = 1 := by
  unfold gam
  rw [Nat.cast_zero, EReal.coe_zero, zero_mul, ← EReal.coe_zero, Ideal.exp_coe, EReal.toReal_coe, Real.exp_zero]

theorem gam_add (a b : ℕ) : gam lg (a + b) = gam lg a * gam lg b := by
  unfold gam
  induction lg using EReal.rec with
  | top => exact absurd rfl hlg
  | bot =>
    rcases Nat.eq_zero_or_pos a with h | h
    · subst h
      rw [Nat.cast_zero, EReal.coe_zero, zero_mul, ← EReal.coe_zero, Ideal.exp_coe, EReal.toReal_coe, Real.exp_zero,
        one_mul, Nat.zero_add]
    · rw [EReal.coe_mul_bot_of_pos (by exact_mod_cast Nat.add_pos_left h b),
        EReal.coe_mul_bot_of_pos (show (0 : ℝ) < (a : ℝ) by exact_mod_cast h), Ideal.exp_bot, EReal.toReal_zero, zero_mul]
  | coe r =>
    simp only [← EReal.coe_mul, Ideal.exp_coe, EReal.toReal_coe]
    rw [← Real.exp_add]
    push_cast
    ring_nf

/-- The masked exponential of a gap of `z` rows. -/
theorem exp_int (z : ℤ) :
    Ideal.exp (if (0 : EReal) ≤ ((z : ℝ) : EReal) then ((z : ℝ) : EReal) * lg else ⊥) =
      ((if 0 ≤ z then gam lg z.toNat else 0 : ℝ) : EReal) := by
  by_cases h : 0 ≤ z
  · rw [if_pos (by exact_mod_cast h), if_pos h, ← exp_nat hlg]
    have h' : ((z.toNat : ℕ) : ℝ) = (z : ℝ) := by exact_mod_cast Int.toNat_of_nonneg h
    rw [h']
  · rw [if_neg (by intro h'; exact h (by exact_mod_cast h')), if_neg h, Ideal.exp_bot, EReal.coe_zero]

theorem exp_decay (z : ℤ) (a b : ℕ) (hz : z = (a : ℤ) - b) :
    Ideal.exp (if (0 : EReal) ≤ ((z : ℝ) : EReal) then ((z : ℝ) : EReal) * lg else ⊥) = ((decay (gam lg) a b : ℝ) : EReal) := by
  rw [exp_int hlg]
  unfold decay
  by_cases h : b ≤ a
  · rw [if_pos (by omega), if_pos h, show z.toNat = a - b by omega]
  · rw [if_neg (by omega), if_neg h]

theorem exp_past (z : ℤ) (a b : ℕ) (hz : z = (a : ℤ) - 1 - b) :
    Ideal.exp (if (0 : EReal) ≤ ((z : ℝ) : EReal) then ((z : ℝ) : EReal) * lg else ⊥) = ((past (gam lg) a b : ℝ) : EReal) := by
  rw [exp_int hlg]
  unfold past
  by_cases h : b + 1 ≤ a
  · rw [if_pos (by omega), if_pos h, show z.toNat = a - 1 - b by omega]
  · rw [if_neg (by omega), if_neg h]

end

/-! ### Words -/

theorem ofNat_toInt (a : ℕ) (h : a < 2 ^ 31) : (BitVec.ofNat 32 a).toInt = (a : ℤ) := by
  rw [BitVec.toInt_eq_toNat_of_lt] <;> rw [BitVec.toNat_ofNat] <;> omega

theorem subi_toInt (x y : BitVec 32) (a b : ℤ) (hx : x.toInt = a) (hy : y.toInt = b) (ha : -2 ^ 30 ≤ a) (ha' : a < 2 ^ 30)
    (hb : -2 ^ 30 ≤ b) (hb' : b < 2 ^ 30) : (IntOp.subi x y).toInt = a - b := by
  show (x - y).toInt = a - b
  rw [BitVec.toInt_sub, hx, hy, Int.bmod_def]
  split_ifs <;> omega

theorem muli_toInt (x y : BitVec 32) (a b : ℤ) (hx : x.toInt = a) (hy : y.toInt = b) (h : -2 ^ 30 ≤ a * b) (h' : a * b < 2 ^ 30) :
    (IntOp.muli x y).toInt = a * b := by
  show (x * y).toInt = a * b
  rw [BitVec.toInt_mul, hx, hy, Int.bmod_def]
  split_ifs <;> omega

end Cert.Retention

end
-- ==== Proof.Spec.lean ====
/- The results as sums over all the rows, and their parts chunk by chunk. -/
module

public import proofs.«01_k».proof.Proof.Decay

@[expose] public section

noncomputable section

namespace Cert.Retention

open Idealize.ShloMosaic

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The column `x` of the head that column `c` lies in. -/
def sib (c : Fin 512) (x : Fin 128) : Fin 512 := ⟨c.val / 128 * 128 + x.val, by
  have h1 := c.isLt
  have h2 := x.isLt
  omega⟩

/-- The index of the decay of a scan's head `c / 128`: the forward scan's four first. -/
def chain (rev : Bool) (c : Fin 512) : Fin 8 := ⟨(if rev = true then 4 else 0) + c.val / 128, by
  have h1 := c.isLt
  split_ifs <;> omega⟩

/-- The numbers the programs take: q, k, v and the output's gradient, and the decays. -/
structure Data where
  q : Fin 4352 → Fin 512 → ℝ
  k : Fin 4352 → Fin 512 → ℝ
  v : Fin 4352 → Fin 512 → ℝ
  d : Fin 4352 → Fin 512 → ℝ
  lg : Fin 8 → EReal
  lg_ne_top : ∀ i, lg i ≠ ⊤

namespace Data

variable (D : Data)

/-- The decay over `n` rows of head `i`. -/
def g (i : Fin 8) : ℕ → ℝ := gam (D.lg i)

theorem g_zero (i : Fin 8) : D.g i 0 = 1 := gam_zero

theorem g_add (i : Fin 8) (a b : ℕ) : D.g i (a + b) = D.g i a * D.g i b := gam_add (D.lg_ne_top i) a b

/-- The retention's output. -/
def out (rev : Bool) (r : Fin 4352) (c : Fin 512) : ℝ :=
  ∑ r' : Fin 4352, decay (D.g (chain rev c)) (pos rev r) (pos rev r') *
    ((∑ x : Fin 128, D.q r (sib c x) * D.k r' (sib c x)) * D.v r' c)

/-- The gradient with respect to q. -/
def dq (rev : Bool) (r : Fin 4352) (c : Fin 512) : ℝ :=
  ∑ r' : Fin 4352, decay (D.g (chain rev c)) (pos rev r) (pos rev r') *
    ((∑ x : Fin 128, D.d r (sib c x) * D.v r' (sib c x)) * D.k r' c)

/-- The gradient with respect to k. -/
def dk (rev : Bool) (r : Fin 4352) (c : Fin 512) : ℝ :=
  ∑ r' : Fin 4352, decay (D.g (chain rev c)) (pos rev r') (pos rev r) *
    ((∑ x : Fin 128, D.d r' (sib c x) * D.v r (sib c x)) * D.q r' c)

/-- The gradient with respect to v. -/
def dv (rev : Bool) (r : Fin 4352) (c : Fin 512) : ℝ :=
  ∑ r' : Fin 4352, decay (D.g (chain rev c)) (pos rev r') (pos rev r) *
    ((∑ x : Fin 128, D.q r' (sib c x) * D.k r (sib c x)) * D.d r' c)

/-- The state that meets the chunk of step `n`, at row `a` and column `b` of its square: `a` and `b` columns of one head. -/
def st (rev : Bool) (i : Fin 8) (n : ℕ) (a b : Fin 512) : ℝ :=
  ∑ r' : Fin 4352, past (D.g i) (256 * n) (pos rev r') * (D.k r' a * D.v r' b)

/-- The gradient of that state. -/
def gr (rev : Bool) (i : Fin 8) (n : ℕ) (a b : Fin 512) : ℝ :=
  ∑ r' : Fin 4352, ahead (D.g i) (pos rev r') (256 * n) * (D.q r' a * D.d r' b)

/-! ### Chunk by chunk -/

theorem st_eq (rev : Bool) (i : Fin 8) (n : ℕ) (a b : Fin 512) :
    D.st rev i n a b =
      state (D.g i) 17 (lane rev) (fun n l => D.k (rowAt rev n l) a * D.v (rowAt rev n l) b) n := by
  unfold st state
  rw [sum_rows rev]
  simp only [pos_rowAt]

theorem gr_eq (rev : Bool) (i : Fin 8) (n : ℕ) (a b : Fin 512) :
    D.gr rev i n a b =
      grad (D.g i) 17 (lane rev) (fun n l => D.q (rowAt rev n l) a * D.d (rowAt rev n l) b) n := by
  unfold gr grad
  rw [sum_rows rev]
  simp only [pos_rowAt]

theorem st_zero (rev : Bool) (i : Fin 8) (a b : Fin 512) : D.st rev i 0 a b = 0 := by
  rw [st_eq, state_zero]

theorem st_succ (rev : Bool) (i : Fin 8) (n : Fin 17) (a b : Fin 512) :
    D.st rev i (n.val + 1) a b = D.st rev i n.val a b * D.g i 256 +
      ∑ l : Fin 256, D.g i (255 - lane rev l) * (D.k (rowAt rev n l) a * D.v (rowAt rev n l) b) := by
  rw [st_eq, st_eq, state_succ (D.g_add i) (lane_lt rev)]

theorem gr_last (rev : Bool) (i : Fin 8) (a b : Fin 512) : D.gr rev i 17 a b = 0 := by
  rw [gr_eq, grad_last (lane_lt rev)]

theorem gr_pred (rev : Bool) (i : Fin 8) (n : Fin 17) (a b : Fin 512) :
    D.gr rev i n.val a b = D.gr rev i (n.val + 1) a b * D.g i 256 +
      ∑ l : Fin 256, D.g i (lane rev l + 1) * (D.q (rowAt rev n l) a * D.d (rowAt rev n l) b) := by
  rw [gr_eq, gr_eq, grad_pred (D.g_add i) (lane_lt rev)]

/-- A weighted sum over the rows up to one, of products over a head's columns: the chunk's own part, and the state's. -/
theorem up_to (rev : Bool) (i : Fin 8) (p q v : Fin 4352 → Fin 512 → ℝ) (n : Fin 17) (l : Fin 256) (c : Fin 512) :
    ∑ r' : Fin 4352, decay (D.g i) (pos rev (rowAt rev n l)) (pos rev r') *
        ((∑ x : Fin 128, p (rowAt rev n l) (sib c x) * q r' (sib c x)) * v r' c) =
      ∑ l' : Fin 256, ((∑ x : Fin 128, p (rowAt rev n l) (sib c x) * q (rowAt rev n l') (sib c x)) *
          decay (D.g i) (lane rev l) (lane rev l')) * v (rowAt rev n l') c +
        (∑ x : Fin 128, p (rowAt rev n l) (sib c x) *
          ∑ r' : Fin 4352, past (D.g i) (256 * n.val) (pos rev r') * (q r' (sib c x) * v r' c)) *
          D.g i (lane rev l + 1) := by
  rw [sum_rows rev]
  simp only [pos_rowAt]
  rw [sum_decay_past (D.g_add i) (lane_lt rev)
    (fun n' l' => (∑ x : Fin 128, p (rowAt rev n l) (sib c x) * q (rowAt rev n' l') (sib c x)) * v (rowAt rev n' l') c)]
  congr 1
  · exact Finset.sum_congr rfl fun l' _ => by ring
  · congr 1
    unfold state
    simp only [Finset.mul_sum, Finset.sum_mul, sum_rows rev, pos_rowAt]
    symm
    rw [Finset.sum_comm]
    refine Finset.sum_congr rfl fun n' _ => ?_
    rw [Finset.sum_comm]
    exact Finset.sum_congr rfl fun l' _ => Finset.sum_congr rfl fun x _ => by ring

/-- A weighted sum over the rows from one on, of products over a head's columns: the chunk's own part, and the part of
the gradient of the next chunk's state. -/
theorem from_on (rev : Bool) (i : Fin 8) (p q v : Fin 4352 → Fin 512 → ℝ) (n : Fin 17) (l : Fin 256) (c : Fin 512) :
    ∑ r' : Fin 4352, decay (D.g i) (pos rev r') (pos rev (rowAt rev n l)) *
        ((∑ x : Fin 128, p r' (sib c x) * q (rowAt rev n l) (sib c x)) * v r' c) =
      ∑ l' : Fin 256, ((∑ x : Fin 128, p (rowAt rev n l') (sib c x) * q (rowAt rev n l) (sib c x)) *
          decay (D.g i) (lane rev l') (lane rev l)) * v (rowAt rev n l') c +
        (∑ x : Fin 128, q (rowAt rev n l) (sib c x) *
          ∑ r' : Fin 4352, ahead (D.g i) (pos rev r') (256 * (n.val + 1)) * (p r' (sib c x) * v r' c)) *
          D.g i (255 - lane rev l) := by
  rw [sum_rows rev]
  simp only [pos_rowAt]
  rw [sum_decay_ahead (D.g_add i) (lane_lt rev)
    (fun n' l' => (∑ x : Fin 128, p (rowAt rev n' l') (sib c x) * q (rowAt rev n l) (sib c x)) * v (rowAt rev n' l') c)]
  congr 1
  · exact Finset.sum_congr rfl fun l' _ => by ring
  · congr 1
    unfold grad
    simp only [Finset.mul_sum, Finset.sum_mul, sum_rows rev, pos_rowAt]
    symm
    rw [Finset.sum_comm]
    refine Finset.sum_congr rfl fun n' _ => ?_
    rw [Finset.sum_comm]
    exact Finset.sum_congr rfl fun l' _ => Finset.sum_congr rfl fun x _ => by ring

end Data

end Cert.Retention

end
-- ==== Proof.Read.lean ====
/- What the programs' formulas for weights, and sums of products with them, denote: each equal to a real number's
   image, read at one entry. -/
module

public import proofs.«01_k».proof.Proof.Spec

@[expose] public section

noncomputable section

namespace Cert.Retention

open Idealize.ShloMosaic

/-! ### Positions as words -/

/-- The word of a row's position in the reverse scan. -/
def backWord (r : ℕ) : BitVec 32 :=
  Scalar.select (IntOp.cmpi CmpIPredicate.slt (BitVec.ofNat 32 r) 256#32)
    (IntOp.subi (255#32) (BitVec.ofNat 32 r)) (IntOp.subi (4607#32) (BitVec.ofNat 32 r))

/-- The word of a row's position. -/
def posWord (rev : Bool) (r : ℕ) : BitVec 32 := if rev then backWord r else BitVec.ofNat 32 r

theorem slt_ofNat (a b : ℕ) (ha : a < 2 ^ 31) (hb : b < 2 ^ 31) :
    IntOp.cmpi CmpIPredicate.slt (BitVec.ofNat 32 a) (BitVec.ofNat 32 b) = if a < b then 1#1 else 0#1 := by
  have h : (BitVec.ofNat 32 a).slt (BitVec.ofNat 32 b) = decide (a < b) := by
    rw [BitVec.slt, ofNat_toInt a ha, ofNat_toInt b hb]
    exact decide_eq_decide.mpr (by omega)
  show BitVec.ofBool ((BitVec.ofNat 32 a).slt (BitVec.ofNat 32 b)) = _
  rw [h]
  by_cases hab : a < b <;> simp [hab]

theorem posWord_toInt (rev : Bool) (r : Fin 4352) : (posWord rev r.val).toInt = (pos rev r : ℤ) := by
  have hr := r.isLt
  unfold posWord pos
  cases rev
  · exact ofNat_toInt _ (by omega)
  · show (backWord r.val).toInt = _
    unfold backWord
    rw [slt_ofNat _ _ (by omega) (by omega)]
    by_cases h : r.val < 256
    · rw [if_pos h, if_pos rfl, if_pos h]
      show (IntOp.subi (255#32) (BitVec.ofNat 32 r.val)).toInt = _
      rw [subi_toInt _ _ 255 (r.val : ℤ) (by decide) (ofNat_toInt _ (by omega)) (by omega) (by omega) (by omega) (by omega)]
      omega
    · rw [if_neg h, if_pos rfl, if_neg h]
      show (IntOp.subi (4607#32) (BitVec.ofNat 32 r.val)).toInt = _
      rw [subi_toInt _ _ 4607 (r.val : ℤ) (by decide) (ofNat_toInt _ (by omega)) (by omega) (by omega) (by omega) (by omega)]
      omega

theorem pos_lt (rev : Bool) (r : Fin 4352) : pos rev r < 4352 := by
  have hr := r.isLt
  unfold pos
  split_ifs <;> omega

/-! ### Weights -/

/-- The word of minus infinity. -/
theorem minus_inf (s : Shape) (i : s.Idx) : id (constant (F := Ideal) s .f32 4286578688#32) i = ⊥ := by
  show Ideal.ofBits .f32 4286578688#32 = ⊥
  simp [Ideal.ofBits, Ideal.ieee]

/-- A weight's masked exponential, of the difference of two positions. -/
theorem decay_word (lg : EReal) (hlg : lg ≠ ⊤) (w : BitVec 32) (a b : ℕ) (h : w.toInt = (a : ℤ) - b) (bot : EReal) (hb : bot = ⊥) :
    Ideal.exp (if (0 : EReal) ≤ FloatOps.sitofp (F := Ideal) FTy.f32 w then
      FloatOps.sitofp (F := Ideal) FTy.f32 w * lg else bot) = ((decay (gam lg) a b : ℝ) : EReal) := by
  subst hb
  exact exp_decay hlg w.toInt a b h

theorem past_word (lg : EReal) (hlg : lg ≠ ⊤) (w : BitVec 32) (a b : ℕ) (h : w.toInt = (a : ℤ) - 1 - b) (bot : EReal) (hb : bot = ⊥) :
    Ideal.exp (if (0 : EReal) ≤ FloatOps.sitofp (F := Ideal) FTy.f32 w then
      FloatOps.sitofp (F := Ideal) FTy.f32 w * lg else bot) = ((past (gam lg) a b : ℝ) : EReal) := by
  subst hb
  exact exp_past hlg w.toInt a b h

theorem pow_word (lg : EReal) (hlg : lg ≠ ⊤) (w : BitVec 32) (n : ℕ) (h : w.toInt = (n : ℤ)) :
    Ideal.exp (FloatOps.sitofp (F := Ideal) FTy.f32 w * lg) = ((gam lg n : ℝ) : EReal) := by
  rw [← exp_nat hlg]
  show Ideal.exp (((w.toInt : ℝ) : EReal) * lg) = _
  rw [h]
  norm_num

/-- The weight between two rows, of positions written as words. -/
theorem weight (D : Data) (i : Fin 8) (rev : Bool) (a b : Fin 4352) (bot : EReal) (hb : bot = ⊥) :
    Ideal.exp (if (0 : EReal) ≤ FloatOps.sitofp (F := Ideal) FTy.f32 (IntOp.subi (posWord rev a.val) (posWord rev b.val)) then
      FloatOps.sitofp (F := Ideal) FTy.f32 (IntOp.subi (posWord rev a.val) (posWord rev b.val)) * D.lg i else bot) =
        ((decay (D.g i) (pos rev a) (pos rev b) : ℝ) : EReal) := by
  have ha := pos_lt rev a
  have hb' := pos_lt rev b
  exact decay_word _ (D.lg_ne_top i) _ _ _ (subi_toInt _ _ _ _ (posWord_toInt rev a) (posWord_toInt rev b)
    (by omega) (by omega) (by omega) (by omega)) bot hb

/-! ### Sums of products -/

section
variable {n h : ℕ} (a b : Fin n → Fin h → ℝ) (w c : Fin n → ℝ)

/-- A weighted sum of products over a head's columns, the weight inside. -/
theorem sum_left (A B : Fin n → Fin h → EReal) (W C : Fin n → EReal) (hA : ∀ x y, A x y = ((a x y : ℝ) : EReal))
    (hB : ∀ x y, B x y = ((b x y : ℝ) : EReal)) (hW : ∀ x, W x = ((w x : ℝ) : EReal)) (hC : ∀ x, C x = ((c x : ℝ) : EReal)) :
    ∑ x, (∑ y, A x y * B x y) * W x * C x = ((∑ x, w x * ((∑ y, a x y * b x y) * c x) : ℝ) : EReal) := by
  simp only [hA, hB, hW, hC, ← EReal.coe_mul, ← coe_sum]
  exact congrArg _ (Finset.sum_congr rfl fun x _ => by ring)

theorem sum_right (A B : Fin n → Fin h → EReal) (W C : Fin n → EReal) (hA : ∀ x y, A x y = ((a x y : ℝ) : EReal))
    (hB : ∀ x y, B x y = ((b x y : ℝ) : EReal)) (hW : ∀ x, W x = ((w x : ℝ) : EReal)) (hC : ∀ x, C x = ((c x : ℝ) : EReal)) :
    ∑ x, C x * ((∑ y, A x y * B x y) * W x) = ((∑ x, w x * ((∑ y, a x y * b x y) * c x) : ℝ) : EReal) := by
  rw [← sum_left a b w c A B W C hA hB hW hC]
  exact Finset.sum_congr rfl fun x _ => mul_comm _ _

end

/-! ### The arguments -/

/-- The data as entries of the arguments: the columns of v begin at 4096 of the projections. -/
structure Holds (D : Data) (q k : Fin 4352 → Fin 512 → EReal) (p : Fin 4352 → Fin 8704 → EReal) (e : Fin 8 → EReal) : Prop where
  q : ∀ r c, q r c = ((D.q r c : ℝ) : EReal)
  k : ∀ r c, k r c = ((D.k r c : ℝ) : EReal)
  v : ∀ r (c : Fin 512), p r ⟨4096 + c.val, by have := c.isLt; omega⟩ = ((D.v r c : ℝ) : EReal)
  lg : ∀ i, logSigmoid (e i) = D.lg i

/-- The data of arguments that hold real numbers. -/
def Data.of (q k : Fin 4352 → Fin 512 → EReal) (p : Fin 4352 → Fin 8704 → EReal) (e : Fin 8 → EReal)
    (d : Fin 4352 → Fin 512 → EReal) : Data where
  q r c := (q r c).toReal
  k r c := (k r c).toReal
  v r c := (p r ⟨4096 + c.val, by have := c.isLt; omega⟩).toReal
  d r c := (d r c).toReal
  lg i := logSigmoid (e i)
  lg_ne_top i := logSigmoid_ne_top _

/-- An array of two axes of the images of real numbers. -/
def arr {a b : ℕ} (f : Fin a → Fin b → ℝ) (j : Shape.Idx ⟨2, ![a, b]⟩) : EReal := ((f (j 0) (j 1) : ℝ) : EReal)

theorem chain_false (c : Fin 512) (h : c.val / 128 < 8) : chain false c = ⟨c.val / 128, h⟩ :=
  Fin.ext (Nat.zero_add _)

/-- The weight of the forward scan, as the references spell it. -/
theorem weight_false (D : Data) (e : Fin 8 → EReal) (he : ∀ i, logSigmoid (e i) = D.lg i) (c : Fin 512) (h : c.val / 128 < 8)
    (a b : Fin 4352) (bot : EReal) (hb : bot = ⊥) :
    Ideal.exp (if (0 : EReal) ≤ FloatOps.sitofp (F := Ideal) FTy.f32 (IntOp.subi (BitVec.ofNat 32 a.val) (BitVec.ofNat 32 b.val)) then
      FloatOps.sitofp (F := Ideal) FTy.f32 (IntOp.subi (BitVec.ofNat 32 a.val) (BitVec.ofNat 32 b.val)) *
        logSigmoid (e ⟨c.val / 128, h⟩) else bot) =
        ((decay (D.g (chain false c)) (pos false a) (pos false b) : ℝ) : EReal) := by
  rw [he, ← chain_false c h]
  exact weight D _ false a b bot hb

/-- The weight of the reverse scan, as the references spell it. -/
theorem weight_true (D : Data) (e : Fin 8 → EReal) (he : ∀ i, logSigmoid (e i) = D.lg i) (c : Fin 512) (h : 4 + c.val / 128 < 8)
    (a b : Fin 4352) (bot : EReal) (hb : bot = ⊥) :
    Ideal.exp (if (0 : EReal) ≤ FloatOps.sitofp (F := Ideal) FTy.f32 (IntOp.subi (backWord a.val) (backWord b.val)) then
      FloatOps.sitofp (F := Ideal) FTy.f32 (IntOp.subi (backWord a.val) (backWord b.val)) *
        logSigmoid (e ⟨4 + c.val / 128, h⟩) else bot) =
        ((decay (D.g (chain true c)) (pos true a) (pos true b) : ℝ) : EReal) := by
  rw [he]
  exact weight D (chain true c) true a b bot hb

/-! ### The states -/

/-- The column `x` of head `h`. -/
def headCol (h : Fin 4) (x : Fin 128) : Fin 512 := ⟨h.val * 128 + x.val, by
  have h1 := h.isLt
  have h2 := x.isLt
  omega⟩

/-- The index of the decay of a scan's head `h`. -/
def head (rev : Bool) (h : Fin 4) : Fin 8 := ⟨(if rev = true then 4 else 0) + h.val, by
  have h1 := h.isLt
  split_ifs <;> omega⟩

theorem head_false (h : Fin 4) (hh : h.val < 8) : head false h = ⟨h.val, hh⟩ := Fin.ext (Nat.zero_add _)

/-- The states before each chunk, as an array. -/
def Data.stArr (D : Data) (rev : Bool) (j : Shape.Idx ⟨4, ![17, 4, 128, 128]⟩) : EReal :=
  ((D.st rev (head rev (j 1)) (chunkAt rev (j 0)).val (headCol (j 1) (j 2)) (headCol (j 1) (j 3)) : ℝ) : EReal)

/-- The word of the position a chunk begins at in the reverse scan. -/
def backStart (n : ℕ) : BitVec 32 :=
  Scalar.select (IntOp.cmpi CmpIPredicate.slt (IntOp.muli (BitVec.ofNat 32 n) 256#32) 256#32)
    (IntOp.subi (0#32) (IntOp.muli (BitVec.ofNat 32 n) 256#32)) (IntOp.subi (4352#32) (IntOp.muli (BitVec.ofNat 32 n) 256#32))

theorem start_false (n : Fin 17) : (IntOp.muli (BitVec.ofNat 32 n.val) 256#32).toInt = (256 * (chunkAt false n).val : ℕ) := by
  revert n
  decide +kernel

theorem start_true (n : Fin 17) : (backStart n.val).toInt = (256 * (chunkAt true n).val : ℕ) := by
  revert n
  decide +kernel

theorem state_weight (D : Data) (i : Fin 8) (rev : Bool) (w w' : BitVec 32) (n : Fin 17) (r : Fin 4352)
    (hw : w.toInt = (256 * (chunkAt rev n).val : ℕ)) (hw' : w' = posWord rev r.val) (bot : EReal) (hb : bot = ⊥) :
    Ideal.exp (if (0 : EReal) ≤ FloatOps.sitofp (F := Ideal) FTy.f32 (IntOp.subi (IntOp.subi w 1#32) w') then
      FloatOps.sitofp (F := Ideal) FTy.f32 (IntOp.subi (IntOp.subi w 1#32) w') * D.lg i else bot) =
        ((past (D.g i) (256 * (chunkAt rev n).val) (pos rev r) : ℝ) : EReal) := by
  have h1 := pos_lt rev r
  have h2 := (chunkAt rev n).isLt
  subst hw'
  have h3 := subi_toInt w 1#32 _ 1 hw (by decide) (by omega) (by omega) (by omega) (by omega)
  exact past_word _ (D.lg_ne_top i) _ _ _ (subi_toInt _ _ _ _ h3 (posWord_toInt rev r)
    (by omega) (by omega) (by omega) (by omega)) bot hb

/-- A state, as the programs spell its sum. -/
theorem sum_state (D : Data) (rev : Bool) (h : Fin 4) (n : Fin 17) (a b : Fin 128) (A V W : Fin 4352 → EReal)
    (hA : ∀ x, A x = ((D.k x (headCol h a) : ℝ) : EReal)) (hV : ∀ x, V x = ((D.v x (headCol h b) : ℝ) : EReal))
    (hW : ∀ x, W x = ((past (D.g (head rev h)) (256 * (chunkAt rev n).val) (pos rev x) : ℝ) : EReal)) :
    ∑ x, V x * (W x * A x) = D.stArr rev (ix4 n h a b) := by
  simp only [hA, hV, hW, ← EReal.coe_mul, ← coe_sum]
  exact congrArg _ (Finset.sum_congr rfl fun x _ => by
    show _ = past (D.g (head rev h)) (256 * (chunkAt rev n).val) (pos rev x) * (D.k x (headCol h a) * D.v x (headCol h b))
    ring)

end Cert.Retention

end
-- ==== Proof.Finite.lean ====
/- The precondition: the entries the programs read are real numbers. -/
module

public import proofs.«01_k».proof.Defs
public import proofs.«01_k».proof.Proof.Read
public import Idealize.ShloMosaic.Lib.Pipeline.ValueKit

@[expose] public section

noncomputable section

namespace Cert.Retention

open Idealize.ShloMosaic

/-- The word that says whether a number's magnitude is below infinity. -/
def below (x : EReal) : BitVec 1 := FloatOps.cmpf (F := Ideal) (φ := .f32) .olt (FloatOps.absf (F := Ideal) (φ := .f32) x) (Ideal.ofBits .f32 0x7F800000#32)

theorem real_of_below (x : EReal) (h : below x = 1#1) : x = ((x.toReal : ℝ) : EReal) := by
  have ht : Ideal.ofBits .f32 0x7F800000#32 = ⊤ := by simp [Ideal.ofBits, Ideal.ieee]
  unfold below at h
  rw [ht] at h
  have hl : max x (-x) < ⊤ := by
    by_contra hn
    have e : Ideal.cmp .olt (max x (-x)) ⊤ = 0#1 := by
      show BitVec.ofBool (decide (max x (-x) < ⊤)) = 0#1
      rw [decide_eq_false hn]
      rfl
    exact absurd (e.symm.trans h) (by decide)
  refine (EReal.coe_toReal (lt_of_le_of_lt (le_max_left _ _) hl).ne fun hb => ?_).symm
  rw [hb] at hl
  exact absurd hl (by simp)

theorem and_left (a b : BitVec 1) (h : IntOp.andi a b = 1#1) : a = 1#1 ∧ b = 1#1 := by
  revert a b
  decide

theorem finite_entries [Cert.Pre_finite.Facts] (q k p e) (h : Cert.Pre_finite.fn (F := Ideal) q k p e = fun _ => 1#1)
    (r : Fin 4352) (c : Fin 512) :
    q (ix2 r c) = (((q (ix2 r c)).toReal : ℝ) : EReal) ∧ k (ix2 r c) = (((k (ix2 r c)).toReal : ℝ) : EReal) ∧
      p (ix2 r ⟨4096 + c.val, by omega⟩) = (((p (ix2 r ⟨4096 + c.val, by omega⟩)).toReal : ℝ) : EReal) := by
  have w : IntOp.andi (IntOp.andi (below (q (ix2 r c))) (below (k (ix2 r c))))
      (below (extractStridedSlice Cert.Pre_finite.S4352x512 ![0, 4096] p Cert.Pre_finite.Facts.slices_S4352x8704_S4352x512_0_4096 (ix2 r c))) = 1#1 := congrFun h (ix2 r c)
  have e1 : extractStridedSlice Cert.Pre_finite.S4352x512 ![0, 4096] p Cert.Pre_finite.Facts.slices_S4352x8704_S4352x512_0_4096 (ix2 r c) = p (ix2 r ⟨4096 + c.val, by omega⟩) := by
    pointwise
  rw [e1] at w
  obtain ⟨w1, w2⟩ := and_left _ _ w
  obtain ⟨w3, w4⟩ := and_left _ _ w1
  exact ⟨real_of_below _ w3, real_of_below _ w4, real_of_below _ w2⟩

end Cert.Retention

end
-- ==== Proof.Ref1.lean ====
/- The reference's output and states as sums over all the rows. -/
module

public import proofs.«01_k».proof.Proof.Read
public import proofs.«01_k».proof.Proof.Gen.ReferenceIdeal.Run

@[expose] public section

set_option maxRecDepth 16384
set_option maxHeartbeats 2000000

noncomputable section

namespace Cert.ReferenceIdeal

open Idealize.ShloMosaic Idealize.ShloMosaic.TcCoe Idealize.SL.Sem Idealize.ShloMosaic.StableHlo Cert.Retention

/-- The data that a device's arguments hold. -/
def HoldsAt (m : (ℓ : Loc nD τ sig) → Buf (Elt Ideal) ℓ) (c : Dev nD) (D : Data) : Prop :=
  Holds D (fun r x => m ((c.tc : Thread nD τ).loc main_arg0) (ix2 r x)) (fun r x => m ((c.tc : Thread nD τ).loc main_arg1) (ix2 r x))
    (fun r x => m ((c.tc : Thread nD τ).loc main_arg2) (ix2 r x)) (fun i => m ((c.tc : Thread nD τ).loc main_arg3) (ix1 i))

theorem run_value (m : (ℓ : Loc nD τ sig) → Buf (Elt Ideal) ℓ) (ρ : Dev nD → PrngReg) (D : Dev nD → Data)
    (H : ∀ c, HoldsAt m c (D c)) :
    θ_run (defs (F := Ideal)) (onTc (τ := τ) (main (F := Ideal))) ⟨m, fun _ => 0, ρ⟩ fun r => ∀ c : Dev nD,
      r.2.mem ((c.tc : Thread nD τ).loc main_v43) = (arr ((D c).out false) : S4352x512.Idx → EReal)
      ∧ r.2.mem ((c.tc : Thread nD τ).loc main_v67) = (arr ((D c).out true) : S4352x512.Idx → EReal)
      ∧ r.2.mem ((c.tc : Thread nD τ).loc main_v95) = ((D c).stArr false : S17x4x128x128.Idx → EReal)
      ∧ r.2.mem ((c.tc : Thread nD τ).loc main_v123) = ((D c).stArr true : S17x4x128x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨((h c).1).trans (funext fun j => by
      clear h
      idx_vars j
      pointwise
      exact sum_right (fun x y => (D c).q j0 (sib j1 y)) (fun x y => (D c).k x (sib j1 y)) _ (fun x => (D c).v x j1) _ _ _ _ (fun x y => (H c).q _ _) (fun x y => (H c).k _ _) (fun x => weight_false (D c) (fun i => m ((c.tc : Thread nD τ).loc main_arg3) (ix1 i)) (H c).lg j1 _  j0 x _ (minus_inf _ _)) (fun x => (H c).v x j1)),
    ((h c).2.1).trans (funext fun j => by
      clear h
      idx_vars j
      pointwise
      exact sum_right (fun x y => (D c).q j0 (sib j1 y)) (fun x y => (D c).k x (sib j1 y)) _ (fun x => (D c).v x j1) _ _ _ _ (fun x y => (H c).q _ _) (fun x y => (H c).k _ _) (fun x => weight_true (D c) (fun i => m ((c.tc : Thread nD τ).loc main_arg3) (ix1 i)) (H c).lg j1 _  j0 x _ (minus_inf _ _)) (fun x => (H c).v x j1)),
    ((h c).2.2.1).trans (funext fun j => by
      clear h
      idx_vars j
      pointwise
      exact sum_state (D c) false j1 j0 j2 j3 _ _ _ (fun x => (H c).k x (headCol j1 j2)) (fun x => (H c).v x (headCol j1 j3)) (fun x => by
        show Ideal.exp (if (0 : EReal) ≤ _ then _ * logSigmoid (m ((c.tc : Thread nD τ).loc main_arg3) (ix1 ⟨j1.val, _⟩)) else _) = _
        rw [(H c).lg, ← head_false j1]
        exact state_weight (D c) _ false _ _ j0 x (start_false j0) rfl _ (minus_inf _ _))),
    ((h c).2.2.2.1).trans (funext fun j => by
      clear h
      unfold Value.res_main_v123
      idx_vars j
      pointwise
      exact sum_state (D c) true j1 j0 j2 j3 _ _ _ (fun x => (H c).k x (headCol j1 j2)) (fun x => (H c).v x (headCol j1 j3)) (fun x => by
        show Ideal.exp (if (0 : EReal) ≤ _ then _ * logSigmoid (m ((c.tc : Thread nD τ).loc main_arg3) (ix1 ⟨4 + j1.val, _⟩)) else _) = _
        rw [(H c).lg]
        exact state_weight (D c) (head true j1) true _ _ j0 x (start_true j0) rfl _ (minus_inf _ _))),
    (h c).2.2.2.2⟩) (Value.run m ρ)

end Cert.ReferenceIdeal

end
-- ==== Proof.Host.lean ====
/- The weights within a chunk, as the kernels' callers compute them from places 0, …, 255 as numbers. -/
module

public import proofs.«01_k».proof.Proof.Read

@[expose] public section

noncomputable section

namespace Cert.Retention

open Idealize.ShloMosaic

/-- The place `l` of a chunk, as a number. -/
def place (l : Fin 256) : EReal := FloatOps.sitofp (F := Ideal) FTy.f32 (BitVec.ofNat 32 l.val)

theorem place_eq (l : Fin 256) : place l = (((l.val : ℤ) : ℝ) : EReal) := by
  have hl := l.isLt
  show (((BitVec.ofNat 32 l.val).toInt : ℝ) : EReal) = _
  rw [ofNat_toInt _ (by omega)]

theorem word_256 : Ideal.ofBits .f32 1132462080#32 = (((256 : ℤ) : ℝ) : EReal) := by
  simp [Ideal.ofBits, Ideal.ieee, -EReal.coe_mul]
  norm_num

theorem word_255 : Ideal.ofBits .f32 1132396544#32 = (((255 : ℤ) : ℝ) : EReal) := by
  simp [Ideal.ofBits, Ideal.ieee, -EReal.coe_mul]
  norm_num

/-- Whether the scan of a head is the reverse one. -/
def rev (i : Fin 8) : Bool := decide (4 ≤ i.val)

theorem lane_fwd (i : Fin 8) (h : i.val < 4) (l : Fin 256) : lane (rev i) l = l.val := by
  unfold lane rev
  rw [decide_eq_false (by omega)]; rfl

theorem lane_rev (i : Fin 8) (h : ¬i.val < 4) (l : Fin 256) : lane (rev i) l = 255 - l.val := by
  unfold lane rev
  rw [decide_eq_true (by omega)]; rfl

section
variable (D : Data) (i : Fin 8)

theorem pow_int (z : ℤ) (n : ℕ) (h : z = n) : Ideal.exp (((z : ℝ) : EReal) * D.lg i) = ((D.g i n : ℝ) : EReal) := by
  subst h
  exact exp_nat (D.lg_ne_top i) n

/-- The weight between two places, forward. -/
theorem within_fwd (h : i.val < 4) (l x : Fin 256) (bot : EReal) (hb : bot = ⊥) :
    Ideal.exp (if (0 : EReal) ≤ place l - place x then (place l - place x) * D.lg i else bot) =
      ((decay (D.g i) (lane (rev i) l) (lane (rev i) x) : ℝ) : EReal) := by
  subst hb
  rw [lane_fwd i h, lane_fwd i h, place_eq, place_eq, ← EReal.coe_sub, ← Int.cast_sub]
  exact exp_decay (D.lg_ne_top i) _ _ _ rfl

/-- The weight between two places, in reverse. -/
theorem within_rev (h : ¬i.val < 4) (l x : Fin 256) (bot : EReal) (hb : bot = ⊥) :
    Ideal.exp (if place l - place x ≤ 0 then -(place l - place x) * D.lg i else bot) =
      ((decay (D.g i) (lane (rev i) l) (lane (rev i) x) : ℝ) : EReal) := by
  have hl := l.isLt
  have hx := x.isLt
  subst hb
  rw [lane_rev i h, lane_rev i h, place_eq, place_eq, ← EReal.coe_sub, ← Int.cast_sub, ← EReal.coe_neg, ← Int.cast_neg]
  unfold Data.g
  rw [← exp_decay (D.lg_ne_top i) (-((l.val : ℤ) - x.val)) _ _ (by omega)]
  congr 1
  exact if_congr (by norm_cast; omega) rfl rfl

theorem upto_fwd (h : i.val < 4) (l : Fin 256) :
    Ideal.exp ((place l + 1) * D.lg i) = ((D.g i (lane (rev i) l + 1) : ℝ) : EReal) := by
  rw [lane_fwd i h, place_eq, show (1 : EReal) = (((1 : ℤ) : ℝ) : EReal) by norm_num, ← EReal.coe_add, ← Int.cast_add]
  exact pow_int D i _ _ (by omega)

theorem upto_rev (h : ¬i.val < 4) (l : Fin 256) :
    Ideal.exp ((Ideal.ofBits .f32 1132462080#32 - place l) * D.lg i) = ((D.g i (lane (rev i) l + 1) : ℝ) : EReal) := by
  have hl := l.isLt
  rw [lane_rev i h, place_eq, word_256, ← EReal.coe_sub, ← Int.cast_sub]
  exact pow_int D i _ _ (by omega)

theorem after_fwd (h : i.val < 4) (l : Fin 256) :
    Ideal.exp ((Ideal.ofBits .f32 1132396544#32 - place l) * D.lg i) = ((D.g i (255 - lane (rev i) l) : ℝ) : EReal) := by
  have hl := l.isLt
  rw [lane_fwd i h, place_eq, word_255, ← EReal.coe_sub, ← Int.cast_sub]
  exact pow_int D i _ _ (by omega)

theorem after_rev (h : ¬i.val < 4) (l : Fin 256) :
    Ideal.exp (place l * D.lg i) = ((D.g i (255 - lane (rev i) l) : ℝ) : EReal) := by
  have hl := l.isLt
  rw [lane_rev i h, place_eq]
  exact pow_int D i _ _ (by omega)

theorem whole_chunk : Ideal.exp (Ideal.ofBits .f32 1132462080#32 * D.lg i) = ((D.g i 256 : ℝ) : EReal) := by
  rw [word_256]
  exact pow_int D i _ _ (by omega)

end

end Cert.Retention

end
-- ==== Proof.FwdHost.lean ====
/- The forward kernel's tables of weights, as real numbers. -/
module

public import proofs.«01_k».proof.Proof.Host
public import proofs.«01_k».proof.Proof.Gen.KernelIdeal.Value
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.KernelIdeal

open Idealize.ShloMosaic Idealize.ShloMosaic.TcCoe Idealize.SL.Sem Idealize.ShloMosaic.StableHlo Gen Cert.Retention

variable (m : (ℓ : Loc nD τ sig) → Buf (Elt Ideal) ℓ) (c : Dev nD) (D : Data)
  (hlg : ∀ i, logSigmoid (m ((c.tc : Thread nD τ).loc main_arg3) (ix1 i)) = D.lg i)

include hlg

theorem table_decay (i : Fin 8) (l x : Fin 256) :
    V m c main_v28 (ix3 i l x) = ((decay (D.g i) (lane (rev i) l) (lane (rev i) x) : ℝ) : EReal) := by
  unfold V hostOps0 hostOps0_1 hostOps0_2 hostOps0_3 hostOps0_4 hostOps0_5
  simp only [List.flatten_cons, List.flatten_nil, List.cons_append, List.nil_append, List.append_nil, TRef.binary,
    TRef.nullary, TRef.ternary, TRef.unary, TRef.toBuf, TRef.ofBuf, cast_eq]
  after_reads_at
  split
  · rename_i h
    rw [← within_fwd D i h l x _ (minus_inf S_ ix0), ← hlg]
    unfold place logSigmoid
    refine congrArg Ideal.exp (if_congr Iff.rfl ?_ rfl)
    refine congrArg₂ HMul.hMul ?_ ?_
    · rfl
    · rfl
  · rename_i h
    have e : (⟨4 + (i.val - 4), by have := i.isLt; omega⟩ : Fin 8) = i := Fin.ext (by show 4 + (i.val - 4) = i.val; omega)
    have e' := congrArg (fun z => logSigmoid (m ((c.tc : Thread nD τ).loc main_arg3) (ix1 z))) e.symm
    have w := within_rev D i h l x _ (minus_inf S_ ix0)
    rw [← hlg, e'] at w
    refine Eq.trans ?_ w
    clear w
    unfold place logSigmoid
    refine congrArg Ideal.exp (if_congr Iff.rfl ?_ rfl)
    refine congrArg₂ HMul.hMul ?_ ?_
    · rfl
    · rfl

theorem table_upto (i : Fin 8) (l : Fin 256) :
    V m c main_v48 (ix3 i l 0) = ((D.g i (lane (rev i) l + 1) : ℝ) : EReal) := by
  unfold V hostOps0 hostOps0_1 hostOps0_2 hostOps0_3 hostOps0_4 hostOps0_5
  simp only [List.flatten_cons, List.flatten_nil, List.cons_append, List.nil_append, List.append_nil, TRef.binary,
    TRef.nullary, TRef.ternary, TRef.unary, TRef.toBuf, TRef.ofBuf, cast_eq]
  after_reads_at
  split
  · rename_i h
    after_reads_at
    rw [← upto_fwd D i h l, ← hlg]
    unfold place logSigmoid
    rfl
  · rename_i h
    after_reads_at
    have e : (⟨4 + (i.val - 4), by have := i.isLt; omega⟩ : Fin 8) = i := Fin.ext (by show 4 + (i.val - 4) = i.val; omega)
    have e' := congrArg (fun z => logSigmoid (m ((c.tc : Thread nD τ).loc main_arg3) (ix1 z))) e.symm
    rw [← upto_rev D i h l, ← hlg, e']
    unfold place logSigmoid
    rfl

theorem table_after (i : Fin 8) (l : Fin 256) :
    V m c main_v66 (ix3 i l 0) = ((D.g i (255 - lane (rev i) l) : ℝ) : EReal) := by
  unfold V hostOps0 hostOps0_1 hostOps0_2 hostOps0_3 hostOps0_4 hostOps0_5
  simp only [List.flatten_cons, List.flatten_nil, List.cons_append, List.nil_append, List.append_nil, TRef.binary,
    TRef.nullary, TRef.ternary, TRef.unary, TRef.toBuf, TRef.ofBuf, cast_eq]
  after_reads_at
  split
  · rename_i h
    after_reads_at
    rw [← after_fwd D i h l, ← hlg]
    unfold place logSigmoid
    rfl
  · rename_i h
    after_reads_at
    have e : (⟨4 + (i.val - 4), by have := i.isLt; omega⟩ : Fin 8) = i := Fin.ext (by show 4 + (i.val - 4) = i.val; omega)
    have e' := congrArg (fun z => logSigmoid (m ((c.tc : Thread nD τ).loc main_arg3) (ix1 z))) e.symm
    rw [← after_rev D i h l, ← hlg, e']
    unfold place logSigmoid
    rfl

theorem table_chunk (i : Fin 8) : V m c main_v70 (ix3 i 0 0) = ((D.g i 256 : ℝ) : EReal) := by
  unfold V hostOps0 hostOps0_1 hostOps0_2 hostOps0_3 hostOps0_4 hostOps0_5
  simp only [List.flatten_cons, List.flatten_nil, List.cons_append, List.nil_append, List.append_nil, TRef.binary,
    TRef.nullary, TRef.ternary, TRef.unary, TRef.toBuf, TRef.ofBuf, cast_eq]
  after_reads_at
  rw [← whole_chunk D i, ← hlg]
  rfl

end Cert.KernelIdeal

end
-- ==== Proof.Tiles.lean ====
/- What one step leaves, as real numbers: each tile's sums are the results at that step's rows. -/
module

public import proofs.«01_k».proof.Proof.Host

@[expose] public section

noncomputable section

namespace Cert.Retention

open Idealize.ShloMosaic

/-- The head, of its scan, of a decay's index. -/
def headOf (i : Fin 8) : Fin 4 := ⟨i.val % 4, by omega⟩

/-- The column `x` of the head of a decay's index. -/
def col (i : Fin 8) (x : Fin 128) : Fin 512 := headCol (headOf i) x

theorem head_rev (i : Fin 8) : head (rev i) (headOf i) = i := by
  revert i
  decide

theorem chain_col (i : Fin 8) (x : Fin 128) : chain (rev i) (col i x) = i := by
  have hx := x.isLt
  have hi := i.isLt
  refine Fin.ext ?_
  show (if rev i = true then 4 else 0) + (i.val % 4 * 128 + x.val) / 128 = i.val
  unfold rev
  by_cases h : 4 ≤ i.val
  · rw [decide_eq_true h, if_pos rfl]
    omega
  · rw [decide_eq_false h, if_neg (by decide)]
    omega

theorem sib_col (i : Fin 8) (x y : Fin 128) : sib (col i x) y = col i y := by
  have hx := x.isLt
  refine Fin.ext ?_
  show (i.val % 4 * 128 + x.val) / 128 * 128 + y.val = i.val % 4 * 128 + y.val
  omega

theorem col_0 (x : Fin 128) : col 0 x = ⟨x.val, by omega⟩ := Fin.ext (Nat.zero_add _)

theorem col_4 (x : Fin 128) : col 4 x = ⟨x.val, by omega⟩ := Fin.ext (Nat.zero_add _)

namespace Data

variable (D : Data) (i : Fin 8) (n : Fin 17) (l : Fin 256) (e : Fin 128)

/-- A tile of the output. -/
theorem out_tile :
    ∑ x, (∑ y, D.q (rowAt (rev i) n l) (col i y) * D.k (rowAt (rev i) n x) (col i y)) *
        decay (D.g i) (lane (rev i) l) (lane (rev i) x) * D.v (rowAt (rev i) n x) (col i e) +
      ∑ x, D.q (rowAt (rev i) n l) (col i x) * D.g i (lane (rev i) l + 1) * D.st (rev i) i n.val (col i x) (col i e) =
    D.out (rev i) (rowAt (rev i) n l) (col i e) := by
  unfold out st
  rw [D.up_to (rev i) (chain (rev i) (col i e)) D.q D.k D.v n l (col i e), chain_col]
  simp only [sib_col]
  congr 1
  rw [Finset.sum_mul]
  exact Finset.sum_congr rfl fun x _ => by ring

/-- The state after a step. -/
theorem st_tile (a b : Fin 128) :
    D.st (rev i) i n.val (col i a) (col i b) * D.g i 256 +
      ∑ x, D.k (rowAt (rev i) n x) (col i a) * D.g i (255 - lane (rev i) x) * D.v (rowAt (rev i) n x) (col i b) =
    D.st (rev i) i (n.val + 1) (col i a) (col i b) := by
  rw [D.st_succ]
  congr 1
  exact Finset.sum_congr rfl fun x _ => by ring

/-- The gradient of the state before a step. -/
theorem gr_tile (a b : Fin 128) :
    D.gr (rev i) i (n.val + 1) (col i a) (col i b) * D.g i 256 +
      ∑ x, D.q (rowAt (rev i) n x) (col i a) * D.g i (lane (rev i) x + 1) * D.d (rowAt (rev i) n x) (col i b) =
    D.gr (rev i) i n.val (col i a) (col i b) := by
  rw [D.gr_pred]
  congr 1
  exact Finset.sum_congr rfl fun x _ => by ring

/-- A tile of the gradient with respect to q. -/
theorem dq_tile :
    ∑ x, (∑ y, D.d (rowAt (rev i) n l) (col i y) * D.v (rowAt (rev i) n x) (col i y)) *
        decay (D.g i) (lane (rev i) l) (lane (rev i) x) * D.k (rowAt (rev i) n x) (col i e) +
      (∑ x, D.d (rowAt (rev i) n l) (col i x) * D.st (rev i) i n.val (col i e) (col i x)) * D.g i (lane (rev i) l + 1) =
    D.dq (rev i) (rowAt (rev i) n l) (col i e) := by
  unfold dq st
  rw [D.up_to (rev i) (chain (rev i) (col i e)) D.d D.v D.k n l (col i e), chain_col]
  simp only [sib_col]
  congr 2
  exact Finset.sum_congr rfl fun x _ => congrArg _ (Finset.sum_congr rfl fun r _ => by ring)

/-- A tile of the gradient with respect to k. -/
theorem dk_tile :
    ∑ x, (∑ y, D.d (rowAt (rev i) n x) (col i y) * D.v (rowAt (rev i) n l) (col i y)) *
        decay (D.g i) (lane (rev i) x) (lane (rev i) l) * D.q (rowAt (rev i) n x) (col i e) +
      (∑ x, D.v (rowAt (rev i) n l) (col i x) * D.gr (rev i) i (n.val + 1) (col i e) (col i x)) *
        D.g i (255 - lane (rev i) l) =
    D.dk (rev i) (rowAt (rev i) n l) (col i e) := by
  unfold dk gr
  rw [D.from_on (rev i) (chain (rev i) (col i e)) D.d D.v D.q n l (col i e), chain_col]
  simp only [sib_col]
  congr 2
  exact Finset.sum_congr rfl fun x _ => congrArg _ (Finset.sum_congr rfl fun r _ => by ring)

/-- A tile of the gradient with respect to v. -/
theorem dv_tile :
    ∑ x, (∑ y, D.q (rowAt (rev i) n x) (col i y) * D.k (rowAt (rev i) n l) (col i y)) *
        decay (D.g i) (lane (rev i) x) (lane (rev i) l) * D.d (rowAt (rev i) n x) (col i e) +
      ∑ x, D.k (rowAt (rev i) n l) (col i x) * D.g i (255 - lane (rev i) l) *
        D.gr (rev i) i (n.val + 1) (col i x) (col i e) =
    D.dv (rev i) (rowAt (rev i) n l) (col i e) := by
  unfold dv gr
  rw [D.from_on (rev i) (chain (rev i) (col i e)) D.q D.k D.d n l (col i e), chain_col]
  simp only [sib_col]
  congr 1
  rw [Finset.sum_mul]
  exact Finset.sum_congr rfl fun x _ => by ring

end Data

end Cert.Retention

end
-- ==== Proof.FwdBlocks.lean ====
/- The blocks the forward kernel's steps read, as real numbers. -/
module

public import proofs.«01_k».proof.Proof.FwdHost
public import proofs.«01_k».proof.Proof.Tiles

@[expose] public section

set_option maxRecDepth 16384

noncomputable section

namespace Cert.KernelIdeal

open Idealize.ShloMosaic Idealize.ShloMosaic.TcCoe Idealize.SL.Sem Idealize.ShloMosaic.StableHlo Gen Cert.Retention

/-- The chunk a grid point meets, counted along the scan. -/
def step (t : Fin cfg0.N) : Fin 17 := ⟨t.val, t.isLt⟩

theorem idx0 : ∀ t : Fin cfg0.N, win0_0.index t = ![t.val, 0] ∧ win0_1.index t = ![(chunkAt true (step t)).val, 0] ∧
    win0_2.index t = ![t.val, 0] ∧ win0_3.index t = ![(chunkAt true (step t)).val, 0] ∧
    win0_4.index t = ![t.val, 8] ∧ win0_5.index t = ![(chunkAt true (step t)).val, 8] := by decide +kernel

theorem idx6 : ∀ t : Fin cfg0.N, win0_6.index t = ![0, 0, 0] ∧ win0_7.index t = ![0, 0, 0] ∧
    win0_8.index t = ![0, 0, 0] ∧ win0_9.index t = ![0, 0, 0] := by decide +kernel

/-- What the arguments of the forward programs hold. -/
abbrev HoldsAt (m : (ℓ : Loc nD τ sig) → Buf (Elt Ideal) ℓ) (c : Dev nD) (D : Data) : Prop :=
  Holds D (fun r x => m ((c.tc : Thread nD τ).loc main_arg0) (ix2 r x))
    (fun r x => m ((c.tc : Thread nD τ).loc main_arg1) (ix2 r x))
    (fun r x => m ((c.tc : Thread nD τ).loc main_arg2) (ix2 r x))
    (fun i => m ((c.tc : Thread nD τ).loc main_arg3) (ix1 i))

variable (m : (ℓ : Loc nD τ sig) → Buf (Elt Ideal) ℓ) (c : Dev nD) (D : Data) (H : HoldsAt m c D) (t : Fin cfg0.N)

include H

theorem q_fwd (l : Fin 256) (x : Fin 512) : iblk m c 0 t (ix2 l x) = ((D.q (rowAt false (step t) l) x : ℝ) : EReal) := by
  refine Eq.trans ?_ (H.q _ x)
  blk_ext [iblk, V, idx0 t]
  unfold rowAt; show t.val * 256 + l.val = 256 * t.val + l.val; omega

theorem q_rev (l : Fin 256) (x : Fin 512) : iblk m c 1 t (ix2 l x) = ((D.q (rowAt true (step t) l) x : ℝ) : EReal) := by
  refine Eq.trans ?_ (H.q _ x)
  blk_ext [iblk, V, idx0 t]
  unfold rowAt; show (chunkAt true (step t)).val * 256 + l.val = 256 * (chunkAt true (step t)).val + l.val; omega

theorem k_fwd (l : Fin 256) (x : Fin 512) : iblk m c 2 t (ix2 l x) = ((D.k (rowAt false (step t) l) x : ℝ) : EReal) := by
  refine Eq.trans ?_ (H.k _ x)
  blk_ext [iblk, V, idx0 t]
  unfold rowAt; show t.val * 256 + l.val = 256 * t.val + l.val; omega

theorem k_rev (l : Fin 256) (x : Fin 512) : iblk m c 3 t (ix2 l x) = ((D.k (rowAt true (step t) l) x : ℝ) : EReal) := by
  refine Eq.trans ?_ (H.k _ x)
  blk_ext [iblk, V, idx0 t]
  unfold rowAt; show (chunkAt true (step t)).val * 256 + l.val = 256 * (chunkAt true (step t)).val + l.val; omega

theorem v_fwd (l : Fin 256) (x : Fin 512) : iblk m c 4 t (ix2 l x) = ((D.v (rowAt false (step t) l) x : ℝ) : EReal) := by
  refine Eq.trans ?_ (H.v _ x)
  blk_ext [iblk, V, idx0 t]
  unfold rowAt; show t.val * 256 + l.val = 256 * t.val + l.val; omega

theorem v_rev (l : Fin 256) (x : Fin 512) : iblk m c 5 t (ix2 l x) = ((D.v (rowAt true (step t) l) x : ℝ) : EReal) := by
  refine Eq.trans ?_ (H.v _ x)
  blk_ext [iblk, V, idx0 t]
  unfold rowAt; show (chunkAt true (step t)).val * 256 + l.val = 256 * (chunkAt true (step t)).val + l.val; omega

theorem dm_blk (i : Fin 8) (l x : Fin 256) : iblk m c 6 t (ix3 i l x) = ((decay (D.g i) (lane (rev i) l) (lane (rev i) x) : ℝ) : EReal) := by
  refine Eq.trans ?_ (table_decay m c D H.lg i l x)
  blk_ext [iblk, idx6 t]

theorem qs_blk (i : Fin 8) (l : Fin 256) : iblk m c 7 t (ix3 i l 0) = ((D.g i (lane (rev i) l + 1) : ℝ) : EReal) := by
  refine Eq.trans ?_ (table_upto m c D H.lg i l)
  blk_ext [iblk, idx6 t]

theorem ks_blk (i : Fin 8) (l : Fin 256) : iblk m c 8 t (ix3 i l 0) = ((D.g i (255 - lane (rev i) l) : ℝ) : EReal) := by
  refine Eq.trans ?_ (table_after m c D H.lg i l)
  blk_ext [iblk, idx6 t]

theorem cd_blk (i : Fin 8) : iblk m c 9 t (ix3 i 0 0) = ((D.g i 256 : ℝ) : EReal) := by
  refine Eq.trans ?_ (table_chunk m c D H.lg i)
  blk_ext [iblk, idx6 t]

end Cert.KernelIdeal

end
-- ==== Proof.FwdStep.lean ====
/- What a step of the forward kernel leaves in its outputs and in its scratch, as real numbers. -/
module

public import proofs.«01_k».proof.Proof.FwdBlocks

@[expose] public section

set_option maxRecDepth 16384

noncomputable section

namespace Cert.KernelIdeal

open Idealize.ShloMosaic Idealize.ShloMosaic.TcCoe Idealize.SL.Sem Idealize.ShloMosaic.StableHlo Gen Cert.Retention

variable (m : (ℓ : Loc nD τ sig) → Buf (Elt Ideal) ℓ) (c : Dev nD) (D : Data) (H : HoldsAt m c D) (t : Fin cfg0.N)

/-- The states that meet a step's chunks. -/
def States (D : Data) (n : ℕ) (S : Vec Ideal S8x128x128 .f32) : Prop :=
  ∀ (i : Fin 8) (a b : Fin 128), S (ix3 i a b) = ((D.st (rev i) i n (col i a) (col i b) : ℝ) : EReal)

/-- Where one of the first stores covers an index, the earlier stores do not matter. -/
theorem canon_left {s : Shape} {e : EltTy} (L L' : List (View.Piece (Elt Ideal) s e)) (y : s.Idx) (hc : ∃ p ∈ L, y ∈ p.1.set) :
    View.canon (L ++ L') y = View.canon L y := by
  induction L with
  | nil =>
    obtain ⟨p, hp, _⟩ := hc
    simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := hc
      rcases List.mem_cons.mp hq with rfl | hq
      · exact absurd hy hm
      · exact ih ⟨q, hq, hy⟩

/-- A read of the scratch at the first step, after it was cleared: the states are zero. -/
theorem cleared (h : t.val % 17 = 0) (i : Fin 8) (k : ℕ) (a b : Fin 128) (inb) (inb') :
    (View.whole cc0_scratch0).readCov (Val := Elt Ideal)
      [⟨Rect.unit ![0, 0, 0] ![8, 128, 128] inb, broadcast S8x128x128 (0 : EReal)⟩]
      (Rect.unit (s := S8x128x128) ![k, 0, 0] ![1, 128, 128] inb').toLoadRect (ix3 (0 : Fin 1) a b) =
    ((D.st (rev i) i (step t).val (col i a) (col i b) : ℝ) : EReal) := by
  have ht : (step t).val = 0 := by
    have h1 := t.isLt
    have h2 : cfg0.N = 17 := rfl
    show t.val = 0
    omega
  rw [ht, D.st_zero]
  exact congrFun (View.readCov_fill (View.whole cc0_scratch0) inb _ [] _ (by decide)) _

/-- The block of states a step stores. -/
def stBlk (D : Data) (rev : Bool) (n : ℕ) (j : S1x4x128x128.Idx) : EReal :=
  ((D.st rev (head rev (j 1)) n (headCol (j 1) (j 2)) (headCol (j 1) (j 3)) : ℝ) : EReal)

theorem stBlk_at (D : Data) (rev : Bool) (n : ℕ) (y : S1x4x128x128.Idx) (i : Fin 4) (a b : Fin 128) (h1 : (y 1).val = i.val)
    (h2 : (y 2).val = a.val) (h3 : (y 3).val = b.val) :
    stBlk D rev n y = ((D.st rev (head rev i) n (headCol i a) (headCol i b) : ℝ) : EReal) := by
  unfold stBlk
  rw [show y 1 = i from Fin.ext h1, show y 2 = a from Fin.ext h2, show y 3 = b from Fin.ext h3]

include H

/-- The first step leaves the forward scan's output. -/
theorem first_out_fwd (h : t.val % 17 = 0) :
    (outsAt0 m c t.val t.isLt).1 = arr (fun l e => D.out false (rowAt false (step t) l) e) := by
  rw [outsAt0_A m c t h]
  dsimp only
  funext y
  frame_out
  canon_tiles y h
  · open_payloads
    idx_vars y
    pointwise
    rw [show arr (fun l e => D.out false (rowAt false (step t) l) e) y = ((D.out false (rowAt false (step t) y0) (col 3 y1) : ℝ) : EReal) from
      congrArg₂ (fun l e => ((D.out _ (rowAt _ (step t) l) e : ℝ) : EReal)) (Fin.ext h0) (Fin.ext h1)]
    simp only [q_fwd m c D H t, k_fwd m c D H t, v_fwd m c D H t, dm_blk m c D H t, qs_blk m c D H t, cleared D t h 3 3 _ _, ← EReal.coe_mul, ← coe_sum, ← EReal.coe_add]
    have w := D.out_tile 3 (step t) y0 y1
    exact congrArg _ w
  · open_payloads
    idx_vars y
    pointwise
    rw [show arr (fun l e => D.out false (rowAt false (step t) l) e) y = ((D.out false (rowAt false (step t) y0) (col 2 y1) : ℝ) : EReal) from
      congrArg₂ (fun l e => ((D.out _ (rowAt _ (step t) l) e : ℝ) : EReal)) (Fin.ext h0) (Fin.ext h1)]
    simp only [q_fwd m c D H t, k_fwd m c D H t, v_fwd m c D H t, dm_blk m c D H t, qs_blk m c D H t, cleared D t h 2 2 _ _, ← EReal.coe_mul, ← coe_sum, ← EReal.coe_add]
    have w := D.out_tile 2 (step t) y0 y1
    exact congrArg _ w
  · open_payloads
    idx_vars y
    pointwise
    rw [show arr (fun l e => D.out false (rowAt false (step t) l) e) y = ((D.out false (rowAt false (step t) y0) (col 1 y1) : ℝ) : EReal) from
      congrArg₂ (fun l e => ((D.out _ (rowAt _ (step t) l) e : ℝ) : EReal)) (Fin.ext h0) (Fin.ext h1)]
    simp only [q_fwd m c D H t, k_fwd m c D H t, v_fwd m c D H t, dm_blk m c D H t, qs_blk m c D H t, cleared D t h 1 1 _ _, ← EReal.coe_mul, ← coe_sum, ← EReal.coe_add]
    have w := D.out_tile 1 (step t) y0 y1
    exact congrArg _ w
  · open_payloads
    idx_vars y
    pointwise
    rw [show arr (fun l e => D.out false (rowAt false (step t) l) e) y = ((D.out false (rowAt false (step t) y0) (col 0 y1) : ℝ) : EReal) from
      congrArg₂ (fun l e => ((D.out _ (rowAt _ (step t) l) e : ℝ) : EReal)) (Fin.ext h0) (Fin.ext (h1.trans (Nat.zero_add _).symm))]
    simp only [q_fwd m c D H t, k_fwd m c D H t, v_fwd m c D H t, dm_blk m c D H t, qs_blk m c D H t, cleared D t h 0 0 _ _, ← EReal.coe_mul, ← coe_sum, ← EReal.coe_add]
    have w := D.out_tile 0 (step t) y0 y1
    simp only [col_0] at w ⊢
    exact congrArg _ w

/-- The first step leaves the reverse scan's output. -/
theorem first_out_rev (h : t.val % 17 = 0) :
    (outsAt0 m c t.val t.isLt).2.1 = arr (fun l e => D.out true (rowAt true (step t) l) e) := by
  rw [outsAt0_A m c t h]
  dsimp only
  funext y
  frame_out
  canon_tiles y h
  · open_payloads
    idx_vars y
    pointwise
    rw [show arr (fun l e => D.out true (rowAt true (step t) l) e) y = ((D.out true (rowAt true (step t) y0) (col 7 y1) : ℝ) : EReal) from
      congrArg₂ (fun l e => ((D.out _ (rowAt _ (step t) l) e : ℝ) : EReal)) (Fin.ext h0) (Fin.ext h1)]
    simp only [q_rev m c D H t, k_rev m c D H t, v_rev m c D H t, dm_blk m c D H t, qs_blk m c D H t, cleared D t h 7 7 _ _, ← EReal.coe_mul, ← coe_sum, ← EReal.coe_add]
    have w := D.out_tile 7 (step t) y0 y1
    exact congrArg _ w
  · open_payloads
    idx_vars y
    pointwise
    rw [show arr (fun l e => D.out true (rowAt true (step t) l) e) y = ((D.out true (rowAt true (step t) y0) (col 6 y1) : ℝ) : EReal) from
      congrArg₂ (fun l e => ((D.out _ (rowAt _ (step t) l) e : ℝ) : EReal)) (Fin.ext h0) (Fin.ext h1)]
    simp only [q_rev m c D H t, k_rev m c D H t, v_rev m c D H t, dm_blk m c D H t, qs_blk m c D H t, cleared D t h 6 6 _ _, ← EReal.coe_mul, ← coe_sum, ← EReal.coe_add]
    have w := D.out_tile 6 (step t) y0 y1
    exact congrArg _ w
  · open_payloads
    idx_vars y
    pointwise
    rw [show arr (fun l e => D.out true (rowAt true (step t) l) e) y = ((D.out true (rowAt true (step t) y0) (col 5 y1) : ℝ) : EReal) from
      congrArg₂ (fun l e => ((D.out _ (rowAt _ (step t) l) e : ℝ) : EReal)) (Fin.ext h0) (Fin.ext h1)]
    simp only [q_rev m c D H t, k_rev m c D H t, v_rev m c D H t, dm_blk m c D H t, qs_blk m c D H t, cleared D t h 5 5 _ _, ← EReal.coe_mul, ← coe_sum, ← EReal.coe_add]
    have w := D.out_tile 5 (step t) y0 y1
    exact congrArg _ w
  · open_payloads
    idx_vars y
    pointwise
    rw [show arr (fun l e => D.out true (rowAt true (step t) l) e) y = ((D.out true (rowAt true (step t) y0) (col 4 y1) : ℝ) : EReal) from
      congrArg₂ (fun l e => ((D.out _ (rowAt _ (step t) l) e : ℝ) : EReal)) (Fin.ext h0) (Fin.ext (h1.trans (Nat.zero_add _).symm))]
    simp only [q_rev m c D H t, k_rev m c D H t, v_rev m c D H t, dm_blk m c D H t, qs_blk m c D H t, cleared D t h 4 4 _ _, ← EReal.coe_mul, ← coe_sum, ← EReal.coe_add]
    have w := D.out_tile 4 (step t) y0 y1
    simp only [col_4] at w ⊢
    exact congrArg _ w

/-- The first step leaves the forward scan's states. -/
theorem first_states_fwd (h : t.val % 17 = 0) :
    (outsAt0 m c t.val t.isLt).2.2.1 = stBlk D false (step t).val := by
  rw [outsAt0_A m c t h]
  dsimp only
  funext y
  frame_out
  canon_tiles y h
  · open_payloads
    idx_vars y
    pointwise
    rw [show stBlk D false (step t).val y = ((D.st false (head false 3) (step t).val (headCol 3 y2) (headCol 3 y3) : ℝ) : EReal) from
      stBlk_at D _ _ y 3 y2 y3 (by show _ = 3; omega) h2 h3]
    exact cleared D t h 3 3 y2 y3 _ _
  · open_payloads
    idx_vars y
    pointwise
    rw [show stBlk D false (step t).val y = ((D.st false (head false 2) (step t).val (headCol 2 y2) (headCol 2 y3) : ℝ) : EReal) from
      stBlk_at D _ _ y 2 y2 y3 (by show _ = 2; omega) h2 h3]
    exact cleared D t h 2 2 y2 y3 _ _
  · open_payloads
    idx_vars y
    pointwise
    rw [show stBlk D false (step t).val y = ((D.st false (head false 1) (step t).val (headCol 1 y2) (headCol 1 y3) : ℝ) : EReal) from
      stBlk_at D _ _ y 1 y2 y3 (by show _ = 1; omega) h2 h3]
    exact cleared D t h 1 1 y2 y3 _ _
  · open_payloads
    idx_vars y
    pointwise
    rw [show stBlk D false (step t).val y = ((D.st false (head false 0) (step t).val (headCol 0 y2) (headCol 0 y3) : ℝ) : EReal) from
      stBlk_at D _ _ y 0 y2 y3 (by show _ = 0; omega) h2 h3]
    exact cleared D t h 0 0 y2 y3 _ _

/-- The first step leaves the reverse scan's states. -/
theorem first_states_rev (h : t.val % 17 = 0) :
    (outsAt0 m c t.val t.isLt).2.2.2.1 = stBlk D true (step t).val := by
  rw [outsAt0_A m c t h]
  dsimp only
  funext y
  frame_out
  canon_tiles y h
  · open_payloads
    idx_vars y
    pointwise
    rw [show stBlk D true (step t).val y = ((D.st true (head true 3) (step t).val (headCol 3 y2) (headCol 3 y3) : ℝ) : EReal) from
      stBlk_at D _ _ y 3 y2 y3 (by show _ = 3; omega) h2 h3]
    exact cleared D t h 7 7 y2 y3 _ _
  · open_payloads
    idx_vars y
    pointwise
    rw [show stBlk D true (step t).val y = ((D.st true (head true 2) (step t).val (headCol 2 y2) (headCol 2 y3) : ℝ) : EReal) from
      stBlk_at D _ _ y 2 y2 y3 (by show _ = 2; omega) h2 h3]
    exact cleared D t h 6 6 y2 y3 _ _
  · open_payloads
    idx_vars y
    pointwise
    rw [show stBlk D true (step t).val y = ((D.st true (head true 1) (step t).val (headCol 1 y2) (headCol 1 y3) : ℝ) : EReal) from
      stBlk_at D _ _ y 1 y2 y3 (by show _ = 1; omega) h2 h3]
    exact cleared D t h 5 5 y2 y3 _ _
  · open_payloads
    idx_vars y
    pointwise
    rw [show stBlk D true (step t).val y = ((D.st true (head true 0) (step t).val (headCol 0 y2) (headCol 0 y3) : ℝ) : EReal) from
      stBlk_at D _ _ y 0 y2 y3 (by show _ = 0; omega) h2 h3]
    exact cleared D t h 4 4 y2 y3 _ _

/-- The first step leaves the scratch. -/
theorem first_scratch (h : t.val % 17 = 0) :
    States D ((step t).val + 1) (outsAt0 m c t.val t.isLt).2.2.2.2 := by
  suffices e : (outsAt0 m c t.val t.isLt).2.2.2.2 = fun y : S8x128x128.Idx =>
      ((D.st (rev (y 0)) (y 0) ((step t).val + 1) (col (y 0) (y 1)) (col (y 0) (y 2)) : ℝ) : EReal) by
    intro i a b
    rw [e]
    rfl
  rw [outsAt0_A m c t h]
  dsimp only
  funext y
  frame_out
  refine (canon_left (s := S8x128x128) [_, _, _, _, _, _, _, _] [_] y ?_).trans ?_
  · exact View.cover_of_tiledL (s := S8x128x128) _ S1x128x128.size (by sl_kernel_rfl) y
  canon_tiles y h
  · open_payloads
    idx_vars y
    pointwise
    rw [show y 0 = (7 : Fin 8) from Fin.ext (by show _ = 7; omega), show y 1 = y1 from Fin.ext h1, show y 2 = y2 from Fin.ext h2]
    simp only [k_rev m c D H t, v_rev m c D H t, ks_blk m c D H t, cd_blk m c D H t, cleared D t h 7 7 _ _, ← EReal.coe_mul, ← coe_sum, ← EReal.coe_add]
    have w := D.st_tile 7 (step t) y1 y2
    exact congrArg _ w
  · open_payloads
    idx_vars y
    pointwise
    rw [show y 0 = (6 : Fin 8) from Fin.ext (by show _ = 6; omega), show y 1 = y1 from Fin.ext h1, show y 2 = y2 from Fin.ext h2]
    simp only [k_rev m c D H t, v_rev m c D H t, ks_blk m c D H t, cd_blk m c D H t, cleared D t h 6 6 _ _, ← EReal.coe_mul, ← coe_sum, ← EReal.coe_add]
    have w := D.st_tile 6 (step t) y1 y2
    exact congrArg _ w
  · open_payloads
    idx_vars y
    pointwise
    rw [show y 0 = (5 : Fin 8) from Fin.ext (by show _ = 5; omega), show y 1 = y1 from Fin.ext h1, show y 2 = y2 from Fin.ext h2]
    simp only [k_rev m c D H t, v_rev m c D H t, ks_blk m c D H t, cd_blk m c D H t, cleared D t h 5 5 _ _, ← EReal.coe_mul, ← coe_sum, ← EReal.coe_add]
    have w := D.st_tile 5 (step t) y1 y2
    exact congrArg _ w
  · open_payloads
    idx_vars y
    pointwise
    rw [show y 0 = (4 : Fin 8) from Fin.ext (by show _ = 4; omega), show y 1 = y1 from Fin.ext h1, show y 2 = y2 from Fin.ext h2]
    simp only [k_rev m c D H t, v_rev m c D H t, ks_blk m c D H t, cd_blk m c D H t, cleared D t h 4 4 _ _, ← EReal.coe_mul, ← coe_sum, ← EReal.coe_add]
    have w := D.st_tile 4 (step t) y1 y2
    simp only [col_4] at w ⊢
    exact congrArg _ w
  · open_payloads
    idx_vars y
    pointwise
    rw [show y 0 = (3 : Fin 8) from Fin.ext (by show _ = 3; omega), show y 1 = y1 from Fin.ext h1, show y 2 = y2 from Fin.ext h2]
    simp only [k_fwd m c D H t, v_fwd m c D H t, ks_blk m c D H t, cd_blk m c D H t, cleared D t h 3 3 _ _, ← EReal.coe_mul, ← coe_sum, ← EReal.coe_add]
    have w := D.st_tile 3 (step t) y1 y2
    exact congrArg _ w
  · open_payloads
    idx_vars y
    pointwise
    rw [show y 0 = (2 : Fin 8) from Fin.ext (by show _ = 2; omega), show y 1 = y1 from Fin.ext h1, show y 2 = y2 from Fin.ext h2]
    simp only [k_fwd m c D H t, v_fwd m c D H t, ks_blk m c D H t, cd_blk m c D H t, cleared D t h 2 2 _ _, ← EReal.coe_mul, ← coe_sum, ← EReal.coe_add]
    have w := D.st_tile 2 (step t) y1 y2
    exact congrArg _ w
  · open_payloads
    idx_vars y
    pointwise
    rw [show y 0 = (1 : Fin 8) from Fin.ext (by show _ = 1; omega), show y 1 = y1 from Fin.ext h1, show y 2 = y2 from Fin.ext h2]
    simp only [k_fwd m c D H t, v_fwd m c D H t, ks_blk m c D H t, cd_blk m c D H t, cleared D t h 1 1 _ _, ← EReal.coe_mul, ← coe_sum, ← EReal.coe_add]
    have w := D.st_tile 1 (step t) y1 y2
    exact congrArg _ w
  · open_payloads
    idx_vars y
    pointwise
    rw [show y 0 = (0 : Fin 8) from Fin.ext (by show _ = 0; omega), show y 1 = y1 from Fin.ext h1, show y 2 = y2 from Fin.ext h2]
    simp only [k_fwd m c D H t, v_fwd m c D H t, ks_blk m c D H t, cd_blk m c D H t, cleared D t h 0 0 _ _, ← EReal.coe_mul, ← coe_sum, ← EReal.coe_add]
    have w := D.st_tile 0 (step t) y1 y2
    simp only [col_0] at w ⊢
    exact congrArg _ w

/-- A later step leaves the forward scan's output. -/
theorem later_out_fwd (h : ¬t.val % 17 = 0)
    (hS : States D (step t).val (outsAt0 m c (t.val - 1) (Nat.lt_of_le_of_lt (Nat.sub_le _ _) t.isLt)).2.2.2.2) :
    (outsAt0 m c t.val t.isLt).1 = arr (fun l e => D.out false (rowAt false (step t) l) e) := by
  rw [outsAt0_B m c t h]
  dsimp only
  generalize (outsAt0 m c (t.val - 1) (Nat.lt_of_le_of_lt (Nat.sub_le _ _) t.isLt)).2.2.2.2 = S at hS
  funext y
  frame_out
  simp only [read_unread_whole]
  canon_tiles y h
  · open_payloads
    idx_vars y
    pointwise
    rw [show arr (fun l e => D.out false (rowAt false (step t) l) e) y = ((D.out false (rowAt false (step t) y0) (col 3 y1) : ℝ) : EReal) from
      congrArg₂ (fun l e => ((D.out _ (rowAt _ (step t) l) e : ℝ) : EReal)) (Fin.ext h0) (Fin.ext h1)]
    simp only [q_fwd m c D H t, k_fwd m c D H t, v_fwd m c D H t, dm_blk m c D H t, qs_blk m c D H t, hS _ _ _, ← EReal.coe_mul, ← coe_sum, ← EReal.coe_add]
    have w := D.out_tile 3 (step t) y0 y1
    exact congrArg _ w
  · open_payloads
    idx_vars y
    pointwise
    rw [show arr (fun l e => D.out false (rowAt false (step t) l) e) y = ((D.out false (rowAt false (step t) y0) (col 2 y1) : ℝ) : EReal) from
      congrArg₂ (fun l e => ((D.out _ (rowAt _ (step t) l) e : ℝ) : EReal)) (Fin.ext h0) (Fin.ext h1)]
    simp only [q_fwd m c D H t, k_fwd m c D H t, v_fwd m c D H t, dm_blk m c D H t, qs_blk m c D H t, hS _ _ _, ← EReal.coe_mul, ← coe_sum, ← EReal.coe_add]
    have w := D.out_tile 2 (step t) y0 y1
    exact congrArg _ w
  · open_payloads
    idx_vars y
    pointwise
    rw [show arr (fun l e => D.out false (rowAt false (step t) l) e) y = ((D.out false (rowAt false (step t) y0) (col 1 y1) : ℝ) : EReal) from
      congrArg₂ (fun l e => ((D.out _ (rowAt _ (step t) l) e : ℝ) : EReal)) (Fin.ext h0) (Fin.ext h1)]
    simp only [q_fwd m c D H t, k_fwd m c D H t, v_fwd m c D H t, dm_blk m c D H t, qs_blk m c D H t, hS _ _ _, ← EReal.coe_mul, ← coe_sum, ← EReal.coe_add]
    have w := D.out_tile 1 (step t) y0 y1
    exact congrArg _ w
  · open_payloads
    idx_vars y
    pointwise
    rw [show arr (fun l e => D.out false (rowAt false (step t) l) e) y = ((D.out false (rowAt false (step t) y0) (col 0 y1) : ℝ) : EReal) from
      congrArg₂ (fun l e => ((D.out _ (rowAt _ (step t) l) e : ℝ) : EReal)) (Fin.ext h0) (Fin.ext (h1.trans (Nat.zero_add _).symm))]
    simp only [q_fwd m c D H t, k_fwd m c D H t, v_fwd m c D H t, dm_blk m c D H t, qs_blk m c D H t, hS _ _ _, ← EReal.coe_mul, ← coe_sum, ← EReal.coe_add]
    have w := D.out_tile 0 (step t) y0 y1
    simp only [col_0] at w ⊢
    exact congrArg _ w

/-- A later step leaves the reverse scan's output. -/
theorem later_out_rev (h : ¬t.val % 17 = 0)
    (hS : States D (step t).val (outsAt0 m c (t.val - 1) (Nat.lt_of_le_of_lt (Nat.sub_le _ _) t.isLt)).2.2.2.2) :
    (outsAt0 m c t.val t.isLt).2.1 = arr (fun l e => D.out true (rowAt true (step t) l) e) := by
  rw [outsAt0_B m c t h]
  dsimp only
  generalize (outsAt0 m c (t.val - 1) (Nat.lt_of_le_of_lt (Nat.sub_le _ _) t.isLt)).2.2.2.2 = S at hS
  funext y
  frame_out
  simp only [read_unread_whole]
  canon_tiles y h
  · open_payloads
    idx_vars y
    pointwise
    rw [show arr (fun l e => D.out true (rowAt true (step t) l) e) y = ((D.out true (rowAt true (step t) y0) (col 7 y1) : ℝ) : EReal) from
      congrArg₂ (fun l e => ((D.out _ (rowAt _ (step t) l) e : ℝ) : EReal)) (Fin.ext h0) (Fin.ext h1)]
    simp only [q_rev m c D H t, k_rev m c D H t, v_rev m c D H t, dm_blk m c D H t, qs_blk m c D H t, hS _ _ _, ← EReal.coe_mul, ← coe_sum, ← EReal.coe_add]
    have w := D.out_tile 7 (step t) y0 y1
    exact congrArg _ w
  · open_payloads
    idx_vars y
    pointwise
    rw [show arr (fun l e => D.out true (rowAt true (step t) l) e) y = ((D.out true (rowAt true (step t) y0) (col 6 y1) : ℝ) : EReal) from
      congrArg₂ (fun l e => ((D.out _ (rowAt _ (step t) l) e : ℝ) : EReal)) (Fin.ext h0) (Fin.ext h1)]
    simp only [q_rev m c D H t, k_rev m c D H t, v_rev m c D H t, dm_blk m c D H t, qs_blk m c D H t, hS _ _ _, ← EReal.coe_mul, ← coe_sum, ← EReal.coe_add]
    have w := D.out_tile 6 (step t) y0 y1
    exact congrArg _ w
  · open_payloads
    idx_vars y
    pointwise
    rw [show arr (fun l e => D.out true (rowAt true (step t) l) e) y = ((D.out true (rowAt true (step t) y0) (col 5 y1) : ℝ) : EReal) from
      congrArg₂ (fun l e => ((D.out _ (rowAt _ (step t) l) e : ℝ) : EReal)) (Fin.ext h0) (Fin.ext h1)]
    simp only [q_rev m c D H t, k_rev m c D H t, v_rev m c D H t, dm_blk m c D H t, qs_blk m c D H t, hS _ _ _, ← EReal.coe_mul, ← coe_sum, ← EReal.coe_add]
    have w := D.out_tile 5 (step t) y0 y1
    exact congrArg _ w
  · open_payloads
    idx_vars y
    pointwise
    rw [show arr (fun l e => D.out true (rowAt true (step t) l) e) y = ((D.out true (rowAt true (step t) y0) (col 4 y1) : ℝ) : EReal) from
      congrArg₂ (fun l e => ((D.out _ (rowAt _ (step t) l) e : ℝ) : EReal)) (Fin.ext h0) (Fin.ext (h1.trans (Nat.zero_add _).symm))]
    simp only [q_rev m c D H t, k_rev m c D H t, v_rev m c D H t, dm_blk m c D H t, qs_blk m c D H t, hS _ _ _, ← EReal.coe_mul, ← coe_sum, ← EReal.coe_add]
    have w := D.out_tile 4 (step t) y0 y1
    simp only [col_4] at w ⊢
    exact congrArg _ w

/-- A later step leaves the forward scan's states. -/
theorem later_states_fwd (h : ¬t.val % 17 = 0)
    (hS : States D (step t).val (outsAt0 m c (t.val - 1) (Nat.lt_of_le_of_lt (Nat.sub_le _ _) t.isLt)).2.2.2.2) :
    (outsAt0 m c t.val t.isLt).2.2.1 = stBlk D false (step t).val := by
  rw [outsAt0_B m c t h]
  dsimp only
  generalize (outsAt0 m c (t.val - 1) (Nat.lt_of_le_of_lt (Nat.sub_le _ _) t.isLt)).2.2.2.2 = S at hS
  funext y
  frame_out
  simp only [read_unread_whole]
  canon_tiles y h
  · open_payloads
    idx_vars y
    pointwise
    rw [show stBlk D false (step t).val y = ((D.st false (head false 3) (step t).val (headCol 3 y2) (headCol 3 y3) : ℝ) : EReal) from
      stBlk_at D _ _ y 3 y2 y3 (by show _ = 3; omega) h2 h3]
    exact hS 3 y2 y3
  · open_payloads
    idx_vars y
    pointwise
    rw [show stBlk D false (step t).val y = ((D.st false (head false 2) (step t).val (headCol 2 y2) (headCol 2 y3) : ℝ) : EReal) from
      stBlk_at D _ _ y 2 y2 y3 (by show _ = 2; omega) h2 h3]
    exact hS 2 y2 y3
  · open_payloads
    idx_vars y
    pointwise
    rw [show stBlk D false (step t).val y = ((D.st false (head false 1) (step t).val (headCol 1 y2) (headCol 1 y3) : ℝ) : EReal) from
      stBlk_at D _ _ y 1 y2 y3 (by show _ = 1; omega) h2 h3]
    exact hS 1 y2 y3
  · open_payloads
    idx_vars y
    pointwise
    rw [show stBlk D false (step t).val y = ((D.st false (head false 0) (step t).val (headCol 0 y2) (headCol 0 y3) : ℝ) : EReal) from
      stBlk_at D _ _ y 0 y2 y3 (by show _ = 0; omega) h2 h3]
    exact hS 0 y2 y3

/-- A later step leaves the reverse scan's states. -/
theorem later_states_rev (h : ¬t.val % 17 = 0)
    (hS : States D (step t).val (outsAt0 m c (t.val - 1) (Nat.lt_of_le_of_lt (Nat.sub_le _ _) t.isLt)).2.2.2.2) :
    (outsAt0 m c t.val t.isLt).2.2.2.1 = stBlk D true (step t).val := by
  rw [outsAt0_B m c t h]
  dsimp only
  generalize (outsAt0 m c (t.val - 1) (Nat.lt_of_le_of_lt (Nat.sub_le _ _) t.isLt)).2.2.2.2 = S at hS
  funext y
  frame_out
  simp only [read_unread_whole]
  canon_tiles y h
  · open_payloads
    idx_vars y
    pointwise
    rw [show stBlk D true (step t).val y = ((D.st true (head true 3) (step t).val (headCol 3 y2) (headCol 3 y3) : ℝ) : EReal) from
      stBlk_at D _ _ y 3 y2 y3 (by show _ = 3; omega) h2 h3]
    exact hS 7 y2 y3
  · open_payloads
    idx_vars y
    pointwise
    rw [show stBlk D true (step t).val y = ((D.st true (head true 2) (step t).val (headCol 2 y2) (headCol 2 y3) : ℝ) : EReal) from
      stBlk_at D _ _ y 2 y2 y3 (by show _ = 2; omega) h2 h3]
    exact hS 6 y2 y3
  · open_payloads
    idx_vars y
    pointwise
    rw [show stBlk D true (step t).val y = ((D.st true (head true 1) (step t).val (headCol 1 y2) (headCol 1 y3) : ℝ) : EReal) from
      stBlk_at D _ _ y 1 y2 y3 (by show _ = 1; omega) h2 h3]
    exact hS 5 y2 y3
  · open_payloads
    idx_vars y
    pointwise
    rw [show stBlk D true (step t).val y = ((D.st true (head true 0) (step t).val (headCol 0 y2) (headCol 0 y3) : ℝ) : EReal) from
      stBlk_at D _ _ y 0 y2 y3 (by show _ = 0; omega) h2 h3]
    exact hS 4 y2 y3

/-- A later step leaves the scratch. -/
theorem later_scratch (h : ¬t.val % 17 = 0)
    (hS : States D (step t).val (outsAt0 m c (t.val - 1) (Nat.lt_of_le_of_lt (Nat.sub_le _ _) t.isLt)).2.2.2.2) :
    States D ((step t).val + 1) (outsAt0 m c t.val t.isLt).2.2.2.2 := by
  suffices e : (outsAt0 m c t.val t.isLt).2.2.2.2 = fun y : S8x128x128.Idx =>
      ((D.st (rev (y 0)) (y 0) ((step t).val + 1) (col (y 0) (y 1)) (col (y 0) (y 2)) : ℝ) : EReal) by
    intro i a b
    rw [e]
    rfl
  rw [outsAt0_B m c t h]
  dsimp only
  generalize (outsAt0 m c (t.val - 1) (Nat.lt_of_le_of_lt (Nat.sub_le _ _) t.isLt)).2.2.2.2 = S at hS
  funext y
  frame_out
  simp only [read_unread_whole]
  canon_tiles y h
  · open_payloads
    idx_vars y
    pointwise
    rw [show y 0 = (7 : Fin 8) from Fin.ext (by show _ = 7; omega), show y 1 = y1 from Fin.ext h1, show y 2 = y2 from Fin.ext h2]
    simp only [k_rev m c D H t, v_rev m c D H t, ks_blk m c D H t, cd_blk m c D H t, hS _ _ _, ← EReal.coe_mul, ← coe_sum, ← EReal.coe_add]
    have w := D.st_tile 7 (step t) y1 y2
    exact congrArg _ w
  · open_payloads
    idx_vars y
    pointwise
    rw [show y 0 = (6 : Fin 8) from Fin.ext (by show _ = 6; omega), show y 1 = y1 from Fin.ext h1, show y 2 = y2 from Fin.ext h2]
    simp only [k_rev m c D H t, v_rev m c D H t, ks_blk m c D H t, cd_blk m c D H t, hS _ _ _, ← EReal.coe_mul, ← coe_sum, ← EReal.coe_add]
    have w := D.st_tile 6 (step t) y1 y2
    exact congrArg _ w
  · open_payloads
    idx_vars y
    pointwise
    rw [show y 0 = (5 : Fin 8) from Fin.ext (by show _ = 5; omega), show y 1 = y1 from Fin.ext h1, show y 2 = y2 from Fin.ext h2]
    simp only [k_rev m c D H t, v_rev m c D H t, ks_blk m c D H t, cd_blk m c D H t, hS _ _ _, ← EReal.coe_mul, ← coe_sum, ← EReal.coe_add]
    have w := D.st_tile 5 (step t) y1 y2
    exact congrArg _ w
  · open_payloads
    idx_vars y
    pointwise
    rw [show y 0 = (4 : Fin 8) from Fin.ext (by show _ = 4; omega), show y 1 = y1 from Fin.ext h1, show y 2 = y2 from Fin.ext h2]
    simp only [k_rev m c D H t, v_rev m c D H t, ks_blk m c D H t, cd_blk m c D H t, hS _ _ _, ← EReal.coe_mul, ← coe_sum, ← EReal.coe_add]
    have w := D.st_tile 4 (step t) y1 y2
    simp only [col_4] at w ⊢
    exact congrArg _ w
  · open_payloads
    idx_vars y
    pointwise
    rw [show y 0 = (3 : Fin 8) from Fin.ext (by show _ = 3; omega), show y 1 = y1 from Fin.ext h1, show y 2 = y2 from Fin.ext h2]
    simp only [k_fwd m c D H t, v_fwd m c D H t, ks_blk m c D H t, cd_blk m c D H t, hS _ _ _, ← EReal.coe_mul, ← coe_sum, ← EReal.coe_add]
    have w := D.st_tile 3 (step t) y1 y2
    exact congrArg _ w
  · open_payloads
    idx_vars y
    pointwise
    rw [show y 0 = (2 : Fin 8) from Fin.ext (by show _ = 2; omega), show y 1 = y1 from Fin.ext h1, show y 2 = y2 from Fin.ext h2]
    simp only [k_fwd m c D H t, v_fwd m c D H t, ks_blk m c D H t, cd_blk m c D H t, hS _ _ _, ← EReal.coe_mul, ← coe_sum, ← EReal.coe_add]
    have w := D.st_tile 2 (step t) y1 y2
    exact congrArg _ w
  · open_payloads
    idx_vars y
    pointwise
    rw [show y 0 = (1 : Fin 8) from Fin.ext (by show _ = 1; omega), show y 1 = y1 from Fin.ext h1, show y 2 = y2 from Fin.ext h2]
    simp only [k_fwd m c D H t, v_fwd m c D H t, ks_blk m c D H t, cd_blk m c D H t, hS _ _ _, ← EReal.coe_mul, ← coe_sum, ← EReal.coe_add]
    have w := D.st_tile 1 (step t) y1 y2
    exact congrArg _ w
  · open_payloads
    idx_vars y
    pointwise
    rw [show y 0 = (0 : Fin 8) from Fin.ext (by show _ = 0; omega), show y 1 = y1 from Fin.ext h1, show y 2 = y2 from Fin.ext h2]
    simp only [k_fwd m c D H t, v_fwd m c D H t, ks_blk m c D H t, cd_blk m c D H t, hS _ _ _, ← EReal.coe_mul, ← coe_sum, ← EReal.coe_add]
    have w := D.st_tile 0 (step t) y1 y2
    simp only [col_0] at w ⊢
    exact congrArg _ w

end Cert.KernelIdeal

end
-- ==== Proof.FwdValue.lean ====
/- The forward kernel's results, as the reference's. -/
module

public import proofs.«01_k».proof.Proof.FwdStep

@[expose] public section

set_option maxRecDepth 16384

noncomputable section

namespace Cert.KernelIdeal

open Idealize.ShloMosaic Idealize.ShloMosaic.TcCoe Idealize.SL.Sem Idealize.ShloMosaic.StableHlo Gen Cert.Retention

variable (m : (ℓ : Loc nD τ sig) → Buf (Elt Ideal) ℓ) (c : Dev nD) (D : Data) (H : HoldsAt m c D)

include H

/-- What the scratch holds after each step. -/
theorem states (n : ℕ) (hn : n < cfg0.N) : States D (n + 1) (outsAt0 m c n hn).2.2.2.2 := by
  induction n with
  | zero => exact first_scratch m c D H ⟨0, hn⟩ rfl
  | succ n ih =>
    have h17 : cfg0.N = 17 := rfl
    exact later_scratch m c D H ⟨n + 1, hn⟩ (by show ¬(n + 1) % 17 = 0; omega) (ih (Nat.lt_of_succ_lt hn))

theorem states_before (t : Fin cfg0.N) (h : ¬t.val % 17 = 0) :
    States D (step t).val (outsAt0 m c (t.val - 1) (Nat.lt_of_le_of_lt (Nat.sub_le _ _) t.isLt)).2.2.2.2 := by
  have e := states m c D H (t.val - 1) (Nat.lt_of_le_of_lt (Nat.sub_le _ _) t.isLt)
  rw [show t.val - 1 + 1 = (step t).val by show _ = t.val; omega] at e
  exact e

theorem step_out_fwd (t : Fin cfg0.N) : (outsAt0 m c t.val t.isLt).1 = arr (fun l e => D.out false (rowAt false (step t) l) e) := by
  by_cases h : t.val % 17 = 0
  · exact first_out_fwd m c D H t h
  · exact later_out_fwd m c D H t h (states_before m c D H t h)

theorem step_out_rev (t : Fin cfg0.N) : (outsAt0 m c t.val t.isLt).2.1 = arr (fun l e => D.out true (rowAt true (step t) l) e) := by
  by_cases h : t.val % 17 = 0
  · exact first_out_rev m c D H t h
  · exact later_out_rev m c D H t h (states_before m c D H t h)

theorem step_states_fwd (t : Fin cfg0.N) : (outsAt0 m c t.val t.isLt).2.2.1 = stBlk D false (step t).val := by
  by_cases h : t.val % 17 = 0
  · exact first_states_fwd m c D H t h
  · exact later_states_fwd m c D H t h (states_before m c D H t h)

theorem step_states_rev (t : Fin cfg0.N) : (outsAt0 m c t.val t.isLt).2.2.2.1 = stBlk D true (step t).val := by
  by_cases h : t.val % 17 = 0
  · exact first_states_rev m c D H t h
  · exact later_states_rev m c D H t h (states_before m c D H t h)

omit H in
theorem idx10 : ∀ t : Fin cfg0.N, win0_10.index t = ![t.val, 0] ∧ win0_11.index t = ![(chunkAt true (step t)).val, 0] ∧
    win0_12.index t = ![t.val, 0, 0, 0] ∧ win0_13.index t = ![(chunkAt true (step t)).val, 0, 0, 0] := by decide +kernel

omit H in
theorem chunk_twice : ∀ n : Fin 17, chunkAt true (chunkAt true n) = n := by decide

theorem result_out_fwd : (dats m 0 c).arrAt 10 cfg0.N = (arr (D.out false) : S4352x512.Idx → EReal) := by
  refine (dats m 0 c).arrAt_eq_of_covers 10 _ (by decide +kernel) fun t hf y => ?_
  blk_simp
  rw [after0_10, step_out_fwd m c D H t]
  have e : (win0_10.blk t).view.emb y = ix2 (rowAt false (step t) (y 0)) (y 1) := by
    blk_ext [idx10 t]
    unfold rowAt; show t.val * 256 + (y 0).val = 256 * t.val + (y 0).val; omega
  rw [e]
  rfl

theorem result_out_rev : (dats m 0 c).arrAt 11 cfg0.N = (arr (D.out true) : S4352x512.Idx → EReal) := by
  refine (dats m 0 c).arrAt_eq_of_covers 11 _ (by decide +kernel) fun t hf y => ?_
  blk_simp
  rw [after0_11, step_out_rev m c D H t]
  have e : (win0_11.blk t).view.emb y = ix2 (rowAt true (step t) (y 0)) (y 1) := by
    blk_ext [idx10 t]
    unfold rowAt; show (chunkAt true (step t)).val * 256 + (y 0).val = 256 * (chunkAt true (step t)).val + (y 0).val; omega
  rw [e]
  rfl

theorem result_states_fwd : (dats m 0 c).arrAt 12 cfg0.N = (D.stArr false : S17x4x128x128.Idx → EReal) := by
  refine (dats m 0 c).arrAt_eq_of_covers 12 _ (by decide +kernel) fun t hf y => ?_
  blk_simp
  rw [after0_12, step_states_fwd m c D H t]
  have e : (win0_12.blk t).view.emb y = ix4 (chunkAt false (step t)) (y 1) (y 2) (y 3) := by
    blk_ext [idx10 t]
    rfl
  rw [e]
  show _ = ((D.st false (head false (y 1)) (chunkAt false (chunkAt false (step t))).val (headCol (y 1) (y 2)) (headCol (y 1) (y 3)) : ℝ) : EReal)
  rfl

theorem result_states_rev : (dats m 0 c).arrAt 13 cfg0.N = (D.stArr true : S17x4x128x128.Idx → EReal) := by
  refine (dats m 0 c).arrAt_eq_of_covers 13 _ (by decide +kernel) fun t hf y => ?_
  blk_simp
  rw [after0_13, step_states_rev m c D H t]
  have e : (win0_13.blk t).view.emb y = ix4 (chunkAt true (step t)) (y 1) (y 2) (y 3) := by
    blk_ext [idx10 t]
  rw [e]
  show _ = ((D.st true (head true (y 1)) (chunkAt true (chunkAt true (step t))).val (headCol (y 1) (y 2)) (headCol (y 1) (y 3)) : ℝ) : EReal)
  rw [chunk_twice]
  rfl

end Cert.KernelIdeal

end
-- ==== Proof.Forward.lean ====
/- The forward kernel and its reference end with equal results. -/
module

public import proofs.«01_k».proof.Proof.Finite
public import proofs.«01_k».proof.Proof.Ref1
public import proofs.«01_k».proof.Proof.FwdValue

@[expose] public section

noncomputable section

namespace Cert.Retention

open Idealize.ShloMosaic Idealize.ShloMosaic.TcCoe Idealize.SL.Sem

theorem finite_facts : Cert.Pre_finite.Facts := ⟨by decide, by decide⟩

/-- The forward kernel's data. -/
def fwdData (m : (ℓ : Loc Cert.KernelIdeal.nD Cert.KernelIdeal.τ Cert.KernelIdeal.sig) → Buf (Elt Ideal) ℓ)
    (c : Dev Cert.KernelIdeal.nD) : Data :=
  Data.of (fun r x => m ((c.tc : Thread Cert.KernelIdeal.nD Cert.KernelIdeal.τ).loc Cert.KernelIdeal.main_arg0) (ix2 r x))
    (fun r x => m ((c.tc : Thread Cert.KernelIdeal.nD Cert.KernelIdeal.τ).loc Cert.KernelIdeal.main_arg1) (ix2 r x))
    (fun r x => m ((c.tc : Thread Cert.KernelIdeal.nD Cert.KernelIdeal.τ).loc Cert.KernelIdeal.main_arg2) (ix2 r x))
    (fun i => m ((c.tc : Thread Cert.KernelIdeal.nD Cert.KernelIdeal.τ).loc Cert.KernelIdeal.main_arg3) (ix1 i))
    (fun _ _ => 0)

theorem forward : Cert.algebraic_KernelIdeal_ReferenceIdeal_pre_finite (hKernelIdeal := Cert.KernelIdeal.Gen.facts)
    (hReferenceIdeal := Cert.ReferenceIdeal.Gen.facts) (hPre_finite := finite_facts) := by
  intro m g m' g' hp ha
  have H : ∀ c, Cert.KernelIdeal.HoldsAt m c (fwdData m c) := fun c =>
    ⟨fun r x => (@finite_entries finite_facts _ _ _ _ (hp c) r x).1,
      fun r x => (@finite_entries finite_facts _ _ _ _ (hp c) r x).2.1,
      fun r x => (@finite_entries finite_facts _ _ _ _ (hp c) r x).2.2, fun _ => rfl⟩
  have H' : ∀ c, Cert.ReferenceIdeal.HoldsAt m' c (fwdData m c) := fun c => by
    obtain ⟨h0, h1, h2, h3⟩ := ha c
    unfold Cert.ReferenceIdeal.HoldsAt
    rw [h0, h1, h2, h3]
    exact H c
  refine ⟨fun c => arr ((fwdData m c).out false), fun c => arr ((fwdData m c).out true), fun c => (fwdData m c).stArr false,
    fun c => (fwdData m c).stArr true, ?_, Cert.ReferenceIdeal.run_value m' g' (fwdData m) H'⟩
  refine (θ_run _ _ _).mono (fun r h c => ?_) (Cert.KernelIdeal.Value.run_blocks m g)
  obtain ⟨h0, h1, h2, h3, h4⟩ := h c
  exact ⟨h0.trans (Cert.KernelIdeal.result_out_fwd m c _ (H c)), h1.trans (Cert.KernelIdeal.result_out_rev m c _ (H c)),
    h2.trans (Cert.KernelIdeal.result_states_fwd m c _ (H c)), h3.trans (Cert.KernelIdeal.result_states_rev m c _ (H c)), h4⟩

end Cert.Retention

end
-- ==== Proof.Finite2.lean ====
/- What the backward call's precondition says of each number. -/
module

public import proofs.«01_k».proof.Proof.Finite

@[expose] public section

noncomputable section

namespace Cert.Retention

open Idealize.ShloMosaic Idealize.ShloMosaic.TcCoe

theorem finite2_entries [Cert.Pre_finite2.Facts] (q k p e d) (h : Cert.Pre_finite2.fn (F := Ideal) q k p e d = fun _ => 1#1)
    (r : Fin 4352) (c : Fin 512) :
    q (ix2 r c) = (((q (ix2 r c)).toReal : ℝ) : EReal) ∧ k (ix2 r c) = (((k (ix2 r c)).toReal : ℝ) : EReal) ∧
      p (ix2 r ⟨4096 + c.val, by omega⟩) = (((p (ix2 r ⟨4096 + c.val, by omega⟩)).toReal : ℝ) : EReal) ∧
      d (ix2 r c) = (((d (ix2 r c)).toReal : ℝ) : EReal) := by
  have w : IntOp.andi (IntOp.andi (IntOp.andi (below (q (ix2 r c))) (below (k (ix2 r c))))
      (below (extractStridedSlice Cert.Pre_finite2.S4352x512 ![0, 4096] p Cert.Pre_finite2.Facts.slices_S4352x8704_S4352x512_0_4096 (ix2 r c))))
      (below (d (ix2 r c))) = 1#1 := congrFun h (ix2 r c)
  have e1 : extractStridedSlice Cert.Pre_finite2.S4352x512 ![0, 4096] p Cert.Pre_finite2.Facts.slices_S4352x8704_S4352x512_0_4096 (ix2 r c) = p (ix2 r ⟨4096 + c.val, by omega⟩) := by
    pointwise
  rw [e1] at w
  obtain ⟨w1, w2⟩ := and_left _ _ w
  obtain ⟨w3, w4⟩ := and_left _ _ w1
  obtain ⟨w5, w6⟩ := and_left _ _ w3
  exact ⟨real_of_below _ w5, real_of_below _ w6, real_of_below _ w4, real_of_below _ w2⟩

end Cert.Retention

end
-- ==== Proof.Ref2.lean ====
/- The reference's gradients as sums over all the rows. -/
module

public import proofs.«01_k».proof.Proof.Read
public import proofs.«01_k».proof.Proof.Gen.Reference2Ideal.Run

@[expose] public section

set_option maxRecDepth 16384
set_option maxHeartbeats 2000000

noncomputable section

namespace Cert.Reference2Ideal

open Idealize.ShloMosaic Idealize.ShloMosaic.TcCoe Idealize.SL.Sem Idealize.ShloMosaic.StableHlo Cert.Retention

/-- The data that a device's arguments hold. -/
def HoldsAt (m : (ℓ : Loc nD τ sig) → Buf (Elt Ideal) ℓ) (c : Dev nD) (D : Data) : Prop :=
  Holds D (fun r x => m ((c.tc : Thread nD τ).loc main_arg0) (ix2 r x)) (fun r x => m ((c.tc : Thread nD τ).loc main_arg1) (ix2 r x))
    (fun r x => m ((c.tc : Thread nD τ).loc main_arg2) (ix2 r x)) (fun i => m ((c.tc : Thread nD τ).loc main_arg3) (ix1 i))

theorem run_value (m : (ℓ : Loc nD τ sig) → Buf (Elt Ideal) ℓ) (ρ : Dev nD → PrngReg) (D : Dev nD → Data)
    (H : ∀ c, HoldsAt m c (D c)) (hd : ∀ (c : Dev nD) (r : Fin 4352) (x : Fin 512), m ((c.tc : Thread nD τ).loc main_arg4) (ix2 r x) = (((D c).d r x : ℝ) : EReal)) :
    θ_run (defs (F := Ideal)) (onTc (τ := τ) (main (F := Ideal))) ⟨m, fun _ => 0, ρ⟩ fun r => ∀ c : Dev nD,
      r.2.mem ((c.tc : Thread nD τ).loc main_v70) = (arr ((D c).dq false) : S4352x512.Idx → EReal)
      ∧ r.2.mem ((c.tc : Thread nD τ).loc main_v83) = (arr ((D c).dq true) : S4352x512.Idx → EReal)
      ∧ r.2.mem ((c.tc : Thread nD τ).loc main_v69) = (arr ((D c).dk false) : S4352x512.Idx → EReal)
      ∧ r.2.mem ((c.tc : Thread nD τ).loc main_v82) = (arr ((D c).dk true) : S4352x512.Idx → EReal)
      ∧ r.2.mem ((c.tc : Thread nD τ).loc main_v63) = (arr ((D c).dv false) : S4352x512.Idx → EReal)
      ∧ r.2.mem ((c.tc : Thread nD τ).loc main_v76) = (arr ((D c).dv true) : S4352x512.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => ⟨((h c).1).trans (funext fun j => by
      clear h
      idx_vars j
      pointwise
      exact sum_left (fun x y => (D c).d j0 (sib j1 y)) (fun x y => (D c).v x (sib j1 y)) _ (fun x => (D c).k x j1) _ _ _ _ (fun x y => hd c _ _) (fun x y => (H c).v x (sib j1 y)) (fun x => weight_false (D c) (fun i => m ((c.tc : Thread nD τ).loc main_arg3) (ix1 i)) (H c).lg j1 _  j0 x _ (minus_inf _ _)) (fun x => (H c).k _ _)),
    ((h c).2.1).trans (funext fun j => by
      clear h
      idx_vars j
      pointwise
      exact sum_left (fun x y => (D c).d j0 (sib j1 y)) (fun x y => (D c).v x (sib j1 y)) _ (fun x => (D c).k x j1) _ _ _ _ (fun x y => hd c _ _) (fun x y => (H c).v x (sib j1 y)) (fun x => weight_true (D c) (fun i => m ((c.tc : Thread nD τ).loc main_arg3) (ix1 i)) (H c).lg j1 _  j0 x _ (minus_inf _ _)) (fun x => (H c).k _ _)),
    ((h c).2.2.1).trans (funext fun j => by
      clear h
      idx_vars j
      pointwise
      exact sum_left (fun x y => (D c).d x (sib j1 y)) (fun x y => (D c).v j0 (sib j1 y)) _ (fun x => (D c).q x j1) _ _ _ _ (fun x y => hd c _ _) (fun x y => (H c).v j0 (sib j1 y)) (fun x => weight_false (D c) (fun i => m ((c.tc : Thread nD τ).loc main_arg3) (ix1 i)) (H c).lg j1 _  x j0 _ (minus_inf _ _)) (fun x => (H c).q _ _)),
    ((h c).2.2.2.1).trans (funext fun j => by
      clear h
      idx_vars j
      pointwise
      exact sum_left (fun x y => (D c).d x (sib j1 y)) (fun x y => (D c).v j0 (sib j1 y)) _ (fun x => (D c).q x j1) _ _ _ _ (fun x y => hd c _ _) (fun x y => (H c).v j0 (sib j1 y)) (fun x => weight_true (D c) (fun i => m ((c.tc : Thread nD τ).loc main_arg3) (ix1 i)) (H c).lg j1 _  x j0 _ (minus_inf _ _)) (fun x => (H c).q _ _)),
    ((h c).2.2.2.2.1).trans (funext fun j => by
      clear h
      idx_vars j
      pointwise
      exact sum_right (fun x y => (D c).q x (sib j1 y)) (fun x y => (D c).k j0 (sib j1 y)) _ (fun x => (D c).d x j1) _ _ _ _ (fun x y => (H c).q _ _) (fun x y => (H c).k _ _) (fun x => weight_false (D c) (fun i => m ((c.tc : Thread nD τ).loc main_arg3) (ix1 i)) (H c).lg j1 _  x j0 _ (minus_inf _ _)) (fun x => hd c _ _)),
    ((h c).2.2.2.2.2.1).trans (funext fun j => by
      clear h
      idx_vars j
      pointwise
      exact sum_right (fun x y => (D c).q x (sib j1 y)) (fun x y => (D c).k j0 (sib j1 y)) _ (fun x => (D c).d x j1) _ _ _ _ (fun x y => (H c).q _ _) (fun x y => (H c).k _ _) (fun x => weight_true (D c) (fun i => m ((c.tc : Thread nD τ).loc main_arg3) (ix1 i)) (H c).lg j1 _  x j0 _ (minus_inf _ _)) (fun x => hd c _ _)),
    (h c).2.2.2.2.2.2⟩) (Value.run m ρ)

end Cert.Reference2Ideal

end
-- ==== Proof.BackHost.lean ====
/- The backward kernel's tables of weights, as real numbers. -/
module

public import proofs.«01_k».proof.Proof.Host
public import proofs.«01_k».proof.Proof.BackRun
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel2Ideal

open Idealize.ShloMosaic Idealize.ShloMosaic.TcCoe Idealize.SL.Sem Idealize.ShloMosaic.StableHlo Gen Cert.Retention

variable (m : (ℓ : Loc nD τ sig) → Buf (Elt Ideal) ℓ) (c : Dev nD) (D : Data)
  (hlg : ∀ i, logSigmoid (m ((c.tc : Thread nD τ).loc main_arg3) (ix1 i)) = D.lg i)

include hlg

theorem table_decay (i : Fin 8) (l x : Fin 256) :
    V m c main_v104 (ix3 i l x) = ((decay (D.g i) (lane (rev i) l) (lane (rev i) x) : ℝ) : EReal) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16
  simp only [List.flatten_cons, List.flatten_nil, List.cons_append, List.nil_append, List.append_nil, TRef.binary,
    TRef.nullary, TRef.ternary, TRef.unary, TRef.toBuf, TRef.ofBuf, cast_eq]
  after_reads_at
  split
  · rename_i h
    rw [← within_fwd D i h l x _ (minus_inf S_ ix0), ← hlg]
    unfold place logSigmoid
    refine congrArg Ideal.exp (if_congr Iff.rfl ?_ rfl)
    refine congrArg₂ HMul.hMul ?_ ?_
    · rfl
    · rfl
  · rename_i h
    have e : (⟨4 + (i.val - 4), by have := i.isLt; omega⟩ : Fin 8) = i := Fin.ext (by show 4 + (i.val - 4) = i.val; omega)
    have e' := congrArg (fun z => logSigmoid (m ((c.tc : Thread nD τ).loc main_arg3) (ix1 z))) e.symm
    have w := within_rev D i h l x _ (minus_inf S_ ix0)
    rw [← hlg, e'] at w
    refine Eq.trans ?_ w
    clear w
    unfold place logSigmoid
    refine congrArg Ideal.exp (if_congr Iff.rfl ?_ rfl)
    refine congrArg₂ HMul.hMul ?_ ?_
    · rfl
    · rfl

theorem table_upto (i : Fin 8) (l : Fin 256) :
    V m c main_v124 (ix3 i l 0) = ((D.g i (lane (rev i) l + 1) : ℝ) : EReal) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16
  simp only [List.flatten_cons, List.flatten_nil, List.cons_append, List.nil_append, List.append_nil, TRef.binary,
    TRef.nullary, TRef.ternary, TRef.unary, TRef.toBuf, TRef.ofBuf, cast_eq]
  after_reads_at
  split
  · rename_i h
    after_reads_at
    rw [← upto_fwd D i h l, ← hlg]
    unfold place logSigmoid
    rfl
  · rename_i h
    after_reads_at
    have e : (⟨4 + (i.val - 4), by have := i.isLt; omega⟩ : Fin 8) = i := Fin.ext (by show 4 + (i.val - 4) = i.val; omega)
    have e' := congrArg (fun z => logSigmoid (m ((c.tc : Thread nD τ).loc main_arg3) (ix1 z))) e.symm
    rw [← upto_rev D i h l, ← hlg, e']
    unfold place logSigmoid
    rfl

theorem table_after (i : Fin 8) (l : Fin 256) :
    V m c main_v142 (ix3 i l 0) = ((D.g i (255 - lane (rev i) l) : ℝ) : EReal) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16
  simp only [List.flatten_cons, List.flatten_nil, List.cons_append, List.nil_append, List.append_nil, TRef.binary,
    TRef.nullary, TRef.ternary, TRef.unary, TRef.toBuf, TRef.ofBuf, cast_eq]
  after_reads_at
  split
  · rename_i h
    after_reads_at
    rw [← after_fwd D i h l, ← hlg]
    unfold place logSigmoid
    rfl
  · rename_i h
    after_reads_at
    have e : (⟨4 + (i.val - 4), by have := i.isLt; omega⟩ : Fin 8) = i := Fin.ext (by show 4 + (i.val - 4) = i.val; omega)
    have e' := congrArg (fun z => logSigmoid (m ((c.tc : Thread nD τ).loc main_arg3) (ix1 z))) e.symm
    rw [← after_rev D i h l, ← hlg, e']
    unfold place logSigmoid
    rfl

theorem table_chunk (i : Fin 8) : V m c main_v146 (ix3 i 0 0) = ((D.g i 256 : ℝ) : EReal) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16
  simp only [List.flatten_cons, List.flatten_nil, List.cons_append, List.nil_append, List.append_nil, TRef.binary,
    TRef.nullary, TRef.ternary, TRef.unary, TRef.toBuf, TRef.ofBuf, cast_eq]
  after_reads_at
  rw [← whole_chunk D i, ← hlg]
  rfl

end Cert.Kernel2Ideal

end
-- ==== Proof.BackStates.lean ====
/- The states that the backward kernel is given, as real numbers: the host writes each as the sum of its past contributions. -/
module

public import proofs.«01_k».proof.Proof.Host
public import proofs.«01_k».proof.Proof.BackRun
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel2Ideal

open Idealize.ShloMosaic Idealize.ShloMosaic.TcCoe Idealize.SL.Sem Idealize.ShloMosaic.StableHlo Gen Cert.Retention

variable (m : (ℓ : Loc nD τ sig) → Buf (Elt Ideal) ℓ) (c : Dev nD) (D : Data)
  (H : Holds D (fun r x => m ((c.tc : Thread nD τ).loc main_arg0) (ix2 r x)) (fun r x => m ((c.tc : Thread nD τ).loc main_arg1) (ix2 r x))
    (fun r x => m ((c.tc : Thread nD τ).loc main_arg2) (ix2 r x)) (fun i => m ((c.tc : Thread nD τ).loc main_arg3) (ix1 i)))

include H

theorem states_given_fwd (n : Fin 17) (h : Fin 4) (a b : Fin 128) :
    V m c main_v47 (ix4 n h a b) = D.stArr false (ix4 n h a b) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16
  simp only [List.flatten_cons, List.flatten_nil, List.cons_append, List.nil_append, List.append_nil, TRef.binary,
    TRef.nullary, TRef.ternary, TRef.unary, TRef.toBuf, TRef.ofBuf, cast_eq]
  after_reads_at
  exact sum_state D false h n a b _ _ _ (fun x => H.k x (headCol h a)) (fun x => H.v x (headCol h b)) (fun x => by
    show Ideal.exp (if (0 : EReal) ≤ _ then _ * logSigmoid (m ((c.tc : Thread nD τ).loc main_arg3) (ix1 ⟨h.val, _⟩)) else _) = _
    rw [H.lg, ← head_false h]
    exact state_weight D _ false _ _ n x (start_false n) rfl _ (minus_inf _ _))

theorem states_given_rev (n : Fin 17) (h : Fin 4) (a b : Fin 128) :
    V m c main_v75 (ix4 n h a b) = D.stArr true (ix4 n h a b) := by
  unfold V hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16
  simp only [List.flatten_cons, List.flatten_nil, List.cons_append, List.nil_append, List.append_nil, TRef.binary,
    TRef.nullary, TRef.ternary, TRef.unary, TRef.toBuf, TRef.ofBuf, cast_eq]
  after_reads_at
  exact sum_state D true h n a b _ _ _ (fun x => H.k x (headCol h a)) (fun x => H.v x (headCol h b)) (fun x => by
    show Ideal.exp (if (0 : EReal) ≤ _ then _ * logSigmoid (m ((c.tc : Thread nD τ).loc main_arg3) (ix1 ⟨4 + h.val, _⟩)) else _) = _
    rw [H.lg]
    exact state_weight D (head true h) true _ _ n x (start_true n) rfl _ (minus_inf _ _))

end Cert.Kernel2Ideal

end
-- ==== Proof.BackBlocks.lean ====
/- The blocks the backward kernel's steps read, as real numbers. -/
module

public import proofs.«01_k».proof.Proof.BackHost
public import proofs.«01_k».proof.Proof.BackStates
public import proofs.«01_k».proof.Proof.Tiles

@[expose] public section

set_option maxRecDepth 16384

noncomputable section

namespace Cert.Kernel2Ideal

open Idealize.ShloMosaic Idealize.ShloMosaic.TcCoe Idealize.SL.Sem Idealize.ShloMosaic.StableHlo Gen Cert.Retention

/-- The chunk a grid point meets, counted along the scan: the last one first. -/
def step (t : Fin cfg0.N) : Fin 17 := ⟨16 - t.val, by omega⟩

/-- Before a later grid point comes the chunk after its own. -/
theorem chunk_twice (n : Fin 17) : chunkAt true (chunkAt true n) = n := by
  revert n
  decide

theorem idx0 : ∀ t : Fin cfg0.N, win0_0.index t = ![(step t).val, 0] ∧ win0_1.index t = ![(chunkAt true (step t)).val, 0] ∧
    win0_2.index t = ![(step t).val, 0] ∧ win0_3.index t = ![(chunkAt true (step t)).val, 0] ∧
    win0_4.index t = ![(step t).val, 8] ∧ win0_5.index t = ![(chunkAt true (step t)).val, 8] := by decide +kernel

theorem idx6 : ∀ t : Fin cfg0.N, win0_6.index t = ![0, 0, 0] ∧ win0_7.index t = ![0, 0, 0] ∧
    win0_8.index t = ![0, 0, 0] ∧ win0_9.index t = ![0, 0, 0] := by decide +kernel

theorem idx10 : ∀ t : Fin cfg0.N, win0_10.index t = ![(step t).val, 0, 0, 0] ∧
    win0_11.index t = ![(chunkAt true (step t)).val, 0, 0, 0] := by decide +kernel

theorem idx12 : ∀ t : Fin cfg0.N, win0_12.index t = ![(step t).val, 0] ∧ win0_13.index t = ![(chunkAt true (step t)).val, 0] := by decide +kernel

/-- What the arguments of the backward programs hold, the output's gradient among them. -/
structure HoldsAt (m : (ℓ : Loc nD τ sig) → Buf (Elt Ideal) ℓ) (c : Dev nD) (D : Data) : Prop where
  fwd : Holds D (fun r x => m ((c.tc : Thread nD τ).loc main_arg0) (ix2 r x))
    (fun r x => m ((c.tc : Thread nD τ).loc main_arg1) (ix2 r x))
    (fun r x => m ((c.tc : Thread nD τ).loc main_arg2) (ix2 r x))
    (fun i => m ((c.tc : Thread nD τ).loc main_arg3) (ix1 i))
  d : ∀ r x, m ((c.tc : Thread nD τ).loc main_arg4) (ix2 r x) = ((D.d r x : ℝ) : EReal)

variable (m : (ℓ : Loc nD τ sig) → Buf (Elt Ideal) ℓ) (c : Dev nD) (D : Data) (H : HoldsAt m c D) (t : Fin cfg0.N)

include H

theorem q_fwd (l : Fin 256) (x : Fin 512) : iblk m c 0 t (ix2 l x) = ((D.q (rowAt false (step t) l) x : ℝ) : EReal) := by
  refine Eq.trans ?_ (H.fwd.q _ x)
  blk_ext [iblk, V, idx0 t]
  unfold rowAt; show (step t).val * 256 + l.val = 256 * (step t).val + l.val; omega

theorem q_rev (l : Fin 256) (x : Fin 512) : iblk m c 1 t (ix2 l x) = ((D.q (rowAt true (step t) l) x : ℝ) : EReal) := by
  refine Eq.trans ?_ (H.fwd.q _ x)
  blk_ext [iblk, V, idx0 t]
  unfold rowAt; show (chunkAt true (step t)).val * 256 + l.val = 256 * (chunkAt true (step t)).val + l.val; omega

theorem k_fwd (l : Fin 256) (x : Fin 512) : iblk m c 2 t (ix2 l x) = ((D.k (rowAt false (step t) l) x : ℝ) : EReal) := by
  refine Eq.trans ?_ (H.fwd.k _ x)
  blk_ext [iblk, V, idx0 t]
  unfold rowAt; show (step t).val * 256 + l.val = 256 * (step t).val + l.val; omega

theorem k_rev (l : Fin 256) (x : Fin 512) : iblk m c 3 t (ix2 l x) = ((D.k (rowAt true (step t) l) x : ℝ) : EReal) := by
  refine Eq.trans ?_ (H.fwd.k _ x)
  blk_ext [iblk, V, idx0 t]
  unfold rowAt; show (chunkAt true (step t)).val * 256 + l.val = 256 * (chunkAt true (step t)).val + l.val; omega

theorem v_fwd (l : Fin 256) (x : Fin 512) : iblk m c 4 t (ix2 l x) = ((D.v (rowAt false (step t) l) x : ℝ) : EReal) := by
  refine Eq.trans ?_ (H.fwd.v _ x)
  blk_ext [iblk, V, idx0 t]
  unfold rowAt; show (step t).val * 256 + l.val = 256 * (step t).val + l.val; omega

theorem v_rev (l : Fin 256) (x : Fin 512) : iblk m c 5 t (ix2 l x) = ((D.v (rowAt true (step t) l) x : ℝ) : EReal) := by
  refine Eq.trans ?_ (H.fwd.v _ x)
  blk_ext [iblk, V, idx0 t]
  unfold rowAt; show (chunkAt true (step t)).val * 256 + l.val = 256 * (chunkAt true (step t)).val + l.val; omega

theorem d_fwd (l : Fin 256) (x : Fin 512) : iblk m c 12 t (ix2 l x) = ((D.d (rowAt false (step t) l) x : ℝ) : EReal) := by
  refine Eq.trans ?_ (H.d _ x)
  blk_ext [iblk, V, idx12 t]
  unfold rowAt; show (step t).val * 256 + l.val = 256 * (step t).val + l.val; omega

theorem d_rev (l : Fin 256) (x : Fin 512) : iblk m c 13 t (ix2 l x) = ((D.d (rowAt true (step t) l) x : ℝ) : EReal) := by
  refine Eq.trans ?_ (H.d _ x)
  blk_ext [iblk, V, idx12 t]
  unfold rowAt; show (chunkAt true (step t)).val * 256 + l.val = 256 * (chunkAt true (step t)).val + l.val; omega

theorem dm_blk (i : Fin 8) (l x : Fin 256) : iblk m c 6 t (ix3 i l x) = ((decay (D.g i) (lane (rev i) l) (lane (rev i) x) : ℝ) : EReal) := by
  refine Eq.trans ?_ (table_decay m c D H.fwd.lg i l x)
  blk_ext [iblk, idx6 t]

theorem qs_blk (i : Fin 8) (l : Fin 256) : iblk m c 7 t (ix3 i l 0) = ((D.g i (lane (rev i) l + 1) : ℝ) : EReal) := by
  refine Eq.trans ?_ (table_upto m c D H.fwd.lg i l)
  blk_ext [iblk, idx6 t]

theorem ks_blk (i : Fin 8) (l : Fin 256) : iblk m c 8 t (ix3 i l 0) = ((D.g i (255 - lane (rev i) l) : ℝ) : EReal) := by
  refine Eq.trans ?_ (table_after m c D H.fwd.lg i l)
  blk_ext [iblk, idx6 t]

theorem cd_blk (i : Fin 8) : iblk m c 9 t (ix3 i 0 0) = ((D.g i 256 : ℝ) : EReal) := by
  refine Eq.trans ?_ (table_chunk m c D H.fwd.lg i)
  blk_ext [iblk, idx6 t]

theorem st_fwd (h : Fin 4) (a b : Fin 128) : iblk m c 10 t (ix4 0 h a b) =
    ((D.st false (head false h) (step t).val (headCol h a) (headCol h b) : ℝ) : EReal) := by
  refine Eq.trans ?_ (states_given_fwd m c D H.fwd (step t) h a b)
  blk_ext [iblk, idx10 t]

theorem st_rev (h : Fin 4) (a b : Fin 128) : iblk m c 11 t (ix4 0 h a b) =
    ((D.st true (head true h) (step t).val (headCol h a) (headCol h b) : ℝ) : EReal) := by
  refine Eq.trans (Eq.trans ?_ (states_given_rev m c D H.fwd (chunkAt true (step t)) h a b)) ?_
  · blk_ext [iblk, idx10 t]
  · show ((D.st true (head true h) (chunkAt true (chunkAt true (step t))).val (headCol h a) (headCol h b) : ℝ) : EReal) = _
    rw [chunk_twice]

end Cert.Kernel2Ideal

end
-- ==== Proof.BackStep.lean ====
/- What a step of the backward kernel leaves in its outputs and in its scratch, as real numbers. -/
module

public import proofs.«01_k».proof.Proof.BackBlocks

@[expose] public section

set_option maxRecDepth 16384

noncomputable section

namespace Cert.Kernel2Ideal

open Idealize.ShloMosaic Idealize.ShloMosaic.TcCoe Idealize.SL.Sem Idealize.ShloMosaic.StableHlo Gen Cert.Retention Back

variable (m : (ℓ : Loc nD τ sig) → Buf (Elt Ideal) ℓ) (c : Dev nD) (D : Data) (H : HoldsAt m c D) (t : Fin cfg0.N)

/-- The gradients of the states that follow a step's chunks. -/
def Grads (D : Data) (n : ℕ) (S : Vec Ideal S8x128x128 .f32) : Prop :=
  ∀ (i : Fin 8) (a b : Fin 128), S (ix3 i a b) = ((D.gr (rev i) i n (col i a) (col i b) : ℝ) : EReal)

/-- Where one of the first stores covers an index, the earlier stores do not matter. -/
theorem canon_left {s : Shape} {e : EltTy} (L L' : List (View.Piece (Elt Ideal) s e)) (y : s.Idx) (hc : ∃ p ∈ L, y ∈ p.1.set) :
    View.canon (L ++ L') y = View.canon L y := by
  induction L with
  | nil =>
    obtain ⟨p, hp, _⟩ := hc
    simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := hc
      rcases List.mem_cons.mp hq with rfl | hq
      · exact absurd hy hm
      · exact ih ⟨q, hq, hy⟩

/-- A read of the scratch at the first step, after it was cleared: no gradient follows the last chunk. -/
theorem cleared (h : t.val % 17 = 0) (i : Fin 8) (k : ℕ) (a b : Fin 128) (inb) (inb') :
    (View.whole cc0_scratch0).readCov (Val := Elt Ideal)
      [⟨Rect.unit ![0, 0, 0] ![8, 128, 128] inb, broadcast S8x128x128 (0 : EReal)⟩]
      (Rect.unit (s := S8x128x128) ![k, 0, 0] ![1, 128, 128] inb').toLoadRect (ix3 (0 : Fin 1) a b) =
    ((D.gr (rev i) i ((step t).val + 1) (col i a) (col i b) : ℝ) : EReal) := by
  have ht : (step t).val + 1 = 17 := by
    have h1 := t.isLt
    have h2 : cfg0.N = 17 := rfl
    show 16 - t.val + 1 = 17
    omega
  rw [ht, D.gr_last]
  exact congrFun (View.readCov_fill (View.whole cc0_scratch0) inb _ [] _ (by decide)) _

include H

/-- The first step leaves the forward scan's gradient with respect to q. -/
theorem first_dq_fwd (h : t.val % 17 = 0) :
    (left m c t.val t.isLt).1 = arr (fun l e => D.dq false (rowAt false (step t) l) e) := by
  rw [left_first m c t h]
  unfold first firstRun
  dsimp only
  funext y
  frame_out
  canon_tiles y h
  · open_payloads
    idx_vars y
    pointwise
    rw [show arr (fun l e => D.dq false (rowAt false (step t) l) e) y = ((D.dq false (rowAt false (step t) y0) (col 3 y1) : ℝ) : EReal) from
      congrArg₂ (fun l e => ((D.dq _ (rowAt _ (step t) l) e : ℝ) : EReal)) (Fin.ext h0) (Fin.ext h1)]
    have hst : ∀ a b : Fin 128, iblk m c 10 t (ix4 0 3 a b) = ((D.st (rev 3) 3 (step t).val (col 3 a) (col 3 b) : ℝ) : EReal) := fun a b => st_fwd m c D H t 3 a b
    simp only [d_fwd m c D H t, v_fwd m c D H t, k_fwd m c D H t, dm_blk m c D H t, qs_blk m c D H t, hst, ← EReal.coe_mul, ← coe_sum, ← EReal.coe_add]
    have w := (add_comm _ _).trans (D.dq_tile 3 (step t) y0 y1)
    exact congrArg _ w
  · open_payloads
    idx_vars y
    pointwise
    rw [show arr (fun l e => D.dq false (rowAt false (step t) l) e) y = ((D.dq false (rowAt false (step t) y0) (col 2 y1) : ℝ) : EReal) from
      congrArg₂ (fun l e => ((D.dq _ (rowAt _ (step t) l) e : ℝ) : EReal)) (Fin.ext h0) (Fin.ext h1)]
    have hst : ∀ a b : Fin 128, iblk m c 10 t (ix4 0 2 a b) = ((D.st (rev 2) 2 (step t).val (col 2 a) (col 2 b) : ℝ) : EReal) := fun a b => st_fwd m c D H t 2 a b
    simp only [d_fwd m c D H t, v_fwd m c D H t, k_fwd m c D H t, dm_blk m c D H t, qs_blk m c D H t, hst, ← EReal.coe_mul, ← coe_sum, ← EReal.coe_add]
    have w := (add_comm _ _).trans (D.dq_tile 2 (step t) y0 y1)
    exact congrArg _ w
  · open_payloads
    idx_vars y
    pointwise
    rw [show arr (fun l e => D.dq false (rowAt false (step t) l) e) y = ((D.dq false (rowAt false (step t) y0) (col 1 y1) : ℝ) : EReal) from
      congrArg₂ (fun l e => ((D.dq _ (rowAt _ (step t) l) e : ℝ) : EReal)) (Fin.ext h0) (Fin.ext h1)]
    have hst : ∀ a b : Fin 128, iblk m c 10 t (ix4 0 1 a b) = ((D.st (rev 1) 1 (step t).val (col 1 a) (col 1 b) : ℝ) : EReal) := fun a b => st_fwd m c D H t 1 a b
    simp only [d_fwd m c D H t, v_fwd m c D H t, k_fwd m c D H t, dm_blk m c D H t, qs_blk m c D H t, hst, ← EReal.coe_mul, ← coe_sum, ← EReal.coe_add]
    have w := (add_comm _ _).trans (D.dq_tile 1 (step t) y0 y1)
    exact congrArg _ w
  · open_payloads
    idx_vars y
    pointwise
    rw [show arr (fun l e => D.dq false (rowAt false (step t) l) e) y = ((D.dq false (rowAt false (step t) y0) (col 0 y1) : ℝ) : EReal) from
      congrArg₂ (fun l e => ((D.dq _ (rowAt _ (step t) l) e : ℝ) : EReal)) (Fin.ext h0) (Fin.ext (h1.trans (Nat.zero_add _).symm))]
    have hst : ∀ a b : Fin 128, iblk m c 10 t (ix4 0 0 a b) = ((D.st (rev 0) 0 (step t).val (col 0 a) (col 0 b) : ℝ) : EReal) := fun a b => st_fwd m c D H t 0 a b
    simp only [d_fwd m c D H t, v_fwd m c D H t, k_fwd m c D H t, dm_blk m c D H t, qs_blk m c D H t, hst, ← EReal.coe_mul, ← coe_sum, ← EReal.coe_add]
    have w := (add_comm _ _).trans (D.dq_tile 0 (step t) y0 y1)
    simp only [col_0] at w ⊢
    exact congrArg _ w

/-- The first step leaves the reverse scan's gradient with respect to q. -/
theorem first_dq_rev (h : t.val % 17 = 0) :
    (left m c t.val t.isLt).2.1 = arr (fun l e => D.dq true (rowAt true (step t) l) e) := by
  rw [left_first m c t h]
  unfold first firstRun
  dsimp only
  funext y
  frame_out
  canon_tiles y h
  · open_payloads
    idx_vars y
    pointwise
    rw [show arr (fun l e => D.dq true (rowAt true (step t) l) e) y = ((D.dq true (rowAt true (step t) y0) (col 7 y1) : ℝ) : EReal) from
      congrArg₂ (fun l e => ((D.dq _ (rowAt _ (step t) l) e : ℝ) : EReal)) (Fin.ext h0) (Fin.ext h1)]
    have hst : ∀ a b : Fin 128, iblk m c 11 t (ix4 0 3 a b) = ((D.st (rev 7) 7 (step t).val (col 7 a) (col 7 b) : ℝ) : EReal) := fun a b => st_rev m c D H t 3 a b
    simp only [d_rev m c D H t, v_rev m c D H t, k_rev m c D H t, dm_blk m c D H t, qs_blk m c D H t, hst, ← EReal.coe_mul, ← coe_sum, ← EReal.coe_add]
    have w := (add_comm _ _).trans (D.dq_tile 7 (step t) y0 y1)
    exact congrArg _ w
  · open_payloads
    idx_vars y
    pointwise
    rw [show arr (fun l e => D.dq true (rowAt true (step t) l) e) y = ((D.dq true (rowAt true (step t) y0) (col 6 y1) : ℝ) : EReal) from
      congrArg₂ (fun l e => ((D.dq _ (rowAt _ (step t) l) e : ℝ) : EReal)) (Fin.ext h0) (Fin.ext h1)]
    have hst : ∀ a b : Fin 128, iblk m c 11 t (ix4 0 2 a b) = ((D.st (rev 6) 6 (step t).val (col 6 a) (col 6 b) : ℝ) : EReal) := fun a b => st_rev m c D H t 2 a b
    simp only [d_rev m c D H t, v_rev m c D H t, k_rev m c D H t, dm_blk m c D H t, qs_blk m c D H t, hst, ← EReal.coe_mul, ← coe_sum, ← EReal.coe_add]
    have w := (add_comm _ _).trans (D.dq_tile 6 (step t) y0 y1)
    exact congrArg _ w
  · open_payloads
    idx_vars y
    pointwise
    rw [show arr (fun l e => D.dq true (rowAt true (step t) l) e) y = ((D.dq true (rowAt true (step t) y0) (col 5 y1) : ℝ) : EReal) from
      congrArg₂ (fun l e => ((D.dq _ (rowAt _ (step t) l) e : ℝ) : EReal)) (Fin.ext h0) (Fin.ext h1)]
    have hst : ∀ a b : Fin 128, iblk m c 11 t (ix4 0 1 a b) = ((D.st (rev 5) 5 (step t).val (col 5 a) (col 5 b) : ℝ) : EReal) := fun a b => st_rev m c D H t 1 a b
    simp only [d_rev m c D H t, v_rev m c D H t, k_rev m c D H t, dm_blk m c D H t, qs_blk m c D H t, hst, ← EReal.coe_mul, ← coe_sum, ← EReal.coe_add]
    have w := (add_comm _ _).trans (D.dq_tile 5 (step t) y0 y1)
    exact congrArg _ w
  · open_payloads
    idx_vars y
    pointwise
    rw [show arr (fun l e => D.dq true (rowAt true (step t) l) e) y = ((D.dq true (rowAt true (step t) y0) (col 4 y1) : ℝ) : EReal) from
      congrArg₂ (fun l e => ((D.dq _ (rowAt _ (step t) l) e : ℝ) : EReal)) (Fin.ext h0) (Fin.ext (h1.trans (Nat.zero_add _).symm))]
    have hst : ∀ a b : Fin 128, iblk m c 11 t (ix4 0 0 a b) = ((D.st (rev 4) 4 (step t).val (col 4 a) (col 4 b) : ℝ) : EReal) := fun a b => st_rev m c D H t 0 a b
    simp only [d_rev m c D H t, v_rev m c D H t, k_rev m c D H t, dm_blk m c D H t, qs_blk m c D H t, hst, ← EReal.coe_mul, ← coe_sum, ← EReal.coe_add]
    have w := (add_comm _ _).trans (D.dq_tile 4 (step t) y0 y1)
    simp only [col_4] at w ⊢
    exact congrArg _ w

/-- The first step leaves the forward scan's gradient with respect to k. -/
theorem first_dk_fwd (h : t.val % 17 = 0) :
    (left m c t.val t.isLt).2.2.1 = arr (fun l e => D.dk false (rowAt false (step t) l) e) := by
  rw [left_first m c t h]
  unfold first firstRun
  dsimp only
  funext y
  frame_out
  canon_tiles y h
  · open_payloads
    idx_vars y
    pointwise
    rw [show arr (fun l e => D.dk false (rowAt false (step t) l) e) y = ((D.dk false (rowAt false (step t) y0) (col 3 y1) : ℝ) : EReal) from
      congrArg₂ (fun l e => ((D.dk _ (rowAt _ (step t) l) e : ℝ) : EReal)) (Fin.ext h0) (Fin.ext h1)]
    simp only [d_fwd m c D H t, v_fwd m c D H t, q_fwd m c D H t, dm_blk m c D H t, ks_blk m c D H t, cleared D t h 3 3 _ _, ← EReal.coe_mul, ← coe_sum, ← EReal.coe_add]
    have w := (add_comm _ _).trans (D.dk_tile 3 (step t) y0 y1)
    exact congrArg _ w
  · open_payloads
    idx_vars y
    pointwise
    rw [show arr (fun l e => D.dk false (rowAt false (step t) l) e) y = ((D.dk false (rowAt false (step t) y0) (col 2 y1) : ℝ) : EReal) from
      congrArg₂ (fun l e => ((D.dk _ (rowAt _ (step t) l) e : ℝ) : EReal)) (Fin.ext h0) (Fin.ext h1)]
    simp only [d_fwd m c D H t, v_fwd m c D H t, q_fwd m c D H t, dm_blk m c D H t, ks_blk m c D H t, cleared D t h 2 2 _ _, ← EReal.coe_mul, ← coe_sum, ← EReal.coe_add]
    have w := (add_comm _ _).trans (D.dk_tile 2 (step t) y0 y1)
    exact congrArg _ w
  · open_payloads
    idx_vars y
    pointwise
    rw [show arr (fun l e => D.dk false (rowAt false (step t) l) e) y = ((D.dk false (rowAt false (step t) y0) (col 1 y1) : ℝ) : EReal) from
      congrArg₂ (fun l e => ((D.dk _ (rowAt _ (step t) l) e : ℝ) : EReal)) (Fin.ext h0) (Fin.ext h1)]
    simp only [d_fwd m c D H t, v_fwd m c D H t, q_fwd m c D H t, dm_blk m c D H t, ks_blk m c D H t, cleared D t h 1 1 _ _, ← EReal.coe_mul, ← coe_sum, ← EReal.coe_add]
    have w := (add_comm _ _).trans (D.dk_tile 1 (step t) y0 y1)
    exact congrArg _ w
  · open_payloads
    idx_vars y
    pointwise
    rw [show arr (fun l e => D.dk false (rowAt false (step t) l) e) y = ((D.dk false (rowAt false (step t) y0) (col 0 y1) : ℝ) : EReal) from
      congrArg₂ (fun l e => ((D.dk _ (rowAt _ (step t) l) e : ℝ) : EReal)) (Fin.ext h0) (Fin.ext (h1.trans (Nat.zero_add _).symm))]
    simp only [d_fwd m c D H t, v_fwd m c D H t, q_fwd m c D H t, dm_blk m c D H t, ks_blk m c D H t, cleared D t h 0 0 _ _, ← EReal.coe_mul, ← coe_sum, ← EReal.coe_add]
    have w := (add_comm _ _).trans (D.dk_tile 0 (step t) y0 y1)
    simp only [col_0] at w ⊢
    exact congrArg _ w

/-- The first step leaves the reverse scan's gradient with respect to k. -/
theorem first_dk_rev (h : t.val % 17 = 0) :
    (left m c t.val t.isLt).2.2.2.1 = arr (fun l e => D.dk true (rowAt true (step t) l) e) := by
  rw [left_first m c t h]
  unfold first firstRun
  dsimp only
  funext y
  frame_out
  canon_tiles y h
  · open_payloads
    idx_vars y
    pointwise
    rw [show arr (fun l e => D.dk true (rowAt true (step t) l) e) y = ((D.dk true (rowAt true (step t) y0) (col 7 y1) : ℝ) : EReal) from
      congrArg₂ (fun l e => ((D.dk _ (rowAt _ (step t) l) e : ℝ) : EReal)) (Fin.ext h0) (Fin.ext h1)]
    simp only [d_rev m c D H t, v_rev m c D H t, q_rev m c D H t, dm_blk m c D H t, ks_blk m c D H t, cleared D t h 7 7 _ _, ← EReal.coe_mul, ← coe_sum, ← EReal.coe_add]
    have w := (add_comm _ _).trans (D.dk_tile 7 (step t) y0 y1)
    exact congrArg _ w
  · open_payloads
    idx_vars y
    pointwise
    rw [show arr (fun l e => D.dk true (rowAt true (step t) l) e) y = ((D.dk true (rowAt true (step t) y0) (col 6 y1) : ℝ) : EReal) from
      congrArg₂ (fun l e => ((D.dk _ (rowAt _ (step t) l) e : ℝ) : EReal)) (Fin.ext h0) (Fin.ext h1)]
    simp only [d_rev m c D H t, v_rev m c D H t, q_rev m c D H t, dm_blk m c D H t, ks_blk m c D H t, cleared D t h 6 6 _ _, ← EReal.coe_mul, ← coe_sum, ← EReal.coe_add]
    have w := (add_comm _ _).trans (D.dk_tile 6 (step t) y0 y1)
    exact congrArg _ w
  · open_payloads
    idx_vars y
    pointwise
    rw [show arr (fun l e => D.dk true (rowAt true (step t) l) e) y = ((D.dk true (rowAt true (step t) y0) (col 5 y1) : ℝ) : EReal) from
      congrArg₂ (fun l e => ((D.dk _ (rowAt _ (step t) l) e : ℝ) : EReal)) (Fin.ext h0) (Fin.ext h1)]
    simp only [d_rev m c D H t, v_rev m c D H t, q_rev m c D H t, dm_blk m c D H t, ks_blk m c D H t, cleared D t h 5 5 _ _, ← EReal.coe_mul, ← coe_sum, ← EReal.coe_add]
    have w := (add_comm _ _).trans (D.dk_tile 5 (step t) y0 y1)
    exact congrArg _ w
  · open_payloads
    idx_vars y
    pointwise
    rw [show arr (fun l e => D.dk true (rowAt true (step t) l) e) y = ((D.dk true (rowAt true (step t) y0) (col 4 y1) : ℝ) : EReal) from
      congrArg₂ (fun l e => ((D.dk _ (rowAt _ (step t) l) e : ℝ) : EReal)) (Fin.ext h0) (Fin.ext (h1.trans (Nat.zero_add _).symm))]
    simp only [d_rev m c D H t, v_rev m c D H t, q_rev m c D H t, dm_blk m c D H t, ks_blk m c D H t, cleared D t h 4 4 _ _, ← EReal.coe_mul, ← coe_sum, ← EReal.coe_add]
    have w := (add_comm _ _).trans (D.dk_tile 4 (step t) y0 y1)
    simp only [col_4] at w ⊢
    exact congrArg _ w

/-- The first step leaves the forward scan's gradient with respect to v. -/
theorem first_dv_fwd (h : t.val % 17 = 0) :
    (left m c t.val t.isLt).2.2.2.2.1 = arr (fun l e => D.dv false (rowAt false (step t) l) e) := by
  rw [left_first m c t h]
  unfold first firstRun
  dsimp only
  funext y
  frame_out
  canon_tiles y h
  · open_payloads
    idx_vars y
    pointwise
    rw [show arr (fun l e => D.dv false (rowAt false (step t) l) e) y = ((D.dv false (rowAt false (step t) y0) (col 3 y1) : ℝ) : EReal) from
      congrArg₂ (fun l e => ((D.dv _ (rowAt _ (step t) l) e : ℝ) : EReal)) (Fin.ext h0) (Fin.ext h1)]
    simp only [d_fwd m c D H t, q_fwd m c D H t, k_fwd m c D H t, dm_blk m c D H t, ks_blk m c D H t, cleared D t h 3 3 _ _, ← EReal.coe_mul, ← coe_sum, ← EReal.coe_add]
    have w := (add_comm _ _).trans (D.dv_tile 3 (step t) y0 y1)
    exact congrArg _ w
  · open_payloads
    idx_vars y
    pointwise
    rw [show arr (fun l e => D.dv false (rowAt false (step t) l) e) y = ((D.dv false (rowAt false (step t) y0) (col 2 y1) : ℝ) : EReal) from
      congrArg₂ (fun l e => ((D.dv _ (rowAt _ (step t) l) e : ℝ) : EReal)) (Fin.ext h0) (Fin.ext h1)]
    simp only [d_fwd m c D H t, q_fwd m c D H t, k_fwd m c D H t, dm_blk m c D H t, ks_blk m c D H t, cleared D t h 2 2 _ _, ← EReal.coe_mul, ← coe_sum, ← EReal.coe_add]
    have w := (add_comm _ _).trans (D.dv_tile 2 (step t) y0 y1)
    exact congrArg _ w
  · open_payloads
    idx_vars y
    pointwise
    rw [show arr (fun l e => D.dv false (rowAt false (step t) l) e) y = ((D.dv false (rowAt false (step t) y0) (col 1 y1) : ℝ) : EReal) from
      congrArg₂ (fun l e => ((D.dv _ (rowAt _ (step t) l) e : ℝ) : EReal)) (Fin.ext h0) (Fin.ext h1)]
    simp only [d_fwd m c D H t, q_fwd m c D H t, k_fwd m c D H t, dm_blk m c D H t, ks_blk m c D H t, cleared D t h 1 1 _ _, ← EReal.coe_mul, ← coe_sum, ← EReal.coe_add]
    have w := (add_comm _ _).trans (D.dv_tile 1 (step t) y0 y1)
    exact congrArg _ w
  · open_payloads
    idx_vars y
    pointwise
    rw [show arr (fun l e => D.dv false (rowAt false (step t) l) e) y = ((D.dv false (rowAt false (step t) y0) (col 0 y1) : ℝ) : EReal) from
      congrArg₂ (fun l e => ((D.dv _ (rowAt _ (step t) l) e : ℝ) : EReal)) (Fin.ext h0) (Fin.ext (h1.trans (Nat.zero_add _).symm))]
    simp only [d_fwd m c D H t, q_fwd m c D H t, k_fwd m c D H t, dm_blk m c D H t, ks_blk m c D H t, cleared D t h 0 0 _ _, ← EReal.coe_mul, ← coe_sum, ← EReal.coe_add]
    have w := (add_comm _ _).trans (D.dv_tile 0 (step t) y0 y1)
    simp only [col_0] at w ⊢
    exact congrArg _ w

/-- The first step leaves the reverse scan's gradient with respect to v. -/
theorem first_dv_rev (h : t.val % 17 = 0) :
    (left m c t.val t.isLt).2.2.2.2.2.1 = arr (fun l e => D.dv true (rowAt true (step t) l) e) := by
  rw [left_first m c t h]
  unfold first firstRun
  dsimp only
  funext y
  frame_out
  canon_tiles y h
  · open_payloads
    idx_vars y
    pointwise
    rw [show arr (fun l e => D.dv true (rowAt true (step t) l) e) y = ((D.dv true (rowAt true (step t) y0) (col 7 y1) : ℝ) : EReal) from
      congrArg₂ (fun l e => ((D.dv _ (rowAt _ (step t) l) e : ℝ) : EReal)) (Fin.ext h0) (Fin.ext h1)]
    simp only [d_rev m c D H t, q_rev m c D H t, k_rev m c D H t, dm_blk m c D H t, ks_blk m c D H t, cleared D t h 7 7 _ _, ← EReal.coe_mul, ← coe_sum, ← EReal.coe_add]
    have w := (add_comm _ _).trans (D.dv_tile 7 (step t) y0 y1)
    exact congrArg _ w
  · open_payloads
    idx_vars y
    pointwise
    rw [show arr (fun l e => D.dv true (rowAt true (step t) l) e) y = ((D.dv true (rowAt true (step t) y0) (col 6 y1) : ℝ) : EReal) from
      congrArg₂ (fun l e => ((D.dv _ (rowAt _ (step t) l) e : ℝ) : EReal)) (Fin.ext h0) (Fin.ext h1)]
    simp only [d_rev m c D H t, q_rev m c D H t, k_rev m c D H t, dm_blk m c D H t, ks_blk m c D H t, cleared D t h 6 6 _ _, ← EReal.coe_mul, ← coe_sum, ← EReal.coe_add]
    have w := (add_comm _ _).trans (D.dv_tile 6 (step t) y0 y1)
    exact congrArg _ w
  · open_payloads
    idx_vars y
    pointwise
    rw [show arr (fun l e => D.dv true (rowAt true (step t) l) e) y = ((D.dv true (rowAt true (step t) y0) (col 5 y1) : ℝ) : EReal) from
      congrArg₂ (fun l e => ((D.dv _ (rowAt _ (step t) l) e : ℝ) : EReal)) (Fin.ext h0) (Fin.ext h1)]
    simp only [d_rev m c D H t, q_rev m c D H t, k_rev m c D H t, dm_blk m c D H t, ks_blk m c D H t, cleared D t h 5 5 _ _, ← EReal.coe_mul, ← coe_sum, ← EReal.coe_add]
    have w := (add_comm _ _).trans (D.dv_tile 5 (step t) y0 y1)
    exact congrArg _ w
  · open_payloads
    idx_vars y
    pointwise
    rw [show arr (fun l e => D.dv true (rowAt true (step t) l) e) y = ((D.dv true (rowAt true (step t) y0) (col 4 y1) : ℝ) : EReal) from
      congrArg₂ (fun l e => ((D.dv _ (rowAt _ (step t) l) e : ℝ) : EReal)) (Fin.ext h0) (Fin.ext (h1.trans (Nat.zero_add _).symm))]
    simp only [d_rev m c D H t, q_rev m c D H t, k_rev m c D H t, dm_blk m c D H t, ks_blk m c D H t, cleared D t h 4 4 _ _, ← EReal.coe_mul, ← coe_sum, ← EReal.coe_add]
    have w := (add_comm _ _).trans (D.dv_tile 4 (step t) y0 y1)
    simp only [col_4] at w ⊢
    exact congrArg _ w

/-- The first step leaves the gradients of the states before its chunks. -/
theorem first_scratch (h : t.val % 17 = 0) :
    Grads D (step t).val (left m c t.val t.isLt).2.2.2.2.2.2.2.2.2.2 := by
  suffices e : (left m c t.val t.isLt).2.2.2.2.2.2.2.2.2.2 = fun y : S8x128x128.Idx =>
      ((D.gr (rev (y 0)) (y 0) (step t).val (col (y 0) (y 1)) (col (y 0) (y 2)) : ℝ) : EReal) by
    intro i a b
    rw [e]
    rfl
  rw [left_first m c t h]
  unfold first firstRun
  dsimp only
  funext y
  frame_out
  refine (canon_left (s := S8x128x128) [_, _, _, _, _, _, _, _] [_] y ?_).trans ?_
  · exact View.cover_of_tiledL (s := S8x128x128) _ S1x128x128.size (by sl_kernel_rfl) y
  canon_tiles y h
  · open_payloads
    idx_vars y
    pointwise
    rw [show y 0 = (7 : Fin 8) from Fin.ext (by show _ = 7; omega), show y 1 = y1 from Fin.ext h1, show y 2 = y2 from Fin.ext h2]
    simp only [q_rev m c D H t, d_rev m c D H t, qs_blk m c D H t, cd_blk m c D H t, cleared D t h 7 7 _ _, ← EReal.coe_mul, ← coe_sum, ← EReal.coe_add]
    have w := D.gr_tile 7 (step t) y1 y2
    exact congrArg _ w
  · open_payloads
    idx_vars y
    pointwise
    rw [show y 0 = (6 : Fin 8) from Fin.ext (by show _ = 6; omega), show y 1 = y1 from Fin.ext h1, show y 2 = y2 from Fin.ext h2]
    simp only [q_rev m c D H t, d_rev m c D H t, qs_blk m c D H t, cd_blk m c D H t, cleared D t h 6 6 _ _, ← EReal.coe_mul, ← coe_sum, ← EReal.coe_add]
    have w := D.gr_tile 6 (step t) y1 y2
    exact congrArg _ w
  · open_payloads
    idx_vars y
    pointwise
    rw [show y 0 = (5 : Fin 8) from Fin.ext (by show _ = 5; omega), show y 1 = y1 from Fin.ext h1, show y 2 = y2 from Fin.ext h2]
    simp only [q_rev m c D H t, d_rev m c D H t, qs_blk m c D H t, cd_blk m c D H t, cleared D t h 5 5 _ _, ← EReal.coe_mul, ← coe_sum, ← EReal.coe_add]
    have w := D.gr_tile 5 (step t) y1 y2
    exact congrArg _ w
  · open_payloads
    idx_vars y
    pointwise
    rw [show y 0 = (4 : Fin 8) from Fin.ext (by show _ = 4; omega), show y 1 = y1 from Fin.ext h1, show y 2 = y2 from Fin.ext h2]
    simp only [q_rev m c D H t, d_rev m c D H t, qs_blk m c D H t, cd_blk m c D H t, cleared D t h 4 4 _ _, ← EReal.coe_mul, ← coe_sum, ← EReal.coe_add]
    have w := D.gr_tile 4 (step t) y1 y2
    simp only [col_4] at w ⊢
    exact congrArg _ w
  · open_payloads
    idx_vars y
    pointwise
    rw [show y 0 = (3 : Fin 8) from Fin.ext (by show _ = 3; omega), show y 1 = y1 from Fin.ext h1, show y 2 = y2 from Fin.ext h2]
    simp only [q_fwd m c D H t, d_fwd m c D H t, qs_blk m c D H t, cd_blk m c D H t, cleared D t h 3 3 _ _, ← EReal.coe_mul, ← coe_sum, ← EReal.coe_add]
    have w := D.gr_tile 3 (step t) y1 y2
    exact congrArg _ w
  · open_payloads
    idx_vars y
    pointwise
    rw [show y 0 = (2 : Fin 8) from Fin.ext (by show _ = 2; omega), show y 1 = y1 from Fin.ext h1, show y 2 = y2 from Fin.ext h2]
    simp only [q_fwd m c D H t, d_fwd m c D H t, qs_blk m c D H t, cd_blk m c D H t, cleared D t h 2 2 _ _, ← EReal.coe_mul, ← coe_sum, ← EReal.coe_add]
    have w := D.gr_tile 2 (step t) y1 y2
    exact congrArg _ w
  · open_payloads
    idx_vars y
    pointwise
    rw [show y 0 = (1 : Fin 8) from Fin.ext (by show _ = 1; omega), show y 1 = y1 from Fin.ext h1, show y 2 = y2 from Fin.ext h2]
    simp only [q_fwd m c D H t, d_fwd m c D H t, qs_blk m c D H t, cd_blk m c D H t, cleared D t h 1 1 _ _, ← EReal.coe_mul, ← coe_sum, ← EReal.coe_add]
    have w := D.gr_tile 1 (step t) y1 y2
    exact congrArg _ w
  · open_payloads
    idx_vars y
    pointwise
    rw [show y 0 = (0 : Fin 8) from Fin.ext (by show _ = 0; omega), show y 1 = y1 from Fin.ext h1, show y 2 = y2 from Fin.ext h2]
    simp only [q_fwd m c D H t, d_fwd m c D H t, qs_blk m c D H t, cd_blk m c D H t, cleared D t h 0 0 _ _, ← EReal.coe_mul, ← coe_sum, ← EReal.coe_add]
    have w := D.gr_tile 0 (step t) y1 y2
    simp only [col_0] at w ⊢
    exact congrArg _ w

/-- A later step leaves the forward scan's gradient with respect to q. -/
theorem later_dq_fwd (h : ¬t.val % 17 = 0) :
    (left m c t.val t.isLt).1 = arr (fun l e => D.dq false (rowAt false (step t) l) e) := by
  rw [left_later m c t h]
  generalize (left m c (t.val - 1) (Nat.lt_of_le_of_lt (Nat.sub_le _ _) t.isLt)) = p
  obtain ⟨_, _, _, _, _, _, _, _, _, _, S⟩ := p
  unfold later laterRun
  dsimp only
  funext y
  frame_out
  canon_tiles y h
  · open_payloads
    idx_vars y
    pointwise
    rw [show arr (fun l e => D.dq false (rowAt false (step t) l) e) y = ((D.dq false (rowAt false (step t) y0) (col 3 y1) : ℝ) : EReal) from
      congrArg₂ (fun l e => ((D.dq _ (rowAt _ (step t) l) e : ℝ) : EReal)) (Fin.ext h0) (Fin.ext h1)]
    have hst : ∀ a b : Fin 128, iblk m c 10 t (ix4 0 3 a b) = ((D.st (rev 3) 3 (step t).val (col 3 a) (col 3 b) : ℝ) : EReal) := fun a b => st_fwd m c D H t 3 a b
    simp only [d_fwd m c D H t, v_fwd m c D H t, k_fwd m c D H t, dm_blk m c D H t, qs_blk m c D H t, hst, ← EReal.coe_mul, ← coe_sum, ← EReal.coe_add]
    have w := (add_comm _ _).trans (D.dq_tile 3 (step t) y0 y1)
    exact congrArg _ w
  · open_payloads
    idx_vars y
    pointwise
    rw [show arr (fun l e => D.dq false (rowAt false (step t) l) e) y = ((D.dq false (rowAt false (step t) y0) (col 2 y1) : ℝ) : EReal) from
      congrArg₂ (fun l e => ((D.dq _ (rowAt _ (step t) l) e : ℝ) : EReal)) (Fin.ext h0) (Fin.ext h1)]
    have hst : ∀ a b : Fin 128, iblk m c 10 t (ix4 0 2 a b) = ((D.st (rev 2) 2 (step t).val (col 2 a) (col 2 b) : ℝ) : EReal) := fun a b => st_fwd m c D H t 2 a b
    simp only [d_fwd m c D H t, v_fwd m c D H t, k_fwd m c D H t, dm_blk m c D H t, qs_blk m c D H t, hst, ← EReal.coe_mul, ← coe_sum, ← EReal.coe_add]
    have w := (add_comm _ _).trans (D.dq_tile 2 (step t) y0 y1)
    exact congrArg _ w
  · open_payloads
    idx_vars y
    pointwise
    rw [show arr (fun l e => D.dq false (rowAt false (step t) l) e) y = ((D.dq false (rowAt false (step t) y0) (col 1 y1) : ℝ) : EReal) from
      congrArg₂ (fun l e => ((D.dq _ (rowAt _ (step t) l) e : ℝ) : EReal)) (Fin.ext h0) (Fin.ext h1)]
    have hst : ∀ a b : Fin 128, iblk m c 10 t (ix4 0 1 a b) = ((D.st (rev 1) 1 (step t).val (col 1 a) (col 1 b) : ℝ) : EReal) := fun a b => st_fwd m c D H t 1 a b
    simp only [d_fwd m c D H t, v_fwd m c D H t, k_fwd m c D H t, dm_blk m c D H t, qs_blk m c D H t, hst, ← EReal.coe_mul, ← coe_sum, ← EReal.coe_add]
    have w := (add_comm _ _).trans (D.dq_tile 1 (step t) y0 y1)
    exact congrArg _ w
  · open_payloads
    idx_vars y
    pointwise
    rw [show arr (fun l e => D.dq false (rowAt false (step t) l) e) y = ((D.dq false (rowAt false (step t) y0) (col 0 y1) : ℝ) : EReal) from
      congrArg₂ (fun l e => ((D.dq _ (rowAt _ (step t) l) e : ℝ) : EReal)) (Fin.ext h0) (Fin.ext (h1.trans (Nat.zero_add _).symm))]
    have hst : ∀ a b : Fin 128, iblk m c 10 t (ix4 0 0 a b) = ((D.st (rev 0) 0 (step t).val (col 0 a) (col 0 b) : ℝ) : EReal) := fun a b => st_fwd m c D H t 0 a b
    simp only [d_fwd m c D H t, v_fwd m c D H t, k_fwd m c D H t, dm_blk m c D H t, qs_blk m c D H t, hst, ← EReal.coe_mul, ← coe_sum, ← EReal.coe_add]
    have w := (add_comm _ _).trans (D.dq_tile 0 (step t) y0 y1)
    simp only [col_0] at w ⊢
    exact congrArg _ w

/-- A later step leaves the reverse scan's gradient with respect to q. -/
theorem later_dq_rev (h : ¬t.val % 17 = 0) :
    (left m c t.val t.isLt).2.1 = arr (fun l e => D.dq true (rowAt true (step t) l) e) := by
  rw [left_later m c t h]
  generalize (left m c (t.val - 1) (Nat.lt_of_le_of_lt (Nat.sub_le _ _) t.isLt)) = p
  obtain ⟨_, _, _, _, _, _, _, _, _, _, S⟩ := p
  unfold later laterRun
  dsimp only
  funext y
  frame_out
  canon_tiles y h
  · open_payloads
    idx_vars y
    pointwise
    rw [show arr (fun l e => D.dq true (rowAt true (step t) l) e) y = ((D.dq true (rowAt true (step t) y0) (col 7 y1) : ℝ) : EReal) from
      congrArg₂ (fun l e => ((D.dq _ (rowAt _ (step t) l) e : ℝ) : EReal)) (Fin.ext h0) (Fin.ext h1)]
    have hst : ∀ a b : Fin 128, iblk m c 11 t (ix4 0 3 a b) = ((D.st (rev 7) 7 (step t).val (col 7 a) (col 7 b) : ℝ) : EReal) := fun a b => st_rev m c D H t 3 a b
    simp only [d_rev m c D H t, v_rev m c D H t, k_rev m c D H t, dm_blk m c D H t, qs_blk m c D H t, hst, ← EReal.coe_mul, ← coe_sum, ← EReal.coe_add]
    have w := (add_comm _ _).trans (D.dq_tile 7 (step t) y0 y1)
    exact congrArg _ w
  · open_payloads
    idx_vars y
    pointwise
    rw [show arr (fun l e => D.dq true (rowAt true (step t) l) e) y = ((D.dq true (rowAt true (step t) y0) (col 6 y1) : ℝ) : EReal) from
      congrArg₂ (fun l e => ((D.dq _ (rowAt _ (step t) l) e : ℝ) : EReal)) (Fin.ext h0) (Fin.ext h1)]
    have hst : ∀ a b : Fin 128, iblk m c 11 t (ix4 0 2 a b) = ((D.st (rev 6) 6 (step t).val (col 6 a) (col 6 b) : ℝ) : EReal) := fun a b => st_rev m c D H t 2 a b
    simp only [d_rev m c D H t, v_rev m c D H t, k_rev m c D H t, dm_blk m c D H t, qs_blk m c D H t, hst, ← EReal.coe_mul, ← coe_sum, ← EReal.coe_add]
    have w := (add_comm _ _).trans (D.dq_tile 6 (step t) y0 y1)
    exact congrArg _ w
  · open_payloads
    idx_vars y
    pointwise
    rw [show arr (fun l e => D.dq true (rowAt true (step t) l) e) y = ((D.dq true (rowAt true (step t) y0) (col 5 y1) : ℝ) : EReal) from
      congrArg₂ (fun l e => ((D.dq _ (rowAt _ (step t) l) e : ℝ) : EReal)) (Fin.ext h0) (Fin.ext h1)]
    have hst : ∀ a b : Fin 128, iblk m c 11 t (ix4 0 1 a b) = ((D.st (rev 5) 5 (step t).val (col 5 a) (col 5 b) : ℝ) : EReal) := fun a b => st_rev m c D H t 1 a b
    simp only [d_rev m c D H t, v_rev m c D H t, k_rev m c D H t, dm_blk m c D H t, qs_blk m c D H t, hst, ← EReal.coe_mul, ← coe_sum, ← EReal.coe_add]
    have w := (add_comm _ _).trans (D.dq_tile 5 (step t) y0 y1)
    exact congrArg _ w
  · open_payloads
    idx_vars y
    pointwise
    rw [show arr (fun l e => D.dq true (rowAt true (step t) l) e) y = ((D.dq true (rowAt true (step t) y0) (col 4 y1) : ℝ) : EReal) from
      congrArg₂ (fun l e => ((D.dq _ (rowAt _ (step t) l) e : ℝ) : EReal)) (Fin.ext h0) (Fin.ext (h1.trans (Nat.zero_add _).symm))]
    have hst : ∀ a b : Fin 128, iblk m c 11 t (ix4 0 0 a b) = ((D.st (rev 4) 4 (step t).val (col 4 a) (col 4 b) : ℝ) : EReal) := fun a b => st_rev m c D H t 0 a b
    simp only [d_rev m c D H t, v_rev m c D H t, k_rev m c D H t, dm_blk m c D H t, qs_blk m c D H t, hst, ← EReal.coe_mul, ← coe_sum, ← EReal.coe_add]
    have w := (add_comm _ _).trans (D.dq_tile 4 (step t) y0 y1)
    simp only [col_4] at w ⊢
    exact congrArg _ w

/-- A later step leaves the forward scan's gradient with respect to k. -/
theorem later_dk_fwd (h : ¬t.val % 17 = 0)
    (hS : Grads D ((step t).val + 1) (left m c (t.val - 1) (Nat.lt_of_le_of_lt (Nat.sub_le _ _) t.isLt)).2.2.2.2.2.2.2.2.2.2) :
    (left m c t.val t.isLt).2.2.1 = arr (fun l e => D.dk false (rowAt false (step t) l) e) := by
  rw [left_later m c t h]
  generalize (left m c (t.val - 1) (Nat.lt_of_le_of_lt (Nat.sub_le _ _) t.isLt)) = p at hS
  obtain ⟨_, _, _, _, _, _, _, _, _, _, S⟩ := p
  replace hS : Grads D ((step t).val + 1) S := hS
  unfold later laterRun
  dsimp only
  funext y
  frame_out
  simp only [read_unread_whole]
  canon_tiles y h
  · open_payloads
    idx_vars y
    pointwise
    rw [show arr (fun l e => D.dk false (rowAt false (step t) l) e) y = ((D.dk false (rowAt false (step t) y0) (col 3 y1) : ℝ) : EReal) from
      congrArg₂ (fun l e => ((D.dk _ (rowAt _ (step t) l) e : ℝ) : EReal)) (Fin.ext h0) (Fin.ext h1)]
    simp only [d_fwd m c D H t, v_fwd m c D H t, q_fwd m c D H t, dm_blk m c D H t, ks_blk m c D H t, hS _ _ _, ← EReal.coe_mul, ← coe_sum, ← EReal.coe_add]
    have w := (add_comm _ _).trans (D.dk_tile 3 (step t) y0 y1)
    exact congrArg _ w
  · open_payloads
    idx_vars y
    pointwise
    rw [show arr (fun l e => D.dk false (rowAt false (step t) l) e) y = ((D.dk false (rowAt false (step t) y0) (col 2 y1) : ℝ) : EReal) from
      congrArg₂ (fun l e => ((D.dk _ (rowAt _ (step t) l) e : ℝ) : EReal)) (Fin.ext h0) (Fin.ext h1)]
    simp only [d_fwd m c D H t, v_fwd m c D H t, q_fwd m c D H t, dm_blk m c D H t, ks_blk m c D H t, hS _ _ _, ← EReal.coe_mul, ← coe_sum, ← EReal.coe_add]
    have w := (add_comm _ _).trans (D.dk_tile 2 (step t) y0 y1)
    exact congrArg _ w
  · open_payloads
    idx_vars y
    pointwise
    rw [show arr (fun l e => D.dk false (rowAt false (step t) l) e) y = ((D.dk false (rowAt false (step t) y0) (col 1 y1) : ℝ) : EReal) from
      congrArg₂ (fun l e => ((D.dk _ (rowAt _ (step t) l) e : ℝ) : EReal)) (Fin.ext h0) (Fin.ext h1)]
    simp only [d_fwd m c D H t, v_fwd m c D H t, q_fwd m c D H t, dm_blk m c D H t, ks_blk m c D H t, hS _ _ _, ← EReal.coe_mul, ← coe_sum, ← EReal.coe_add]
    have w := (add_comm _ _).trans (D.dk_tile 1 (step t) y0 y1)
    exact congrArg _ w
  · open_payloads
    idx_vars y
    pointwise
    rw [show arr (fun l e => D.dk false (rowAt false (step t) l) e) y = ((D.dk false (rowAt false (step t) y0) (col 0 y1) : ℝ) : EReal) from
      congrArg₂ (fun l e => ((D.dk _ (rowAt _ (step t) l) e : ℝ) : EReal)) (Fin.ext h0) (Fin.ext (h1.trans (Nat.zero_add _).symm))]
    simp only [d_fwd m c D H t, v_fwd m c D H t, q_fwd m c D H t, dm_blk m c D H t, ks_blk m c D H t, hS _ _ _, ← EReal.coe_mul, ← coe_sum, ← EReal.coe_add]
    have w := (add_comm _ _).trans (D.dk_tile 0 (step t) y0 y1)
    simp only [col_0] at w ⊢
    exact congrArg _ w

/-- A later step leaves the reverse scan's gradient with respect to k. -/
theorem later_dk_rev (h : ¬t.val % 17 = 0)
    (hS : Grads D ((step t).val + 1) (left m c (t.val - 1) (Nat.lt_of_le_of_lt (Nat.sub_le _ _) t.isLt)).2.2.2.2.2.2.2.2.2.2) :
    (left m c t.val t.isLt).2.2.2.1 = arr (fun l e => D.dk true (rowAt true (step t) l) e) := by
  rw [left_later m c t h]
  generalize (left m c (t.val - 1) (Nat.lt_of_le_of_lt (Nat.sub_le _ _) t.isLt)) = p at hS
  obtain ⟨_, _, _, _, _, _, _, _, _, _, S⟩ := p
  replace hS : Grads D ((step t).val + 1) S := hS
  unfold later laterRun
  dsimp only
  funext y
  frame_out
  simp only [read_unread_whole]
  canon_tiles y h
  · open_payloads
    idx_vars y
    pointwise
    rw [show arr (fun l e => D.dk true (rowAt true (step t) l) e) y = ((D.dk true (rowAt true (step t) y0) (col 7 y1) : ℝ) : EReal) from
      congrArg₂ (fun l e => ((D.dk _ (rowAt _ (step t) l) e : ℝ) : EReal)) (Fin.ext h0) (Fin.ext h1)]
    simp only [d_rev m c D H t, v_rev m c D H t, q_rev m c D H t, dm_blk m c D H t, ks_blk m c D H t, hS _ _ _, ← EReal.coe_mul, ← coe_sum, ← EReal.coe_add]
    have w := (add_comm _ _).trans (D.dk_tile 7 (step t) y0 y1)
    exact congrArg _ w
  · open_payloads
    idx_vars y
    pointwise
    rw [show arr (fun l e => D.dk true (rowAt true (step t) l) e) y = ((D.dk true (rowAt true (step t) y0) (col 6 y1) : ℝ) : EReal) from
      congrArg₂ (fun l e => ((D.dk _ (rowAt _ (step t) l) e : ℝ) : EReal)) (Fin.ext h0) (Fin.ext h1)]
    simp only [d_rev m c D H t, v_rev m c D H t, q_rev m c D H t, dm_blk m c D H t, ks_blk m c D H t, hS _ _ _, ← EReal.coe_mul, ← coe_sum, ← EReal.coe_add]
    have w := (add_comm _ _).trans (D.dk_tile 6 (step t) y0 y1)
    exact congrArg _ w
  · open_payloads
    idx_vars y
    pointwise
    rw [show arr (fun l e => D.dk true (rowAt true (step t) l) e) y = ((D.dk true (rowAt true (step t) y0) (col 5 y1) : ℝ) : EReal) from
      congrArg₂ (fun l e => ((D.dk _ (rowAt _ (step t) l) e : ℝ) : EReal)) (Fin.ext h0) (Fin.ext h1)]
    simp only [d_rev m c D H t, v_rev m c D H t, q_rev m c D H t, dm_blk m c D H t, ks_blk m c D H t, hS _ _ _, ← EReal.coe_mul, ← coe_sum, ← EReal.coe_add]
    have w := (add_comm _ _).trans (D.dk_tile 5 (step t) y0 y1)
    exact congrArg _ w
  · open_payloads
    idx_vars y
    pointwise
    rw [show arr (fun l e => D.dk true (rowAt true (step t) l) e) y = ((D.dk true (rowAt true (step t) y0) (col 4 y1) : ℝ) : EReal) from
      congrArg₂ (fun l e => ((D.dk _ (rowAt _ (step t) l) e : ℝ) : EReal)) (Fin.ext h0) (Fin.ext (h1.trans (Nat.zero_add _).symm))]
    simp only [d_rev m c D H t, v_rev m c D H t, q_rev m c D H t, dm_blk m c D H t, ks_blk m c D H t, hS _ _ _, ← EReal.coe_mul, ← coe_sum, ← EReal.coe_add]
    have w := (add_comm _ _).trans (D.dk_tile 4 (step t) y0 y1)
    simp only [col_4] at w ⊢
    exact congrArg _ w

/-- A later step leaves the forward scan's gradient with respect to v. -/
theorem later_dv_fwd (h : ¬t.val % 17 = 0)
    (hS : Grads D ((step t).val + 1) (left m c (t.val - 1) (Nat.lt_of_le_of_lt (Nat.sub_le _ _) t.isLt)).2.2.2.2.2.2.2.2.2.2) :
    (left m c t.val t.isLt).2.2.2.2.1 = arr (fun l e => D.dv false (rowAt false (step t) l) e) := by
  rw [left_later m c t h]
  generalize (left m c (t.val - 1) (Nat.lt_of_le_of_lt (Nat.sub_le _ _) t.isLt)) = p at hS
  obtain ⟨_, _, _, _, _, _, _, _, _, _, S⟩ := p
  replace hS : Grads D ((step t).val + 1) S := hS
  unfold later laterRun
  dsimp only
  funext y
  frame_out
  simp only [read_unread_whole]
  canon_tiles y h
  · open_payloads
    idx_vars y
    pointwise
    rw [show arr (fun l e => D.dv false (rowAt false (step t) l) e) y = ((D.dv false (rowAt false (step t) y0) (col 3 y1) : ℝ) : EReal) from
      congrArg₂ (fun l e => ((D.dv _ (rowAt _ (step t) l) e : ℝ) : EReal)) (Fin.ext h0) (Fin.ext h1)]
    simp only [d_fwd m c D H t, q_fwd m c D H t, k_fwd m c D H t, dm_blk m c D H t, ks_blk m c D H t, hS _ _ _, ← EReal.coe_mul, ← coe_sum, ← EReal.coe_add]
    have w := (add_comm _ _).trans (D.dv_tile 3 (step t) y0 y1)
    exact congrArg _ w
  · open_payloads
    idx_vars y
    pointwise
    rw [show arr (fun l e => D.dv false (rowAt false (step t) l) e) y = ((D.dv false (rowAt false (step t) y0) (col 2 y1) : ℝ) : EReal) from
      congrArg₂ (fun l e => ((D.dv _ (rowAt _ (step t) l) e : ℝ) : EReal)) (Fin.ext h0) (Fin.ext h1)]
    simp only [d_fwd m c D H t, q_fwd m c D H t, k_fwd m c D H t, dm_blk m c D H t, ks_blk m c D H t, hS _ _ _, ← EReal.coe_mul, ← coe_sum, ← EReal.coe_add]
    have w := (add_comm _ _).trans (D.dv_tile 2 (step t) y0 y1)
    exact congrArg _ w
  · open_payloads
    idx_vars y
    pointwise
    rw [show arr (fun l e => D.dv false (rowAt false (step t) l) e) y = ((D.dv false (rowAt false (step t) y0) (col 1 y1) : ℝ) : EReal) from
      congrArg₂ (fun l e => ((D.dv _ (rowAt _ (step t) l) e : ℝ) : EReal)) (Fin.ext h0) (Fin.ext h1)]
    simp only [d_fwd m c D H t, q_fwd m c D H t, k_fwd m c D H t, dm_blk m c D H t, ks_blk m c D H t, hS _ _ _, ← EReal.coe_mul, ← coe_sum, ← EReal.coe_add]
    have w := (add_comm _ _).trans (D.dv_tile 1 (step t) y0 y1)
    exact congrArg _ w
  · open_payloads
    idx_vars y
    pointwise
    rw [show arr (fun l e => D.dv false (rowAt false (step t) l) e) y = ((D.dv false (rowAt false (step t) y0) (col 0 y1) : ℝ) : EReal) from
      congrArg₂ (fun l e => ((D.dv _ (rowAt _ (step t) l) e : ℝ) : EReal)) (Fin.ext h0) (Fin.ext (h1.trans (Nat.zero_add _).symm))]
    simp only [d_fwd m c D H t, q_fwd m c D H t, k_fwd m c D H t, dm_blk m c D H t, ks_blk m c D H t, hS _ _ _, ← EReal.coe_mul, ← coe_sum, ← EReal.coe_add]
    have w := (add_comm _ _).trans (D.dv_tile 0 (step t) y0 y1)
    simp only [col_0] at w ⊢
    exact congrArg _ w

/-- A later step leaves the reverse scan's gradient with respect to v. -/
theorem later_dv_rev (h : ¬t.val % 17 = 0)
    (hS : Grads D ((step t).val + 1) (left m c (t.val - 1) (Nat.lt_of_le_of_lt (Nat.sub_le _ _) t.isLt)).2.2.2.2.2.2.2.2.2.2) :
    (left m c t.val t.isLt).2.2.2.2.2.1 = arr (fun l e => D.dv true (rowAt true (step t) l) e) := by
  rw [left_later m c t h]
  generalize (left m c (t.val - 1) (Nat.lt_of_le_of_lt (Nat.sub_le _ _) t.isLt)) = p at hS
  obtain ⟨_, _, _, _, _, _, _, _, _, _, S⟩ := p
  replace hS : Grads D ((step t).val + 1) S := hS
  unfold later laterRun
  dsimp only
  funext y
  frame_out
  simp only [read_unread_whole]
  canon_tiles y h
  · open_payloads
    idx_vars y
    pointwise
    rw [show arr (fun l e => D.dv true (rowAt true (step t) l) e) y = ((D.dv true (rowAt true (step t) y0) (col 7 y1) : ℝ) : EReal) from
      congrArg₂ (fun l e => ((D.dv _ (rowAt _ (step t) l) e : ℝ) : EReal)) (Fin.ext h0) (Fin.ext h1)]
    simp only [d_rev m c D H t, q_rev m c D H t, k_rev m c D H t, dm_blk m c D H t, ks_blk m c D H t, hS _ _ _, ← EReal.coe_mul, ← coe_sum, ← EReal.coe_add]
    have w := (add_comm _ _).trans (D.dv_tile 7 (step t) y0 y1)
    exact congrArg _ w
  · open_payloads
    idx_vars y
    pointwise
    rw [show arr (fun l e => D.dv true (rowAt true (step t) l) e) y = ((D.dv true (rowAt true (step t) y0) (col 6 y1) : ℝ) : EReal) from
      congrArg₂ (fun l e => ((D.dv _ (rowAt _ (step t) l) e : ℝ) : EReal)) (Fin.ext h0) (Fin.ext h1)]
    simp only [d_rev m c D H t, q_rev m c D H t, k_rev m c D H t, dm_blk m c D H t, ks_blk m c D H t, hS _ _ _, ← EReal.coe_mul, ← coe_sum, ← EReal.coe_add]
    have w := (add_comm _ _).trans (D.dv_tile 6 (step t) y0 y1)
    exact congrArg _ w
  · open_payloads
    idx_vars y
    pointwise
    rw [show arr (fun l e => D.dv true (rowAt true (step t) l) e) y = ((D.dv true (rowAt true (step t) y0) (col 5 y1) : ℝ) : EReal) from
      congrArg₂ (fun l e => ((D.dv _ (rowAt _ (step t) l) e : ℝ) : EReal)) (Fin.ext h0) (Fin.ext h1)]
    simp only [d_rev m c D H t, q_rev m c D H t, k_rev m c D H t, dm_blk m c D H t, ks_blk m c D H t, hS _ _ _, ← EReal.coe_mul, ← coe_sum, ← EReal.coe_add]
    have w := (add_comm _ _).trans (D.dv_tile 5 (step t) y0 y1)
    exact congrArg _ w
  · open_payloads
    idx_vars y
    pointwise
    rw [show arr (fun l e => D.dv true (rowAt true (step t) l) e) y = ((D.dv true (rowAt true (step t) y0) (col 4 y1) : ℝ) : EReal) from
      congrArg₂ (fun l e => ((D.dv _ (rowAt _ (step t) l) e : ℝ) : EReal)) (Fin.ext h0) (Fin.ext (h1.trans (Nat.zero_add _).symm))]
    simp only [d_rev m c D H t, q_rev m c D H t, k_rev m c D H t, dm_blk m c D H t, ks_blk m c D H t, hS _ _ _, ← EReal.coe_mul, ← coe_sum, ← EReal.coe_add]
    have w := (add_comm _ _).trans (D.dv_tile 4 (step t) y0 y1)
    simp only [col_4] at w ⊢
    exact congrArg _ w

/-- A later step leaves the gradients of the states before its chunks. -/
theorem later_scratch (h : ¬t.val % 17 = 0)
    (hS : Grads D ((step t).val + 1) (left m c (t.val - 1) (Nat.lt_of_le_of_lt (Nat.sub_le _ _) t.isLt)).2.2.2.2.2.2.2.2.2.2) :
    Grads D (step t).val (left m c t.val t.isLt).2.2.2.2.2.2.2.2.2.2 := by
  suffices e : (left m c t.val t.isLt).2.2.2.2.2.2.2.2.2.2 = fun y : S8x128x128.Idx =>
      ((D.gr (rev (y 0)) (y 0) (step t).val (col (y 0) (y 1)) (col (y 0) (y 2)) : ℝ) : EReal) by
    intro i a b
    rw [e]
    rfl
  rw [left_later m c t h]
  generalize (left m c (t.val - 1) (Nat.lt_of_le_of_lt (Nat.sub_le _ _) t.isLt)) = p at hS
  obtain ⟨_, _, _, _, _, _, _, _, _, _, S⟩ := p
  replace hS : Grads D ((step t).val + 1) S := hS
  unfold later laterRun
  dsimp only
  funext y
  frame_out
  simp only [read_unread_whole]
  canon_tiles y h
  · open_payloads
    idx_vars y
    pointwise
    rw [show y 0 = (7 : Fin 8) from Fin.ext (by show _ = 7; omega), show y 1 = y1 from Fin.ext h1, show y 2 = y2 from Fin.ext h2]
    simp only [q_rev m c D H t, d_rev m c D H t, qs_blk m c D H t, cd_blk m c D H t, hS _ _ _, ← EReal.coe_mul, ← coe_sum, ← EReal.coe_add]
    have w := D.gr_tile 7 (step t) y1 y2
    exact congrArg _ w
  · open_payloads
    idx_vars y
    pointwise
    rw [show y 0 = (6 : Fin 8) from Fin.ext (by show _ = 6; omega), show y 1 = y1 from Fin.ext h1, show y 2 = y2 from Fin.ext h2]
    simp only [q_rev m c D H t, d_rev m c D H t, qs_blk m c D H t, cd_blk m c D H t, hS _ _ _, ← EReal.coe_mul, ← coe_sum, ← EReal.coe_add]
    have w := D.gr_tile 6 (step t) y1 y2
    exact congrArg _ w
  · open_payloads
    idx_vars y
    pointwise
    rw [show y 0 = (5 : Fin 8) from Fin.ext (by show _ = 5; omega), show y 1 = y1 from Fin.ext h1, show y 2 = y2 from Fin.ext h2]
    simp only [q_rev m c D H t, d_rev m c D H t, qs_blk m c D H t, cd_blk m c D H t, hS _ _ _, ← EReal.coe_mul, ← coe_sum, ← EReal.coe_add]
    have w := D.gr_tile 5 (step t) y1 y2
    exact congrArg _ w
  · open_payloads
    idx_vars y
    pointwise
    rw [show y 0 = (4 : Fin 8) from Fin.ext (by show _ = 4; omega), show y 1 = y1 from Fin.ext h1, show y 2 = y2 from Fin.ext h2]
    simp only [q_rev m c D H t, d_rev m c D H t, qs_blk m c D H t, cd_blk m c D H t, hS _ _ _, ← EReal.coe_mul, ← coe_sum, ← EReal.coe_add]
    have w := D.gr_tile 4 (step t) y1 y2
    simp only [col_4] at w ⊢
    exact congrArg _ w
  · open_payloads
    idx_vars y
    pointwise
    rw [show y 0 = (3 : Fin 8) from Fin.ext (by show _ = 3; omega), show y 1 = y1 from Fin.ext h1, show y 2 = y2 from Fin.ext h2]
    simp only [q_fwd m c D H t, d_fwd m c D H t, qs_blk m c D H t, cd_blk m c D H t, hS _ _ _, ← EReal.coe_mul, ← coe_sum, ← EReal.coe_add]
    have w := D.gr_tile 3 (step t) y1 y2
    exact congrArg _ w
  · open_payloads
    idx_vars y
    pointwise
    rw [show y 0 = (2 : Fin 8) from Fin.ext (by show _ = 2; omega), show y 1 = y1 from Fin.ext h1, show y 2 = y2 from Fin.ext h2]
    simp only [q_fwd m c D H t, d_fwd m c D H t, qs_blk m c D H t, cd_blk m c D H t, hS _ _ _, ← EReal.coe_mul, ← coe_sum, ← EReal.coe_add]
    have w := D.gr_tile 2 (step t) y1 y2
    exact congrArg _ w
  · open_payloads
    idx_vars y
    pointwise
    rw [show y 0 = (1 : Fin 8) from Fin.ext (by show _ = 1; omega), show y 1 = y1 from Fin.ext h1, show y 2 = y2 from Fin.ext h2]
    simp only [q_fwd m c D H t, d_fwd m c D H t, qs_blk m c D H t, cd_blk m c D H t, hS _ _ _, ← EReal.coe_mul, ← coe_sum, ← EReal.coe_add]
    have w := D.gr_tile 1 (step t) y1 y2
    exact congrArg _ w
  · open_payloads
    idx_vars y
    pointwise
    rw [show y 0 = (0 : Fin 8) from Fin.ext (by show _ = 0; omega), show y 1 = y1 from Fin.ext h1, show y 2 = y2 from Fin.ext h2]
    simp only [q_fwd m c D H t, d_fwd m c D H t, qs_blk m c D H t, cd_blk m c D H t, hS _ _ _, ← EReal.coe_mul, ← coe_sum, ← EReal.coe_add]
    have w := D.gr_tile 0 (step t) y1 y2
    simp only [col_0] at w ⊢
    exact congrArg _ w

end Cert.Kernel2Ideal

end
-- ==== Proof.BackValue.lean ====
/- The backward kernel's results, as real numbers. -/
module

public import proofs.«01_k».proof.Proof.BackStep

@[expose] public section

set_option maxRecDepth 16384

noncomputable section

namespace Cert.Kernel2Ideal

open Idealize.ShloMosaic Idealize.ShloMosaic.TcCoe Idealize.SL.Sem Idealize.ShloMosaic.StableHlo Gen Cert.Retention Back

variable (m : (ℓ : Loc nD τ sig) → Buf (Elt Ideal) ℓ) (c : Dev nD) (D : Data) (H : HoldsAt m c D)

include H

/-- What the scratch holds after each step: the gradients of the states before the step's chunks. -/
theorem grads (n : ℕ) (hn : n < cfg0.N) : Grads D (16 - n) (left m c n hn).2.2.2.2.2.2.2.2.2.2 := by
  induction n with
  | zero => exact first_scratch m c D H ⟨0, hn⟩ rfl
  | succ n ih =>
    have h17 : cfg0.N = 17 := rfl
    have e := ih (Nat.lt_of_succ_lt hn)
    rw [show 16 - n = (step ⟨n + 1, hn⟩).val + 1 by show 16 - n = 16 - (n + 1) + 1; omega] at e
    exact later_scratch m c D H ⟨n + 1, hn⟩ (by show ¬(n + 1) % 17 = 0; omega) e

theorem grads_before (t : Fin cfg0.N) (h : ¬t.val % 17 = 0) :
    Grads D ((step t).val + 1) (left m c (t.val - 1) (Nat.lt_of_le_of_lt (Nat.sub_le _ _) t.isLt)).2.2.2.2.2.2.2.2.2.2 := by
  have h17 : cfg0.N = 17 := rfl
  have ht := t.isLt
  have e := grads m c D H (t.val - 1) (Nat.lt_of_le_of_lt (Nat.sub_le _ _) t.isLt)
  rw [show 16 - (t.val - 1) = (step t).val + 1 by show 16 - (t.val - 1) = 16 - t.val + 1; omega] at e
  exact e

theorem step_dq_fwd (t : Fin cfg0.N) : (left m c t.val t.isLt).1 = arr (fun l e => D.dq false (rowAt false (step t) l) e) := by
  by_cases h : t.val % 17 = 0
  · exact first_dq_fwd m c D H t h
  · exact later_dq_fwd m c D H t h

theorem step_dq_rev (t : Fin cfg0.N) : (left m c t.val t.isLt).2.1 = arr (fun l e => D.dq true (rowAt true (step t) l) e) := by
  by_cases h : t.val % 17 = 0
  · exact first_dq_rev m c D H t h
  · exact later_dq_rev m c D H t h

theorem step_dk_fwd (t : Fin cfg0.N) : (left m c t.val t.isLt).2.2.1 = arr (fun l e => D.dk false (rowAt false (step t) l) e) := by
  by_cases h : t.val % 17 = 0
  · exact first_dk_fwd m c D H t h
  · exact later_dk_fwd m c D H t h (grads_before m c D H t h)

theorem step_dk_rev (t : Fin cfg0.N) : (left m c t.val t.isLt).2.2.2.1 = arr (fun l e => D.dk true (rowAt true (step t) l) e) := by
  by_cases h : t.val % 17 = 0
  · exact first_dk_rev m c D H t h
  · exact later_dk_rev m c D H t h (grads_before m c D H t h)

theorem step_dv_fwd (t : Fin cfg0.N) : (left m c t.val t.isLt).2.2.2.2.1 = arr (fun l e => D.dv false (rowAt false (step t) l) e) := by
  by_cases h : t.val % 17 = 0
  · exact first_dv_fwd m c D H t h
  · exact later_dv_fwd m c D H t h (grads_before m c D H t h)

theorem step_dv_rev (t : Fin cfg0.N) : (left m c t.val t.isLt).2.2.2.2.2.1 = arr (fun l e => D.dv true (rowAt true (step t) l) e) := by
  by_cases h : t.val % 17 = 0
  · exact first_dv_rev m c D H t h
  · exact later_dv_rev m c D H t h (grads_before m c D H t h)

omit H in
theorem idx14 : ∀ t : Fin cfg0.N, win0_14.index t = ![(step t).val, 0] ∧ win0_15.index t = ![(chunkAt true (step t)).val, 0] ∧
    win0_16.index t = ![(step t).val, 0] ∧ win0_17.index t = ![(chunkAt true (step t)).val, 0] ∧
    win0_18.index t = ![(step t).val, 0] ∧ win0_19.index t = ![(chunkAt true (step t)).val, 0] := by decide +kernel

theorem result_dq_fwd : (dats m 0 c).arrAt 14 cfg0.N = (arr (D.dq false) : S4352x512.Idx → EReal) := by
  refine (dats m 0 c).arrAt_eq_of_covers 14 _ (by decide +kernel) fun t hf y => ?_
  blk_simp
  rw [after_14, step_dq_fwd m c D H t]
  have e : (win0_14.blk t).view.emb y = ix2 (rowAt false (step t) (y 0)) (y 1) := by
    blk_ext [idx14 t]
    unfold rowAt; show (step t).val * 256 + (y 0).val = 256 * (step t).val + (y 0).val; omega
  rw [e]
  rfl

theorem result_dq_rev : (dats m 0 c).arrAt 15 cfg0.N = (arr (D.dq true) : S4352x512.Idx → EReal) := by
  refine (dats m 0 c).arrAt_eq_of_covers 15 _ (by decide +kernel) fun t hf y => ?_
  blk_simp
  rw [after_15, step_dq_rev m c D H t]
  have e : (win0_15.blk t).view.emb y = ix2 (rowAt true (step t) (y 0)) (y 1) := by
    blk_ext [idx14 t]
    unfold rowAt; show (chunkAt true (step t)).val * 256 + (y 0).val = 256 * (chunkAt true (step t)).val + (y 0).val; omega
  rw [e]
  rfl

theorem result_dk_fwd : (dats m 0 c).arrAt 16 cfg0.N = (arr (D.dk false) : S4352x512.Idx → EReal) := by
  refine (dats m 0 c).arrAt_eq_of_covers 16 _ (by decide +kernel) fun t hf y => ?_
  blk_simp
  rw [after_16, step_dk_fwd m c D H t]
  have e : (win0_16.blk t).view.emb y = ix2 (rowAt false (step t) (y 0)) (y 1) := by
    blk_ext [idx14 t]
    unfold rowAt; show (step t).val * 256 + (y 0).val = 256 * (step t).val + (y 0).val; omega
  rw [e]
  rfl

theorem result_dk_rev : (dats m 0 c).arrAt 17 cfg0.N = (arr (D.dk true) : S4352x512.Idx → EReal) := by
  refine (dats m 0 c).arrAt_eq_of_covers 17 _ (by decide +kernel) fun t hf y => ?_
  blk_simp
  rw [after_17, step_dk_rev m c D H t]
  have e : (win0_17.blk t).view.emb y = ix2 (rowAt true (step t) (y 0)) (y 1) := by
    blk_ext [idx14 t]
    unfold rowAt; show (chunkAt true (step t)).val * 256 + (y 0).val = 256 * (chunkAt true (step t)).val + (y 0).val; omega
  rw [e]
  rfl

theorem result_dv_fwd : (dats m 0 c).arrAt 18 cfg0.N = (arr (D.dv false) : S4352x512.Idx → EReal) := by
  refine (dats m 0 c).arrAt_eq_of_covers 18 _ (by decide +kernel) fun t hf y => ?_
  blk_simp
  rw [after_18, step_dv_fwd m c D H t]
  have e : (win0_18.blk t).view.emb y = ix2 (rowAt false (step t) (y 0)) (y 1) := by
    blk_ext [idx14 t]
    unfold rowAt; show (step t).val * 256 + (y 0).val = 256 * (step t).val + (y 0).val; omega
  rw [e]
  rfl

theorem result_dv_rev : (dats m 0 c).arrAt 19 cfg0.N = (arr (D.dv true) : S4352x512.Idx → EReal) := by
  refine (dats m 0 c).arrAt_eq_of_covers 19 _ (by decide +kernel) fun t hf y => ?_
  blk_simp
  rw [after_19, step_dv_rev m c D H t]
  have e : (win0_19.blk t).view.emb y = ix2 (rowAt true (step t) (y 0)) (y 1) := by
    blk_ext [idx14 t]
    unfold rowAt; show (chunkAt true (step t)).val * 256 + (y 0).val = 256 * (chunkAt true (step t)).val + (y 0).val; omega
  rw [e]
  rfl

omit H in
/-- The run, with each result named and the arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v147_0) = (dats m 0 c).arrAt 14 cfg0.N
      ∧ r.2.mem ((c.tc : Thread nD τ).loc main_v147_1) = (dats m 0 c).arrAt 15 cfg0.N
      ∧ r.2.mem ((c.tc : Thread nD τ).loc main_v147_2) = (dats m 0 c).arrAt 16 cfg0.N
      ∧ r.2.mem ((c.tc : Thread nD τ).loc main_v147_3) = (dats m 0 c).arrAt 17 cfg0.N
      ∧ r.2.mem ((c.tc : Thread nD τ).loc main_v147_4) = (dats m 0 c).arrAt 18 cfg0.N
      ∧ r.2.mem ((c.tc : Thread nD τ).loc main_v147_5) = (dats m 0 c).arrAt 19 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h.1 c).1 14, (h.1 c).1 15, (h.1 c).1 16, (h.1 c).1 17, (h.1 c).1 18, (h.1 c).1 19, h.2.1 c⟩)
    (θ_run_and (run_main m ρ) (frame m ρ))

end Cert.Kernel2Ideal

end
-- ==== Proof.Backward.lean ====
/- The backward kernel and its reference end with equal results. -/
module

public import proofs.«01_k».proof.Proof.Finite2
public import proofs.«01_k».proof.Proof.Ref2
public import proofs.«01_k».proof.Proof.BackValue

@[expose] public section

noncomputable section

namespace Cert.Retention

open Idealize.ShloMosaic Idealize.ShloMosaic.TcCoe Idealize.SL.Sem

theorem finite2_facts : Cert.Pre_finite2.Facts := ⟨by decide, by decide⟩

/-- The backward kernel's data. -/
def backData (m : (ℓ : Loc Cert.Kernel2Ideal.nD Cert.Kernel2Ideal.τ Cert.Kernel2Ideal.sig) → Buf (Elt Ideal) ℓ)
    (c : Dev Cert.Kernel2Ideal.nD) : Data :=
  Data.of (fun r x => m ((c.tc : Thread Cert.Kernel2Ideal.nD Cert.Kernel2Ideal.τ).loc Cert.Kernel2Ideal.main_arg0) (ix2 r x))
    (fun r x => m ((c.tc : Thread Cert.Kernel2Ideal.nD Cert.Kernel2Ideal.τ).loc Cert.Kernel2Ideal.main_arg1) (ix2 r x))
    (fun r x => m ((c.tc : Thread Cert.Kernel2Ideal.nD Cert.Kernel2Ideal.τ).loc Cert.Kernel2Ideal.main_arg2) (ix2 r x))
    (fun i => m ((c.tc : Thread Cert.Kernel2Ideal.nD Cert.Kernel2Ideal.τ).loc Cert.Kernel2Ideal.main_arg3) (ix1 i))
    (fun r x => m ((c.tc : Thread Cert.Kernel2Ideal.nD Cert.Kernel2Ideal.τ).loc Cert.Kernel2Ideal.main_arg4) (ix2 r x))

theorem backward : Cert.algebraic_Kernel2Ideal_Reference2Ideal_pre_finite2 (hKernel2Ideal := Cert.Kernel2Ideal.Gen.facts)
    (hReference2Ideal := Cert.Reference2Ideal.Gen.facts) (hPre_finite2 := finite2_facts) := by
  intro m g m' g' hp ha
  have H : ∀ c, Cert.Kernel2Ideal.HoldsAt m c (backData m c) := fun c =>
    ⟨⟨fun r x => (@finite2_entries finite2_facts _ _ _ _ _ (hp c) r x).1,
      fun r x => (@finite2_entries finite2_facts _ _ _ _ _ (hp c) r x).2.1,
      fun r x => (@finite2_entries finite2_facts _ _ _ _ _ (hp c) r x).2.2.1, fun _ => rfl⟩,
      fun r x => (@finite2_entries finite2_facts _ _ _ _ _ (hp c) r x).2.2.2⟩
  have H' : ∀ c, Cert.Reference2Ideal.HoldsAt m' c (backData m c) := fun c => by
    obtain ⟨h0, h1, h2, h3, h4⟩ := ha c
    unfold Cert.Reference2Ideal.HoldsAt
    rw [h0, h1, h2, h3]
    exact (H c).fwd
  have hd : ∀ (c : Dev Cert.Reference2Ideal.nD) (r : Fin 4352) (x : Fin 512),
      m' ((c.tc : Thread Cert.Reference2Ideal.nD Cert.Reference2Ideal.τ).loc Cert.Reference2Ideal.main_arg4) (ix2 r x) =
        (((backData m c).d r x : ℝ) : EReal) := fun c r x => by
    obtain ⟨h0, h1, h2, h3, h4⟩ := ha c
    rw [h4]
    exact (H c).d r x
  refine ⟨fun c => arr ((backData m c).dq false), fun c => arr ((backData m c).dq true), fun c => arr ((backData m c).dk false),
    fun c => arr ((backData m c).dk true), fun c => arr ((backData m c).dv false), fun c => arr ((backData m c).dv true), ?_,
    Cert.Reference2Ideal.run_value m' g' (backData m) H' hd⟩
  refine (θ_run _ _ _).mono (fun r h c => ?_) (Cert.Kernel2Ideal.run_blocks m g)
  obtain ⟨h0, h1, h2, h3, h4, h5, h6⟩ := h c
  exact ⟨h0.trans (Cert.Kernel2Ideal.result_dq_fwd m c _ (H c)), h1.trans (Cert.Kernel2Ideal.result_dq_rev m c _ (H c)),
    h2.trans (Cert.Kernel2Ideal.result_dk_fwd m c _ (H c)), h3.trans (Cert.Kernel2Ideal.result_dk_rev m c _ (H c)),
    h4.trans (Cert.Kernel2Ideal.result_dv_fwd m c _ (H c)), h5.trans (Cert.Kernel2Ideal.result_dv_rev m c _ (H c)), h6⟩

end Cert.Retention

end
-- ==== Proof.ProjectForward.lean ====
/- The product of the projection into a layer: each step's block of it, and what its reference computes. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel5Ideal

open Idealize.ShloMosaic Idealize.ShloMosaic.TcCoe Idealize.SL.Sem Idealize.ShloMosaic.StableHlo Gen

variable (m : (ℓ : Loc nD τ sig) → Buf (Elt Ideal) ℓ) (c : Dev nD) (t : Fin cfg0.N)

/-- The product the program computes: `h @ w`. -/
def product (h : S4352x1024.Idx → EReal) (w : S1024x8704.Idx → EReal) (j : S4352x8704.Idx) : EReal :=
  ∑ x : Fin 1024, h (ix2 (j 0) x) * w (ix2 x (j 1))

theorem idx0 : ∀ t : Fin cfg0.N, win0_0.index t = ![t.val / 17, 0] ∧ win0_1.index t = ![0, t.val % 17] ∧
    win0_2.index t = ![t.val / 17, t.val % 17] := by decide +kernel

/-- A step multiplies a block of the rows of `h` by a block of the columns of `w`. -/
theorem result : (dats m 0 c).arrAt 2 cfg0.N =
    product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  open_payloads
  idx_vars y
  pointwise
  refine Finset.sum_congr (M := EReal) rfl fun x _ => congrArg₂ (HMul.hMul : EReal → EReal → EReal) ?_ ?_
  · blk_ext [iblk, V, idx0 t]
  · blk_ext [iblk, V, idx0 t]

/-- What the reference computes is the same sum. -/
theorem reference (h : FVec Ideal S4352x1024 .f32) (w : FVec Ideal S1024x8704 .bf16) :
    Host.dotGeneral Cert.Reference5Ideal.dot_S4352x1024_S1024x8704_S4352x8704_1_0_0_1_n_n none h
      (extf .f32 w Cert.Reference5Ideal.Gen.facts.bitsLt_bf16_f32) = product h w := by
  funext j
  idx_vars j
  pointwise
  rfl

end Cert.Kernel5Ideal

namespace Cert.Project

open Idealize.ShloMosaic Idealize.ShloMosaic.TcCoe Idealize.SL.Sem

theorem forward : Cert.algebraic_Kernel5Ideal_Reference5Ideal (hKernel5Ideal := Cert.Kernel5Ideal.Gen.facts)
    (hReference5Ideal := Cert.Reference5Ideal.Gen.facts) := by
  intro m g m' g' _ ha
  refine ⟨fun c => Cert.Kernel5Ideal.product (m ((c.tc : Thread _ _).loc Cert.Kernel5Ideal.main_arg0)) (m ((c.tc : Thread _ _).loc Cert.Kernel5Ideal.main_arg1)),
     (θ_run _ _ _).mono (fun r h c => ?_) (Cert.Kernel5Ideal.Value.run_blocks m g),
    (θ_run _ _ _).mono (fun r h c => ?_) (Cert.Reference5Ideal.Value.run m' g')⟩
  · obtain ⟨h0, h1⟩ := h c
    exact ⟨h0.trans (Cert.Kernel5Ideal.result m c), h1⟩
  · obtain ⟨h0, h1⟩ := h c
    obtain ⟨a0, a1⟩ := ha c
    refine ⟨h0.trans ?_, h1⟩
    rw [a0, a1]
    exact Cert.Kernel5Ideal.reference _ _

end Cert.Project

end
-- ==== Proof.ProjectWeights.lean ====
/- The gradient of the projection's weights: each step's block of it, and what its reference computes. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel3Ideal

open Idealize.ShloMosaic Idealize.ShloMosaic.TcCoe Idealize.SL.Sem Idealize.ShloMosaic.StableHlo Gen

variable (m : (ℓ : Loc nD τ sig) → Buf (Elt Ideal) ℓ) (c : Dev nD) (t : Fin cfg0.N)

/-- The product the program computes: `h.T @ dproj`. -/
def product (h : S4352x1024.Idx → EReal) (dproj : S4352x8704.Idx → EReal) (j : S1024x8704.Idx) : EReal :=
  ∑ x : Fin 4352, h (ix2 x (j 0)) * dproj (ix2 x (j 1))

theorem idx0 : ∀ t : Fin cfg0.N, win0_0.index t = ![0, 0] ∧ win0_1.index t = ![0, t.val] ∧
    win0_2.index t = ![0, t.val] := by decide +kernel

/-- The first factor is transposed before the product. -/
theorem transposed (r : Fin 1024) (x : Fin 4352) : V m c main_v1 (ix2 r x) = m ((c.tc : Thread nD τ).loc main_arg0) (ix2 x r) := by
  unfold V hostOps0
  simp only [TRef.unary, TRef.toBuf, TRef.ofBuf, cast_eq]
  after_reads_at

/-- A step multiplies all of the transposed `h` by a block of the columns of `dproj`. -/
theorem result : (dats m 0 c).arrAt 2 cfg0.N =
    product (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  open_payloads
  idx_vars y
  pointwise
  refine Finset.sum_congr (M := EReal) rfl fun x _ => congrArg₂ (HMul.hMul : EReal → EReal → EReal) ?_ ?_
  · refine Eq.trans ?_ (transposed m c _ x)
    blk_ext [iblk, idx0 t]
  · rw [← V_main_arg1 m c]
    blk_ext [iblk, idx0 t]

/-- What the reference computes is the same sum, the factors in the other order. -/
theorem reference (h : FVec Ideal S4352x1024 .f32) (dproj : FVec Ideal S4352x8704 .bf16) :
    transpose Cert.Reference3Ideal.S1024x8704 [1, 0]
      (Host.dotGeneral Cert.Reference3Ideal.dot_S4352x8704_S4352x1024_S8704x1024_0_0_1_1_n_n none
        (extf .f32 dproj Cert.Reference3Ideal.Gen.facts.bitsLt_bf16_f32) h)
      Cert.Reference3Ideal.Gen.facts.transposes_S8704x1024_S1024x8704_1_0 = product h dproj := by
  funext j
  idx_vars j
  pointwise
  exact Finset.sum_congr rfl fun x _ => mul_comm _ _

end Cert.Kernel3Ideal

namespace Cert.Project

open Idealize.ShloMosaic Idealize.ShloMosaic.TcCoe Idealize.SL.Sem

theorem weights : Cert.algebraic_Kernel3Ideal_Reference3Ideal (hKernel3Ideal := Cert.Kernel3Ideal.Gen.facts)
    (hReference3Ideal := Cert.Reference3Ideal.Gen.facts) := by
  intro m g m' g' _ ha
  refine ⟨fun c => Cert.Kernel3Ideal.product (m ((c.tc : Thread _ _).loc Cert.Kernel3Ideal.main_arg0)) (m ((c.tc : Thread _ _).loc Cert.Kernel3Ideal.main_arg1)),
     (θ_run _ _ _).mono (fun r h c => ?_) (Cert.Kernel3Ideal.Value.run_blocks m g),
    (θ_run _ _ _).mono (fun r h c => ?_) (Cert.Reference3Ideal.Value.run m' g')⟩
  · obtain ⟨h0, h1⟩ := h c
    exact ⟨h0.trans (Cert.Kernel3Ideal.result m c), h1⟩
  · obtain ⟨h0, h1⟩ := h c
    obtain ⟨a0, a1⟩ := ha c
    refine ⟨h0.trans ?_, h1⟩
    rw [a0, a1]
    exact Cert.Kernel3Ideal.reference _ _

end Cert.Project

end
-- ==== Proof.ProjectInput.lean ====
/- The gradient of the projection's input, summed over two halves of the columns, and what its reference computes. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel4Ideal

open Idealize.ShloMosaic Idealize.ShloMosaic.TcCoe Idealize.SL.Sem Idealize.ShloMosaic.StableHlo Gen

variable (m : (ℓ : Loc nD τ sig) → Buf (Elt Ideal) ℓ) (c : Dev nD) (t : Fin cfg0.N)

/-- The product the program computes: `dproj @ w.T`. -/
def product (w : S1024x8704.Idx → EReal) (dproj : S4352x8704.Idx → EReal) (j : S4352x1024.Idx) : EReal :=
  ∑ x : Fin 8704, dproj (ix2 (j 0) x) * w (ix2 (j 1) x)

theorem idx0 : ∀ t : Fin cfg0.N, win0_0.index t = ![t.val / 2, t.val % 2] ∧ win0_1.index t = ![0, t.val % 2] ∧
    win0_2.index t = ![t.val / 2, 0] := by decide +kernel

/-- The product of two blocks: what a step adds. -/
def part (l : S1088x4352.Idx → EReal) (w : S1024x4352.Idx → EReal) (r : Fin 1088) (e : Fin 1024) : EReal :=
  ∑ x : Fin 4352, l (ix2 r x) * w (ix2 e x)

/-- The product over one half of the columns. -/
def half (w : S1024x8704.Idx → EReal) (dproj : S4352x8704.Idx → EReal) (k : Fin 2) (r : Fin 4352) (e : Fin 1024) : EReal :=
  ∑ x : Fin 4352, dproj (ix2 r ⟨k.val * 4352 + x.val, by omega⟩) * w (ix2 e ⟨k.val * 4352 + x.val, by omega⟩)

theorem halves (w : S1024x8704.Idx → EReal) (dproj : S4352x8704.Idx → EReal) (r : Fin 4352) (e : Fin 1024) :
    half w dproj 0 r e + half w dproj 1 r e = product w dproj (ix2 r e) := by
  refine Eq.trans (congrArg₂ _ ?_ ?_) (Fin.sum_univ_add (a := 4352) (b := 4352) fun x => dproj (ix2 r x) * w (ix2 e x)).symm
  · refine Finset.sum_congr rfl fun x _ => ?_
    have h : (⟨(0 : Fin 2).val * 4352 + x.val, by show 0 * 4352 + x.val < 8704; omega⟩ : Fin 8704) = Fin.castAdd 4352 x :=
      Fin.ext (by show 0 * 4352 + x.val = x.val; omega)
    rw [h]
  · refine Finset.sum_congr rfl fun x _ => ?_
    have h : (⟨(1 : Fin 2).val * 4352 + x.val, by show 1 * 4352 + x.val < 8704; omega⟩ : Fin 8704) = Fin.natAdd 4352 x :=
      Fin.ext (by show 1 * 4352 + x.val = 4352 + x.val; omega)
    rw [h]

/-- The first step over a block of rows stores its part. -/
theorem first_at (h : t.val % 2 = 0) (l : Fin 1088) (e : Fin 1024) :
    outsAt0 m c t.val t.isLt (ix2 l e) = part (iblk m c 0 t) (iblk m c 1 t) l e := by
  rw [outsAt0_A m c t h (by omega)]
  frame_out
  open_payloads
  pointwise
  rfl

/-- The second step over a block of rows adds its part. -/
theorem second_at (h : t.val % 2 = 1) (l : Fin 1088) (e : Fin 1024) :
    outsAt0 m c t.val t.isLt (ix2 l e) = (outsAt0 m c (t.val - 1) (Nat.lt_of_le_of_lt (Nat.sub_le _ _) t.isLt) (ix2 l e) +
      part (iblk m c 0 t) (iblk m c 1 t) l e : EReal) := by
  rw [outsAt0_B m c t (by omega) h]
  generalize outsAt0 m c (t.val - 1) _ = S
  frame_out
  open_payloads
  pointwise
  rfl

/-- A step's part is a half of its rows' entries of the product. -/
theorem part_eq (i : Fin 4) (k : Fin 2) (ht : t.val = 2 * i.val + k.val) (l : Fin 1088) (e : Fin 1024) (r : Fin 4352)
    (hr : r.val = i.val * 1088 + l.val) : part (iblk m c 0 t) (iblk m c 1 t) l e =
      half (m ((c.tc : Thread nD τ).loc main_arg0)) (m ((c.tc : Thread nD τ).loc main_arg1)) k r e := by
  have hi : t.val / 2 = i.val := by omega
  have hk : t.val % 2 = k.val := by omega
  refine Finset.sum_congr rfl fun x _ => congrArg₂ (HMul.hMul : EReal → EReal → EReal) ?_ ?_
  · blk_ext [iblk, V, idx0 t, hi, hk, hr]
  · blk_ext [iblk, V, idx0 t, hi, hk]

theorem result : (dats m 0 c).arrAt 2 cfg0.N =
    product (m ((c.tc : Thread nD τ).loc main_arg0)) (m ((c.tc : Thread nD τ).loc main_arg1)) := by
  refine (dats m 0 c).arrAt_eq_of_covers 2 _ (by decide +kernel) fun t hf y => ?_
  have ho := (flush0_2 t).mp hf
  have hN : t.val < 8 := t.isLt
  blk_simp
  rw [after0_2]
  idx_vars y
  have hl := y0.isLt
  have hr : t.val / 2 * 1088 + y0.val < 4352 := by omega
  refine (second_at m c t ho y0 y1).trans ?_
  refine (congrArg₂ (HAdd.hAdd : EReal → EReal → EReal)
    ((first_at m c ⟨t.val - 1, by omega⟩ (by show (t.val - 1) % 2 = 0; omega) y0 y1).trans
      (part_eq m c ⟨t.val - 1, by omega⟩ ⟨t.val / 2, by omega⟩ 0 (by show t.val - 1 = 2 * (t.val / 2) + 0; omega) y0 y1 ⟨_, hr⟩ rfl))
    (part_eq m c t ⟨t.val / 2, by omega⟩ 1 (by show t.val = 2 * (t.val / 2) + 1; omega) y0 y1 ⟨_, hr⟩ rfl)).trans ?_
  refine (halves _ _ _ _).trans ?_
  blk_ext [idx0 t]

/-- What the reference computes is the same sum. -/
theorem reference (w : FVec Ideal S1024x8704 .bf16) (dproj : FVec Ideal S4352x8704 .bf16) :
    Host.dotGeneral Cert.Reference4Ideal.dot_S4352x8704_S1024x8704_S4352x1024_1_1_0_0_n_n none
      (extf .f32 dproj Cert.Reference4Ideal.Gen.facts.bitsLt_bf16_f32)
      (extf .f32 w Cert.Reference4Ideal.Gen.facts.bitsLt_bf16_f32) = product w dproj := by
  funext j
  idx_vars j
  pointwise
  rfl

end Cert.Kernel4Ideal

namespace Cert.Project

open Idealize.ShloMosaic Idealize.ShloMosaic.TcCoe Idealize.SL.Sem

theorem input : Cert.algebraic_Kernel4Ideal_Reference4Ideal (hKernel4Ideal := Cert.Kernel4Ideal.Gen.facts)
    (hReference4Ideal := Cert.Reference4Ideal.Gen.facts) := by
  intro m g m' g' _ ha
  refine ⟨fun c => Cert.Kernel4Ideal.product (m ((c.tc : Thread _ _).loc Cert.Kernel4Ideal.main_arg0)) (m ((c.tc : Thread _ _).loc Cert.Kernel4Ideal.main_arg1)),
     (θ_run _ _ _).mono (fun r h c => ?_) (Cert.Kernel4Ideal.Value.run_blocks m g),
    (θ_run _ _ _).mono (fun r h c => ?_) (Cert.Reference4Ideal.Value.run m' g')⟩
  · obtain ⟨h0, h1⟩ := h c
    exact ⟨h0.trans (Cert.Kernel4Ideal.result m c), h1⟩
  · obtain ⟨h0, h1⟩ := h c
    obtain ⟨a0, a1⟩ := ha c
    refine ⟨h0.trans ?_, h1⟩
    rw [a0, a1]
    exact Cert.Kernel4Ideal.reference _ _

end Cert.Project

end
-- ==== Proof.Residual.lean ====
/- The output projection with its gated residual, and its gradients: the formulas, and the mask of the context's rows. -/
module

public import proofs.«01_k».proof.Proof.Read

@[expose] public section

noncomputable section

namespace Cert.Residual

open Idealize.ShloMosaic

/-- Which of the two gates a row has: the context's, or the latents'. -/
def seg (r : Fin 4352) : Fin 2 := if r.val < 256 then 0 else 1

variable (res mer d : Fin 4352 → Fin 1024 → EReal) (w : Fin 1024 → Fin 1024 → EReal) (g : Fin 2 → Fin 1024 → EReal)

/-- The output projection of a row. -/
def proj (r : Fin 4352) (e : Fin 1024) : EReal := ∑ x, mer r x * w x e

/-- The residual with the gated projection. -/
def out (r : Fin 4352) (e : Fin 1024) : EReal := res r e + g (seg r) e * proj mer w r e

/-- The gradient of the projection. -/
def dProj (r : Fin 4352) (e : Fin 1024) : EReal := g (seg r) e * d r e

/-- The gradient of the merged branches. -/
def dMerged (r : Fin 4352) (x : Fin 1024) : EReal := ∑ e, dProj d g r e * w x e

/-- The gradient of the weights. -/
def dWeight (x e : Fin 1024) : EReal := ∑ r, mer r x * dProj d g r e

/-- The gradient of the gates. -/
def dGate (k : Fin 2) (e : Fin 1024) : EReal := ∑ r, if seg r = k then d r e * proj mer w r e else 0

/-- The programs' mask of the context's rows, at row `l` of block `n`. -/
def mask (n : ℕ) (l : Fin 544) : EReal :=
  FloatOps.sitofp (F := Ideal) FTy.f32 (BitVec.setWidth 32 (IntOp.cmpi CmpIPredicate.slt
    (IntOp.addi (Scalar.muli (BitVec.ofNat 32 n) 544#32) (BitVec.ofNat 32 l.val)) 256#32))

theorem mask_eq (n : ℕ) (l : Fin 544) (r : Fin 4352) (hr : r.val = n * 544 + l.val) : mask n l = if seg r = 0 then 1 else 0 := by
  have h : IntOp.addi (Scalar.muli (BitVec.ofNat 32 n) 544#32) (BitVec.ofNat 32 l.val) = BitVec.ofNat 32 r.val := by
    show BitVec.ofNat 32 n * BitVec.ofNat 32 544 + BitVec.ofNat 32 l.val = BitVec.ofNat 32 r.val
    rw [← BitVec.ofNat_mul, ← BitVec.ofNat_add, hr]
  have hl := r.isLt
  unfold mask
  rw [h, show (256#32 : BitVec 32) = BitVec.ofNat 32 256 from rfl, Cert.Retention.slt_ofNat _ _ (by omega) (by omega)]
  unfold seg
  by_cases hs : r.val < 256
  · rw [if_pos hs, if_pos hs, if_pos rfl]
    show (((BitVec.setWidth 32 1#1).toInt : ℝ) : EReal) = 1
    rw [show (BitVec.setWidth 32 1#1).toInt = 1 by decide]
    norm_num
  · rw [if_neg hs, if_neg hs, if_neg (by decide)]
    show (((BitVec.setWidth 32 0#1).toInt : ℝ) : EReal) = 0
    rw [show (BitVec.setWidth 32 0#1).toInt = 0 by decide]
    norm_num

theorem mask_pick (n : ℕ) (l : Fin 544) (r : Fin 4352) (hr : r.val = n * 544 + l.val) (a : EReal) :
    mask n l * a = if seg r = 0 then a else 0 := by
  rw [mask_eq n l r hr]
  split_ifs
  · exact one_mul _
  · exact zero_mul _

theorem mask_other (n : ℕ) (l : Fin 544) (r : Fin 4352) (hr : r.val = n * 544 + l.val) (a : EReal) :
    (1 - mask n l) * a = if seg r = 1 then a else 0 := by
  rw [mask_eq n l r hr]
  by_cases h : seg r = 0
  · rw [if_pos h, if_neg (by rw [h]; decide), show (1 : EReal) - 1 = 0 from by rw [← EReal.coe_one, ← EReal.coe_sub, sub_self]; rfl,
      zero_mul]
  · rw [if_neg h, if_pos (by omega), sub_zero, one_mul]

/-- The mask picks the row's gate. -/
theorem mask_gate (n : ℕ) (l : Fin 544) (r : Fin 4352) (hr : r.val = n * 544 + l.val) (e : Fin 1024) :
    mask n l * g 0 e + (1 - mask n l) * g 1 e = g (seg r) e := by
  rw [mask_pick n l r hr, mask_other n l r hr]
  by_cases h : seg r = 0
  · rw [h, if_pos rfl, if_neg (by decide), add_zero]
  · have h' : seg r = 1 := by omega
    rw [h', if_neg (by decide), if_pos rfl, zero_add]

/-- A sum over all rows, block by block. -/
theorem sum_blocks (f : Fin 4352 → EReal) (F : Fin 8 → Fin 544 → EReal)
    (h : ∀ s l (hl : s.val * 544 + l.val < 4352), F s l = f ⟨s.val * 544 + l.val, hl⟩) : ∑ s, ∑ l, F s l = ∑ r, f r :=
  Fin.sum_mul_add_congr h

/-- A sum over all rows, the context's and the latents' apart. -/
theorem sum_segs (f : Fin 4352 → EReal) : ∑ r, f r = (∑ x : Fin 4096, f ⟨256 + x.val, by omega⟩) + ∑ x : Fin 256, f ⟨x.val, by omega⟩ :=
  (Fin.sum_univ_add (a := 256) (b := 4096) f).trans (add_comm _ _)

theorem seg_ctx (r : Fin 4352) (h : r.val < 256) : seg r = 0 := if_pos h
theorem seg_lat (r : Fin 4352) (h : ¬r.val < 256) : seg r = 1 := if_neg h

end Cert.Residual

end
-- ==== Proof.ResidualForward.lean ====
/- The output projection with its gated residual: each step's block of rows, and what its reference computes. -/
module

public import proofs.«01_k».proof.Defs
public import proofs.«01_k».proof.Proof.Residual
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel7Ideal

open Idealize.ShloMosaic Idealize.ShloMosaic.TcCoe Idealize.SL.Sem Idealize.ShloMosaic.StableHlo Gen Cert.Residual

variable (m : (ℓ : Loc nD τ sig) → Buf (Elt Ideal) ℓ) (c : Dev nD) (t : Fin cfg0.N)

theorem idx0 : ∀ t : Fin cfg0.N, win0_0.index t = ![t.val, 0] ∧ win0_1.index t = ![t.val, 0] ∧
    win0_2.index t = ![0, 0] ∧ win0_3.index t = ![0, 0] ∧ win0_4.index t = ![t.val, 0] := by decide +kernel

theorem coord : ∀ t : Fin cfg0.N, ((grid0.coords t) 0).val = t.val := by decide +kernel

/-- The row of the array at row `l` of a step's block. -/
def row (l : Fin 544) : Fin 4352 := ⟨t.val * 544 + l.val, by
  have h1 : t.val < 8 := t.isLt
  omega⟩

/-- What the program computes of its arguments. -/
def value (res mer : S4352x1024.Idx → EReal) (w : S1024x1024.Idx → EReal) (g : S2x1024.Idx → EReal) (j : S4352x1024.Idx) : EReal :=
  out (fun r x => res (ix2 r x)) (fun r x => mer (ix2 r x)) (fun x e => w (ix2 x e)) (fun k e => g (ix2 k e)) (j 0) (j 1)

theorem res_blk (l : Fin 544) (x : Fin 1024) : iblk m c 0 t (ix2 l x) = m ((c.tc : Thread nD τ).loc main_arg0) (ix2 (row t l) x) := by
  rw [← V_main_arg0 m c]
  blk_ext [iblk, idx0 t]
  rfl

theorem mer_blk (l : Fin 544) (x : Fin 1024) : iblk m c 1 t (ix2 l x) = m ((c.tc : Thread nD τ).loc main_arg1) (ix2 (row t l) x) := by
  rw [← V_main_arg1 m c]
  blk_ext [iblk, idx0 t]
  rfl

theorem w_blk (x e : Fin 1024) : iblk m c 2 t (ix2 x e) = m ((c.tc : Thread nD τ).loc main_arg2) (ix2 x e) := by
  rw [← V_main_arg2 m c]
  blk_ext [iblk, idx0 t]

theorem gate_blk (k : Fin 2) (e : Fin 1024) : iblk m c 3 t (ix2 k e) = m ((c.tc : Thread nD τ).loc main_arg3) (ix2 k e) := by
  rw [← V_main_arg3 m c]
  blk_ext [iblk, idx0 t]

/-- A step projects a block of rows, and adds it, gated, to the residual. -/
theorem result : (dats m 0 c).arrAt 4 cfg0.N =
    value (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t hf y => ?_
  blk_simp
  rw [after0_4]
  frame_out
  open_payloads
  idx_vars y
  pointwise
  simp only [res_blk, mer_blk, w_blk, gate_blk, coord]
  have e : ((View.whole main_v0).slice (win0_4.rect t)).emb (ix2 y0 y1) = ix2 (row t y0) y1 := by
    blk_ext [idx0 t]
    rfl
  rw [e]
  have g := mask_gate (fun k e => m ((c.tc : Thread nD τ).loc main_arg3) (ix2 k e)) t.val y0 (row t y0) rfl y1
  exact congrArg₂ (HAdd.hAdd : EReal → EReal → EReal) rfl (congrArg₂ (HMul.hMul : EReal → EReal → EReal) g rfl)

/-- What the reference computes, context and latents apart. -/
theorem reference (x0 x1 : FVec Ideal S4352x1024 .f32) (x2 : FVec Ideal S1024x1024 .bf16) (x3 : FVec Ideal S2x1024 .f32) :
    open Cert.Reference7Ideal Cert.Reference7Ideal.Gen in
  concatenate S4352x1024 0 [⟨S256x1024, (addf (extractStridedSlice S256x1024 ![0, 0] x0 slices_S4352x1024_S256x1024_0_0) (mulf (broadcastInDim S256x1024 ![0, 1] bcast_S1x1024_S256x1024_0_1 (broadcastInDim S1x1024 ![1] bcast_S1024_S1x1024_1 (shapeCast _ (extractStridedSlice S1x1024 ![0, 0] x3 slices_S2x1024_S1x1024_0_0) shapeCasts_S1x1024_S1024))) (Host.dotGeneral dot_S256x1024_S1024x1024_S256x1024_1_0_0_1_n_n none (extractStridedSlice S256x1024 ![0, 0] x1 slices_S4352x1024_S256x1024_0_0) (extf .f32 x2 Cert.Reference7Ideal.Gen.bitsLt_bf16_f32))))⟩, ⟨S4096x1024, (addf (extractStridedSlice S4096x1024 ![256, 0] x0 slices_S4352x1024_S4096x1024_256_0) (mulf (broadcastInDim S4096x1024 ![0, 1] bcast_S1x1024_S4096x1024_0_1 (broadcastInDim S1x1024 ![1] bcast_S1024_S1x1024_1 (shapeCast _ (extractStridedSlice S1x1024 ![1, 0] x3 slices_S2x1024_S1x1024_1_0) shapeCasts_S1x1024_S1024))) (Host.dotGeneral dot_S4096x1024_S1024x1024_S4096x1024_1_0_0_1_n_n none (extractStridedSlice S4096x1024 ![256, 0] x1 slices_S4352x1024_S4096x1024_256_0) (extf .f32 x2 Cert.Reference7Ideal.Gen.bitsLt_bf16_f32))))⟩] concatenates_S256x1024_S4096x1024_S4352x1024_d0 = value x0 x1 x2 x3 := by
  funext j
  idx_vars j
  pointwise
  show _ = out _ _ _ _ j0 j1
  unfold out proj
  split_ifs with h h'
  · rw [seg_ctx j0 h]
  · rw [seg_lat j0 h]
    simp only [show 256 + (j0.val - 256) = j0.val by omega]
  · exact absurd rfl h'

end Cert.Kernel7Ideal

namespace Cert.Residual

open Idealize.ShloMosaic Idealize.ShloMosaic.TcCoe Idealize.SL.Sem

theorem forward : Cert.algebraic_Kernel7Ideal_Reference7Ideal (hKernel7Ideal := Cert.Kernel7Ideal.Gen.facts)
    (hReference7Ideal := Cert.Reference7Ideal.Gen.facts) := by
  intro m g m' g' _ ha
  refine ⟨fun c => Cert.Kernel7Ideal.value (m ((c.tc : Thread _ _).loc Cert.Kernel7Ideal.main_arg0)) (m ((c.tc : Thread _ _).loc Cert.Kernel7Ideal.main_arg1))
      (m ((c.tc : Thread _ _).loc Cert.Kernel7Ideal.main_arg2)) (m ((c.tc : Thread _ _).loc Cert.Kernel7Ideal.main_arg3)),
    (θ_run _ _ _).mono (fun r h c => ?_) (Cert.Kernel7Ideal.Value.run_blocks m g),
    (θ_run _ _ _).mono (fun r h c => ?_) (Cert.Reference7Ideal.Value.run m' g')⟩
  · obtain ⟨h0, h1⟩ := h c
    exact ⟨h0.trans (Cert.Kernel7Ideal.result m c), h1⟩
  · obtain ⟨h0, h1⟩ := h c
    obtain ⟨a0, a1, a2, a3⟩ := ha c
    refine ⟨h0.trans ?_, h1⟩
    rw [a0, a1, a2, a3]
    exact Cert.Kernel7Ideal.reference _ _ _ _

end Cert.Residual

end
-- ==== Proof.ResidualBackward.lean ====
/- The gradients of the output projection with its gated residual: each step's blocks of them, the two that a step adds to, and what
   the reference computes. -/
module

public import proofs.«01_k».proof.Defs
public import proofs.«01_k».proof.Proof.Residual
public import proofs.«01_k».proof.Proof.FwdStep
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Kernel6Ideal

open Idealize.ShloMosaic Idealize.ShloMosaic.TcCoe Idealize.SL.Sem Idealize.ShloMosaic.StableHlo Gen Cert.Residual

variable (m : (ℓ : Loc nD τ sig) → Buf (Elt Ideal) ℓ) (c : Dev nD) (t : Fin cfg0.N)

theorem idx0 : ∀ t : Fin cfg0.N, win0_0.index t = ![t.val, 0] ∧ win0_1.index t = ![t.val, 0] ∧
    win0_2.index t = ![0, 0] ∧ win0_3.index t = ![0, 0] ∧ win0_4.index t = ![t.val, 0] ∧ win0_5.index t = ![t.val, 0] ∧
    win0_6.index t = ![t.val, 0] ∧ win0_7.index t = ![0, 0] ∧ win0_8.index t = ![0, 0] := by decide +kernel

theorem coord : ∀ t : Fin cfg0.N, ((grid0.coords t) 0).val = t.val := by decide +kernel

/-- The row of the array at row `l` of a step's block. -/
def row (l : Fin 544) : Fin 4352 := ⟨t.val * 544 + l.val, by
  have h1 : t.val < 8 := t.isLt
  omega⟩

/-- An array of the programs, read at a row and a column. -/
abbrev tall (a : S4352x1024.Idx → EReal) (r : Fin 4352) (x : Fin 1024) : EReal := a (ix2 r x)
abbrev square (a : S1024x1024.Idx → EReal) (x e : Fin 1024) : EReal := a (ix2 x e)
abbrev pair (a : S2x1024.Idx → EReal) (k : Fin 2) (e : Fin 1024) : EReal := a (ix2 k e)

abbrev merged : Fin 4352 → Fin 1024 → EReal := tall (m ((c.tc : Thread nD τ).loc main_arg1))
abbrev weight : Fin 1024 → Fin 1024 → EReal := square (m ((c.tc : Thread nD τ).loc main_arg2))
abbrev gates : Fin 2 → Fin 1024 → EReal := pair (m ((c.tc : Thread nD τ).loc main_arg3))
abbrev dout : Fin 4352 → Fin 1024 → EReal := tall (m ((c.tc : Thread nD τ).loc main_arg4))

theorem merged_blk (l : Fin 544) (x : Fin 1024) : iblk m c 1 t (ix2 l x) = merged m c (row t l) x := by
  show _ = m ((c.tc : Thread nD τ).loc main_arg1) (ix2 (row t l) x)
  rw [← V_main_arg1 m c]
  blk_ext [iblk, idx0 t]
  rfl

theorem weight_blk (x e : Fin 1024) : iblk m c 2 t (ix2 x e) = weight m c x e := by
  show _ = m ((c.tc : Thread nD τ).loc main_arg2) (ix2 x e)
  rw [← V_main_arg2 m c]
  blk_ext [iblk, idx0 t]

theorem gates_blk (k : Fin 2) (e : Fin 1024) : iblk m c 3 t (ix2 k e) = gates m c k e := by
  show _ = m ((c.tc : Thread nD τ).loc main_arg3) (ix2 k e)
  rw [← V_main_arg3 m c]
  blk_ext [iblk, idx0 t]

theorem dout_blk (l : Fin 544) (x : Fin 1024) : iblk m c 4 t (ix2 l x) = dout m c (row t l) x := by
  show _ = m ((c.tc : Thread nD τ).loc main_arg4) (ix2 (row t l) x)
  rw [← V_main_arg4 m c]
  blk_ext [iblk, idx0 t]
  rfl

/-- The mask, at a row of a step's block. -/
theorem mask_blk (l : Fin 544) : FloatOps.sitofp (F := Ideal) FTy.f32 (BitVec.setWidth 32 (IntOp.cmpi CmpIPredicate.slt
    (IntOp.addi (Scalar.muli (BitVec.ofNat 32 t.val) 544#32) (BitVec.ofNat 32 l.val)) 256#32)) = mask t.val l := rfl

theorem gate_blk (l : Fin 544) (e : Fin 1024) : mask t.val l * gates m c 0 e + (1 - mask t.val l) * gates m c 1 e =
    gates m c (seg (row t l)) e := mask_gate (gates m c) t.val l (row t l) rfl e

theorem first_dres (h : t.val % 8 = 0) (l : Fin 544) (e : Fin 1024) : (outsAt0 m c t.val t.isLt).1 (ix2 l e) = dout m c (row t l) e := by
  rw [outsAt0_A m c t h]
  dsimp only
  frame_out
  open_payloads
  pointwise
  exact dout_blk m c t l e

theorem first_dmerged (h : t.val % 8 = 0) (l : Fin 544) (e : Fin 1024) :
    (outsAt0 m c t.val t.isLt).2.1 (ix2 l e) = dMerged (dout m c) (weight m c) (gates m c) (row t l) e := by
  rw [outsAt0_A m c t h]
  dsimp only
  frame_out
  open_payloads
  pointwise
  simp only [coord, mask_blk, gates_blk, dout_blk, weight_blk, gate_blk]
  rfl

theorem later_dres (h : ¬t.val % 8 = 0) (l : Fin 544) (e : Fin 1024) : (outsAt0 m c t.val t.isLt).1 (ix2 l e) = dout m c (row t l) e := by
  rw [outsAt0_B m c t h]
  dsimp only
  frame_out
  open_payloads
  pointwise
  exact dout_blk m c t l e

theorem later_dmerged (h : ¬t.val % 8 = 0) (l : Fin 544) (e : Fin 1024) :
    (outsAt0 m c t.val t.isLt).2.1 (ix2 l e) = dMerged (dout m c) (weight m c) (gates m c) (row t l) e := by
  rw [outsAt0_B m c t h]
  dsimp only
  frame_out
  open_payloads
  pointwise
  simp only [coord, mask_blk, gates_blk, dout_blk, weight_blk, gate_blk]
  rfl

/-- What a step adds to the weights' gradient. -/
def weightPart (y : S1024x1024.Idx) : EReal := ∑ l, merged m c (row t l) (y 0) * dProj (dout m c) (gates m c) (row t l) (y 1)

theorem first_dweight (h : t.val % 8 = 0) (y : S1024x1024.Idx) : (outsAt0 m c t.val t.isLt).2.2.1 y = 0 + weightPart m c t y := by
  rw [outsAt0_A m c t h]
  dsimp only
  frame_out
  open_payloads
  idx_vars y
  pointwise
  simp only [coord, mask_blk, gates_blk, dout_blk, merged_blk, gate_blk]
  rfl

theorem later_dweight (h : ¬t.val % 8 = 0) (y : S1024x1024.Idx) : (outsAt0 m c t.val t.isLt).2.2.1 y =
    (outsAt0 m c (t.val - 1) (Nat.lt_of_le_of_lt (Nat.sub_le _ _) t.isLt)).2.2.1 y + weightPart m c t y := by
  rw [outsAt0_B m c t h]
  dsimp only
  generalize outsAt0 m c (t.val - 1) _ = S
  frame_out
  open_payloads
  idx_vars y
  pointwise
  simp only [coord, mask_blk, gates_blk, dout_blk, merged_blk, gate_blk]
  rfl

/-- What a step adds to the gates' gradient. -/
def gatePart (k : Fin 2) (e : Fin 1024) : EReal :=
  ∑ l, if seg (row t l) = k then dout m c (row t l) e * proj (merged m c) (weight m c) (row t l) e else 0

theorem ix_eq (y : S2x1024.Idx) (k : Fin 2) (e : Fin 1024) (h0 : (y 0).val = k.val) (h1 : (y 1).val = e.val) : y = ix2 k e := by
  funext a
  match a with
  | ⟨0, _⟩ => exact Fin.ext h0
  | ⟨1, _⟩ => exact Fin.ext h1

/-- The first step's read of a row of the gates' gradient, after it was cleared. -/
theorem cleared_ctx (inb inb') (j) : (ms0_8 t).view.readCov (Val := Elt Ideal) [⟨Rect.unit ![0, 0] ![2, 1024] inb, broadcast S2x1024 (0 : EReal)⟩]
    (Rect.unit (s := S2x1024) ![0, 0] ![1, 1024] inb').toLoadRect j = (0 : EReal) :=
  congrFun (View.readCov_fill (ms0_8 t).view inb _ [] _ (by decide)) j

theorem cleared_lat (inb0 w inb inb') (j) : (ms0_8 t).view.readCov (Val := Elt Ideal) [⟨Rect.unit ![0, 0] ![1, 1024] inb0, w⟩,
      ⟨Rect.unit ![0, 0] ![2, 1024] inb, broadcast S2x1024 (0 : EReal)⟩]
    (Rect.unit (s := S2x1024) ![1, 0] ![1, 1024] inb').toLoadRect j = (0 : EReal) :=
  (congrFun (View.readCov_skip (ms0_8 t).view _ w _ _ rfl) j).trans
    (congrFun (View.readCov_fill (ms0_8 t).view inb _ [] _ (by decide)) j)

theorem ctx_blk (l : Fin 544) (a : EReal) : mask t.val l * a = if seg (row t l) = 0 then a else 0 := mask_pick t.val l (row t l) rfl a

theorem lat_blk (l : Fin 544) (a : EReal) : (1 - mask t.val l) * a = if seg (row t l) = 1 then a else 0 :=
  mask_other t.val l (row t l) rfl a

theorem first_dgate (h : t.val % 8 = 0) (y : S2x1024.Idx) : (outsAt0 m c t.val t.isLt).2.2.2 y = 0 + gatePart m c t (y 0) (y 1) := by
  rw [outsAt0_A m c t h]
  dsimp only
  frame_out
  refine (Cert.KernelIdeal.canon_left (s := S2x1024) [_, _] [_] y ?_).trans ?_
  · exact View.cover_of_tiledL (s := S2x1024) _ S1x1024.size (by sl_kernel_rfl) y
  canon_tiles y h
  · open_payloads
    idx_vars y
    pointwise
    rw [ix_eq y 1 y1 (by show _ = 1; omega) h1]
    simp only [coord, mask_blk, lat_blk, dout_blk, merged_blk, weight_blk]
    exact (congrArg₂ (HAdd.hAdd : EReal → EReal → EReal) (cleared_lat t _ _ _ _ _) rfl).trans (zero_add (M := EReal) _)
  · open_payloads
    idx_vars y
    pointwise
    rw [ix_eq y 0 y1 (by show _ = 0; omega) h1]
    simp only [coord, mask_blk, ctx_blk, dout_blk, merged_blk, weight_blk]
    exact (congrArg₂ (HAdd.hAdd : EReal → EReal → EReal) (cleared_ctx t _ _ _) rfl).trans (zero_add (M := EReal) _)

theorem later_dgate (h : ¬t.val % 8 = 0) (y : S2x1024.Idx) : (outsAt0 m c t.val t.isLt).2.2.2 y =
    (outsAt0 m c (t.val - 1) (Nat.lt_of_le_of_lt (Nat.sub_le _ _) t.isLt)).2.2.2 y + gatePart m c t (y 0) (y 1) := by
  rw [outsAt0_B m c t h]
  dsimp only
  generalize outsAt0 m c (t.val - 1) _ = S
  frame_out
  canon_tiles y h
  · open_payloads
    idx_vars y
    pointwise
    rw [ix_eq y 1 y1 (by show _ = 1; omega) h1]
    simp only [coord, mask_blk, lat_blk, dout_blk, merged_blk, weight_blk]
    rfl
  · open_payloads
    idx_vars y
    pointwise
    rw [ix_eq y 0 y1 (by show _ = 0; omega) h1]
    simp only [coord, mask_blk, ctx_blk, dout_blk, merged_blk, weight_blk]
    rfl

/-- The last step is the only one that writes back the gradients the steps add to. -/
theorem last : ∀ t : Fin cfg0.N, ((win0 7).flush t = true → t.val + 1 = cfg0.N) ∧ ((win0 8).flush t = true → t.val + 1 = cfg0.N) := by
  decide +kernel

theorem result_dres : (dats m 0 c).arrAt 5 cfg0.N = m ((c.tc : Thread nD τ).loc main_arg4) := by
  refine (dats m 0 c).arrAt_eq_of_covers 5 _ (by decide +kernel) fun t hf y => ?_
  blk_simp
  rw [after0_5]
  idx_vars y
  have e : ((View.whole main_v0_0).slice (win0_5.rect t)).emb (ix2 y0 y1) = ix2 (row t y0) y1 := by
    blk_ext [idx0 t]
    rfl
  rw [e]
  by_cases h : t.val % 8 = 0
  · exact first_dres m c t h y0 y1
  · exact later_dres m c t h y0 y1

/-- The results, as functions of the arguments. -/
def dmergedOf (w : S1024x1024.Idx → EReal) (g : S2x1024.Idx → EReal) (d : S4352x1024.Idx → EReal) (j : S4352x1024.Idx) : EReal :=
  dMerged (tall d) (square w) (pair g) (j 0) (j 1)
def dweightOf (mer : S4352x1024.Idx → EReal) (g : S2x1024.Idx → EReal) (d : S4352x1024.Idx → EReal) (j : S1024x1024.Idx) : EReal :=
  dWeight (tall mer) (tall d) (pair g) (j 0) (j 1)
def dgateOf (mer : S4352x1024.Idx → EReal) (w : S1024x1024.Idx → EReal) (d : S4352x1024.Idx → EReal) (j : S2x1024.Idx) : EReal :=
  dGate (tall mer) (tall d) (square w) (j 0) (j 1)

theorem result_dmerged : (dats m 0 c).arrAt 6 cfg0.N = dmergedOf (m ((c.tc : Thread nD τ).loc main_arg2))
    (m ((c.tc : Thread nD τ).loc main_arg3)) (m ((c.tc : Thread nD τ).loc main_arg4)) := by
  refine (dats m 0 c).arrAt_eq_of_covers 6 _ (by decide +kernel) fun t hf y => ?_
  blk_simp
  rw [after0_6]
  idx_vars y
  have e : ((View.whole main_v0_1).slice (win0_6.rect t)).emb (ix2 y0 y1) = ix2 (row t y0) y1 := by
    blk_ext [idx0 t]
    rfl
  rw [e]
  by_cases h : t.val % 8 = 0
  · exact first_dmerged m c t h y0 y1
  · exact later_dmerged m c t h y0 y1

theorem result_dweight : (dats m 0 c).arrAt 7 cfg0.N = dweightOf (m ((c.tc : Thread nD τ).loc main_arg1))
    (m ((c.tc : Thread nD τ).loc main_arg3)) (m ((c.tc : Thread nD τ).loc main_arg4)) := by
  refine (dats m 0 c).arrAt_eq_of_covers 7 _ (by decide +kernel) fun t hf y => ?_
  blk_simp
  rw [after0_7]
  have e : ((View.whole main_v0_2).slice (win0_7.rect t)).emb y = y := by
    blk_ext [idx0 t]
  rw [e]
  refine (Pipeline.eq_sum_fin_of_reset_step_apply_last (fun n hn => (outsAt0 m c n hn).2.2.1) 8 (fun _ => (0 : EReal)) (weightPart m c)
    (fun t h y => first_dweight m c t h y) (fun t h y => later_dweight m c t h y) (by decide) t ((last t).1 hf) y).trans ?_
  refine (zero_add _).trans ?_
  exact sum_blocks (fun r => merged m c r (y 0) * dProj (dout m c) (gates m c) r (y 1)) _ fun s l hl => rfl

/-- What all steps add to the gates' gradient. -/
theorem gate_sum (k : Fin 2) (e : Fin 1024) :
    ∑ p, gatePart m c p k e = dGate (merged m c) (dout m c) (weight m c) k e :=
  sum_blocks (fun r => if seg r = k then dout m c r e * proj (merged m c) (weight m c) r e else 0) _ fun s l hl => rfl

theorem result_dgate : (dats m 0 c).arrAt 8 cfg0.N = dgateOf (m ((c.tc : Thread nD τ).loc main_arg1))
    (m ((c.tc : Thread nD τ).loc main_arg2)) (m ((c.tc : Thread nD τ).loc main_arg4)) := by
  refine (dats m 0 c).arrAt_eq_of_covers 8 _ (by decide +kernel) fun t hf y => ?_
  blk_simp
  rw [after0_8]
  have e : ((View.whole main_v0_3).slice (win0_8.rect t)).emb y = y := by
    blk_ext [idx0 t]
  rw [e]
  refine (Pipeline.eq_sum_fin_of_reset_step_apply_last (fun n hn => (outsAt0 m c n hn).2.2.2) 8 (fun _ => (0 : EReal)) (fun p y => gatePart m c p (y 0) (y 1))
    (fun t h y => first_dgate m c t h y) (fun t h y => later_dgate m c t h y) (by decide) t ((last t).2 hf) y).trans ?_
  refine (zero_add _).trans ?_
  exact gate_sum m c (y 0) (y 1)

/-- The reference's term of the gradient of the residual. -/
theorem reference_dres (x4 : FVec Ideal S4352x1024 .f32) :
    open Cert.Reference6Ideal Cert.Reference6Ideal.Gen in
    addf (pad S4352x1024 ![256, 0] ![0, 0] ![0, 0] (extractStridedSlice S4096x1024 ![256, 0] x4 slices_S4352x1024_S4096x1024_256_0) (constant S_ .f32 0x00000000#32) pads_S4096x1024_S4352x1024_25600_000 h_S_) (pad S4352x1024 ![0, 0] ![4096, 0] ![0, 0] (extractStridedSlice S256x1024 ![0, 0] x4 slices_S4352x1024_S256x1024_0_0) (constant S_ .f32 0x00000000#32) pads_S256x1024_S4352x1024_040960_000 h_S_) = x4 := by
  funext j
  idx_vars j
  pointwise
  split_ifs with h h' h'
  · omega
  · rw [add_zero]
    simp only [show 256 + (j0.val - 256) = j0.val by omega]
  · exact zero_add _
  · omega

/-- The reference's term of the gradient of the merged branches. -/
theorem reference_dmerged (x2 : FVec Ideal S1024x1024 .bf16) (x3 : FVec Ideal S2x1024 .f32) (x4 : FVec Ideal S4352x1024 .f32) :
    open Cert.Reference6Ideal Cert.Reference6Ideal.Gen in
    addf (pad S4352x1024 ![256, 0] ![0, 0] ![0, 0] (Host.dotGeneral dot_S4096x1024_S1024x1024_S4096x1024_1_1_0_0_n_n none (mulf (broadcastInDim S4096x1024 ![0, 1] bcast_S1x1024_S4096x1024_0_1 (broadcastInDim S1x1024 ![1] bcast_S1024_S1x1024_1 (shapeCast _ (extractStridedSlice S1x1024 ![1, 0] x3 slices_S2x1024_S1x1024_1_0) shapeCasts_S1x1024_S1024))) (extractStridedSlice S4096x1024 ![256, 0] x4 slices_S4352x1024_S4096x1024_256_0)) (extf .f32 x2 Cert.Reference6Ideal.Gen.bitsLt_bf16_f32)) (constant S_ .f32 0x00000000#32) pads_S4096x1024_S4352x1024_25600_000 h_S_) (pad S4352x1024 ![0, 0] ![4096, 0] ![0, 0] (Host.dotGeneral dot_S256x1024_S1024x1024_S256x1024_1_1_0_0_n_n none (mulf (broadcastInDim S256x1024 ![0, 1] bcast_S1x1024_S256x1024_0_1 (broadcastInDim S1x1024 ![1] bcast_S1024_S1x1024_1 (shapeCast _ (extractStridedSlice S1x1024 ![0, 0] x3 slices_S2x1024_S1x1024_0_0) shapeCasts_S1x1024_S1024))) (extractStridedSlice S256x1024 ![0, 0] x4 slices_S4352x1024_S256x1024_0_0)) (extf .f32 x2 Cert.Reference6Ideal.Gen.bitsLt_bf16_f32)) (constant S_ .f32 0x00000000#32) pads_S256x1024_S4352x1024_040960_000 h_S_) = dmergedOf x2 x3 x4 := by
  funext j
  idx_vars j
  pointwise
  show _ = dMerged _ _ _ j0 j1
  unfold dMerged dProj
  split_ifs with h h' h'
  · omega
  · rw [add_zero, seg_lat j0 h']
    simp only [show 256 + (j0.val - 256) = j0.val by omega]
  · rw [seg_ctx j0 h']
    exact zero_add _
  · omega

/-- The reference's term of the gradient of the weights. -/
theorem reference_dweight (x1 : FVec Ideal S4352x1024 .f32) (x3 : FVec Ideal S2x1024 .f32) (x4 : FVec Ideal S4352x1024 .f32) :
    open Cert.Reference6Ideal Cert.Reference6Ideal.Gen in
    addf (transpose S1024x1024 [1, 0] (Host.dotGeneral dot_S4096x1024_S4096x1024_S1024x1024_0_0_1_1_n_n none (mulf (broadcastInDim S4096x1024 ![0, 1] bcast_S1x1024_S4096x1024_0_1 (broadcastInDim S1x1024 ![1] bcast_S1024_S1x1024_1 (shapeCast _ (extractStridedSlice S1x1024 ![1, 0] x3 slices_S2x1024_S1x1024_1_0) shapeCasts_S1x1024_S1024))) (extractStridedSlice S4096x1024 ![256, 0] x4 slices_S4352x1024_S4096x1024_256_0)) (extractStridedSlice S4096x1024 ![256, 0] x1 slices_S4352x1024_S4096x1024_256_0)) transposes_S1024x1024_S1024x1024_1_0) (transpose S1024x1024 [1, 0] (Host.dotGeneral dot_S256x1024_S256x1024_S1024x1024_0_0_1_1_n_n none (mulf (broadcastInDim S256x1024 ![0, 1] bcast_S1x1024_S256x1024_0_1 (broadcastInDim S1x1024 ![1] bcast_S1024_S1x1024_1 (shapeCast _ (extractStridedSlice S1x1024 ![0, 0] x3 slices_S2x1024_S1x1024_0_0) shapeCasts_S1x1024_S1024))) (extractStridedSlice S256x1024 ![0, 0] x4 slices_S4352x1024_S256x1024_0_0)) (extractStridedSlice S256x1024 ![0, 0] x1 slices_S4352x1024_S256x1024_0_0)) transposes_S1024x1024_S1024x1024_1_0) = dweightOf x1 x3 x4 := by
  funext j
  idx_vars j
  pointwise
  refine Eq.trans ?_ (sum_segs fun r => tall x1 r j0 * dProj (tall x4) (pair x3) r j1).symm
  unfold dProj
  refine congrArg₂ (HAdd.hAdd : EReal → EReal → EReal) (Finset.sum_congr (M := EReal) rfl fun x _ => ?_) (Finset.sum_congr (M := EReal) rfl fun x _ => ?_)
  · rw [seg_lat _ (by show ¬256 + x.val < 256; omega)]
    exact mul_comm _ _
  · rw [seg_ctx _ x.isLt]
    exact mul_comm _ _

/-- The reference's term of the gradient of the gates. -/
theorem reference_dgate (x1 : FVec Ideal S4352x1024 .f32) (x2 : FVec Ideal S1024x1024 .bf16) (x4 : FVec Ideal S4352x1024 .f32) :
    open Cert.Reference6Ideal Cert.Reference6Ideal.Gen in
    addf (pad S2x1024 ![1, 0] ![0, 0] ![0, 0] (broadcastInDim S1x1024 ![1] bcast_S1024_S1x1024_1 (Host.reduceAdd (shapeCast _ (Host.reduceAdd (mulf (extractStridedSlice S4096x1024 ![256, 0] x4 slices_S4352x1024_S4096x1024_256_0) (Host.dotGeneral dot_S4096x1024_S1024x1024_S4096x1024_1_0_0_1_n_n none (extractStridedSlice S4096x1024 ![256, 0] x1 slices_S4352x1024_S4096x1024_256_0) (extf .f32 x2 Cert.Reference6Ideal.Gen.bitsLt_bf16_f32))) (constant S_ .f32 0x00000000#32) reducesTo_S4096x1024_S1024_d0 h_S_) Cert.Reference6Ideal.Gen.shapeCasts_S1024_S1x1024) (constant S_ .f32 0x00000000#32) reducesTo_S1x1024_S1024_d0 h_S_)) (constant S_ .f32 0x00000000#32) pads_S1x1024_S2x1024_100_000 h_S_) (pad S2x1024 ![0, 0] ![1, 0] ![0, 0] (broadcastInDim S1x1024 ![1] bcast_S1024_S1x1024_1 (Host.reduceAdd (shapeCast _ (Host.reduceAdd (mulf (extractStridedSlice S256x1024 ![0, 0] x4 slices_S4352x1024_S256x1024_0_0) (Host.dotGeneral dot_S256x1024_S1024x1024_S256x1024_1_0_0_1_n_n none (extractStridedSlice S256x1024 ![0, 0] x1 slices_S4352x1024_S256x1024_0_0) (extf .f32 x2 Cert.Reference6Ideal.Gen.bitsLt_bf16_f32))) (constant S_ .f32 0x00000000#32) reducesTo_S256x1024_S1024_d0 h_S_) Cert.Reference6Ideal.Gen.shapeCasts_S1024_S1x1024) (constant S_ .f32 0x00000000#32) reducesTo_S1x1024_S1024_d0 h_S_)) (constant S_ .f32 0x00000000#32) pads_S1x1024_S2x1024_010_000 h_S_) = dgateOf x1 x2 x4 := by
  funext j
  idx_vars j
  pointwise
  refine Eq.trans ?_ (sum_segs fun r => if seg r = j0 then tall x4 r j1 * proj (tall x1) (square x2) r j1 else 0).symm
  refine congrArg₂ (HAdd.hAdd : EReal → EReal → EReal) ?_ ?_
  · split_ifs with h
    · refine (Fintype.sum_unique (M := EReal) _).trans (Finset.sum_congr (M := EReal) rfl fun x _ => ?_)
      rw [seg_lat _ (by show ¬256 + x.val < 256; omega), if_pos (by omega)]
      rfl
    · refine (Finset.sum_eq_zero (M := EReal) fun x _ => ?_).symm
      rw [seg_lat _ (by show ¬256 + x.val < 256; omega), if_neg (by omega)]
  · split_ifs with h
    · refine (Fintype.sum_unique (M := EReal) _).trans (Finset.sum_congr (M := EReal) rfl fun x _ => ?_)
      rw [seg_ctx _ x.isLt, if_pos (by omega)]
      rfl
    · refine (Finset.sum_eq_zero (M := EReal) fun x _ => ?_).symm
      rw [seg_ctx _ x.isLt, if_neg (by omega)]

end Cert.Kernel6Ideal

namespace Cert.Residual

open Idealize.ShloMosaic Idealize.ShloMosaic.TcCoe Idealize.SL.Sem

theorem backward : Cert.algebraic_Kernel6Ideal_Reference6Ideal (hKernel6Ideal := Cert.Kernel6Ideal.Gen.facts)
    (hReference6Ideal := Cert.Reference6Ideal.Gen.facts) := by
  intro m g m' g' _ ha
  refine ⟨fun c => m ((c.tc : Thread _ _).loc Cert.Kernel6Ideal.main_arg4),
    fun c => Cert.Kernel6Ideal.dmergedOf (m ((c.tc : Thread _ _).loc Cert.Kernel6Ideal.main_arg2))
      (m ((c.tc : Thread _ _).loc Cert.Kernel6Ideal.main_arg3)) (m ((c.tc : Thread _ _).loc Cert.Kernel6Ideal.main_arg4)),
    fun c => Cert.Kernel6Ideal.dweightOf (m ((c.tc : Thread _ _).loc Cert.Kernel6Ideal.main_arg1))
      (m ((c.tc : Thread _ _).loc Cert.Kernel6Ideal.main_arg3)) (m ((c.tc : Thread _ _).loc Cert.Kernel6Ideal.main_arg4)),
    fun c => Cert.Kernel6Ideal.dgateOf (m ((c.tc : Thread _ _).loc Cert.Kernel6Ideal.main_arg1))
      (m ((c.tc : Thread _ _).loc Cert.Kernel6Ideal.main_arg2)) (m ((c.tc : Thread _ _).loc Cert.Kernel6Ideal.main_arg4)),
    (θ_run _ _ _).mono (fun r h c => ?_) (Cert.Kernel6Ideal.Value.run_blocks m g),
    (θ_run _ _ _).mono (fun r h c => ?_) (Cert.Reference6Ideal.Value.run m' g')⟩
  · obtain ⟨h0, h1, h2, h3, h4⟩ := h c
    exact ⟨h0.trans (Cert.Kernel6Ideal.result_dres m c), h1.trans (Cert.Kernel6Ideal.result_dmerged m c),
      h2.trans (Cert.Kernel6Ideal.result_dweight m c), h3.trans (Cert.Kernel6Ideal.result_dgate m c), h4⟩
  · obtain ⟨h0, h1, h2, h3, h4⟩ := h c
    obtain ⟨a0, a1, a2, a3, a4⟩ := ha c
    rw [a4] at h0
    rw [a2, a3, a4] at h1
    rw [a1, a3, a4] at h2
    rw [a1, a2, a4] at h3
    exact ⟨h0.trans (Cert.Kernel6Ideal.reference_dres _), h1.trans (Cert.Kernel6Ideal.reference_dmerged _ _ _),
      h2.trans (Cert.Kernel6Ideal.reference_dweight _ _ _), h3.trans (Cert.Kernel6Ideal.reference_dgate _ _ _), h4⟩

end Cert.Residual

end
-- ==== Proof.lean ====
module

public import proofs.«01_k».proof.Defs
public import proofs.«01_k».proof.Proof.Gen.Kernel.Frame
public import proofs.«01_k».proof.Proof.BackRunBits
public import proofs.«01_k».proof.Proof.BackRun
public import proofs.«01_k».proof.Proof.Forward
public import proofs.«01_k».proof.Proof.Backward
public import proofs.«01_k».proof.Proof.Gen.Reference2Ideal.Run
public import proofs.«01_k».proof.Proof.Gen.Kernel3.Frame
public import proofs.«01_k».proof.Proof.Gen.Kernel4.Frame
public import proofs.«01_k».proof.Proof.Gen.Kernel5.Frame
public import proofs.«01_k».proof.Proof.ProjectForward
public import proofs.«01_k».proof.Proof.ProjectWeights
public import proofs.«01_k».proof.Proof.ProjectInput
public import proofs.«01_k».proof.Proof.Gen.Kernel6.Frame
public import proofs.«01_k».proof.Proof.Gen.Kernel7.Frame
public import proofs.«01_k».proof.Proof.ResidualForward
public import proofs.«01_k».proof.Proof.ResidualBackward
public import Idealize.ShloMosaic.Adequacy
public import Idealize.ShloMosaic.Init

@[expose] public section

noncomputable section

namespace Cert.Proof

open Idealize.ShloMosaic Idealize.SL.Sem Cert.Kernel

/-- The forward reference leaves its arguments as they were, and has no semaphore. -/
theorem ReferenceIdeal_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2, sem_eq_zero_of_no_sems rfl r.2⟩) (Cert.ReferenceIdeal.Value.run m g)

/-- The backward reference leaves its arguments as they were, and has no semaphore. -/
theorem Reference2Ideal_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2.2.2.2.2.2, sem_eq_zero_of_no_sems rfl r.2⟩) (Cert.Reference2Ideal.Value.run m g)

/-- The reference of the weights' gradient leaves its arguments as they were, and has no semaphore. -/
theorem Reference3Ideal_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run _ _ _).mono (fun r h => ⟨fun c => (h c).2, sem_eq_zero_of_no_sems rfl r.2⟩) (Cert.Reference3Ideal.Value.run m g)

/-- The reference of the input's gradient leaves its arguments as they were, and has no semaphore. -/
theorem Reference4Ideal_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0) :=
  (θ_run _ _ _).mono (fun r h => ⟨fun c => (h c).2, sem_eq_zero_of_no_sems rfl r.2⟩) (Cert.Reference4Ideal.Value.run m g)

/-- The reference of the projection leaves its arguments as they were, and has no semaphore. -/
theorem Reference5Ideal_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2, sem_eq_zero_of_no_sems rfl r.2⟩) (Cert.Reference5Ideal.Value.run m g)

/-- The reference of the output projection's gradients leaves its arguments as they were, and has no semaphore. -/
theorem Reference6Ideal_frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0) :=
  (θ_run _ _ _).mono (fun r h => ⟨fun c => (h c).2.2.2.2, sem_eq_zero_of_no_sems rfl r.2⟩) (Cert.Reference6Ideal.Value.run m g)

/-- The reference of the output projection leaves its arguments as they were, and has no semaphore. -/
theorem Reference7Ideal_frame (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run _ _ _).mono (fun r h => ⟨fun c => (h c).2, sem_eq_zero_of_no_sems rfl r.2⟩) (Cert.Reference7Ideal.Value.run m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Retention.finite_facts, Cert.Retention.finite2_facts,
    fun m g _ => Cert.Kernel.Gen.frame m g,
    fun m g _ => Cert.KernelIdeal.Gen.frame m g,
    fun m g _ => Cert.KernelIdeal.Gen.frame m g,
    fun m g _ => ReferenceIdeal_frame m g,
    fun m g _ => ReferenceIdeal_frame m g,
    fun m g _ => Cert.Kernel2.Back.frame m g,
    fun m g _ => Cert.Kernel2Ideal.Back.frame m g,
    fun m g _ => Cert.Kernel2Ideal.Back.frame m g,
    fun m g _ => Reference2Ideal_frame m g,
    fun m g _ => Reference2Ideal_frame m g,
    fun m g _ => Cert.Kernel3.Gen.frame m g,
    fun m g _ => Cert.Kernel3Ideal.Gen.frame m g,
    fun m g _ => Reference3Ideal_frame m g,
    fun m g _ => Cert.Kernel4.Gen.frame m g,
    fun m g _ => Cert.Kernel4Ideal.Gen.frame m g,
    fun m g _ => Reference4Ideal_frame m g,
    fun m g _ => Cert.Kernel5.Gen.frame m g,
    fun m g _ => Cert.Kernel5Ideal.Gen.frame m g,
    fun m g _ => Reference5Ideal_frame m g,
    fun m g _ => Cert.Kernel6.Gen.frame m g,
    fun m g _ => Cert.Kernel6Ideal.Gen.frame m g,
    fun m g _ => Reference6Ideal_frame m g,
    fun m g _ => Cert.Kernel7.Gen.frame m g,
    fun m g _ => Cert.Kernel7Ideal.Gen.frame m g,
    fun m g _ => Reference7Ideal_frame m g,
    trivial, Cert.Retention.forward, trivial, Cert.Retention.backward,
    trivial, Cert.Project.weights, trivial, Cert.Project.input, trivial, Cert.Project.forward,
    trivial, Cert.Residual.backward, trivial, Cert.Residual.forward⟩

end Cert.Proof

end
